-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_ids_in_range [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_ids_in_range [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel)
    ∧ quiescent_KernelIdeal (hKernelIdeal := hKernelIdeal)
    ∧ quiescent_KernelIdeal_pre_ids_in_range (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal_pre_ids_in_range (hKernelIdeal := hKernelIdeal) (hReferenceIdeal := hReferenceIdeal) (hPre_ids_in_range := hPre_ids_in_range)
-- ==== Pre_ids_in_range.lean ====
abbrev S16x16x100001 : Shape := ⟨3, ![16, 16, 100001]⟩
abbrev S16x16 : Shape := ⟨2, ![16, 16]⟩
abbrev S16 : Shape := ⟨1, ![16]⟩
abbrev S1 : Shape := ⟨1, ![1]⟩
abbrev S_ : Shape := ⟨0, ![]⟩

class Facts : Prop where
  bcast_S_S16x16 : S_.BroadcastsInDim S16x16 (![] : Fin 0 → Fin S16x16.rank)

variable [Facts]

def fn {F : FTy → Type} [FloatOps F] (main_arg0 : FVec F S16x16x100001 .f32) (main_arg1 : IVec S16x16 32) (main_arg2 : FVec F S16 .f32) (main_arg3 : FVec F S1 .f32) : IVec S16x16 1 :=
  let main_c : IVec S_ 32 := constantI S_ 32 4294967295#32
  let main_v0 : IVec S16x16 32 := broadcastInDim S16x16 ![] bcast_S_S16x16 main_c
  let main_v1 : IVec S16x16 1 := cmpi .sge main_arg1 main_v0
  let main_c_0 : IVec S_ 32 := constantI S_ 32 100000#32
  let main_v2 : IVec S16x16 32 := broadcastInDim S16x16 ![] bcast_S_S16x16 main_c_0
  let main_v3 : IVec S16x16 1 := cmpi .sle main_arg1 main_v2
  let main_v4 : IVec S16x16 1 := andi main_v1 main_v3
  main_v4
-- ==== Kernel.lean ====
abbrev S16x16x100001 : Shape := ⟨3, ![16, 16, 100001]⟩
abbrev S16x16 : Shape := ⟨2, ![16, 16]⟩
abbrev S16 : Shape := ⟨1, ![16]⟩
abbrev S1 : Shape := ⟨1, ![1]⟩
abbrev S_ : Shape := ⟨0, ![]⟩
abbrev S256x1 : Shape := ⟨2, ![256, 1]⟩
abbrev S256 : Shape := ⟨1, ![256]⟩
abbrev S256x100001 : Shape := ⟨2, ![256, 100001]⟩
abbrev S8x1 : Shape := ⟨2, ![8, 1]⟩
abbrev S8x100001 : Shape := ⟨2, ![8, 100001]⟩
abbrev S1x8x1 : Shape := ⟨3, ![1, 8, 1]⟩
abbrev S1x1x1 : Shape := ⟨3, ![1, 1, 1]⟩
abbrev S8 : Shape := ⟨1, ![8]⟩

abbrev nBuf : Space → Nat
  | .hbm => 37
  | .vmem => 11
  | .smem => 1
  | _ => 0

abbrev bufTy : (tb : Table) → Fin (tcTables nBuf tb) → BufTy
  | .hbm, ⟨0, _⟩ => ⟨S16x16x100001, .f32⟩
  | .hbm, ⟨1, _⟩ => ⟨S16x16, .i32⟩
  | .hbm, ⟨2, _⟩ => ⟨S16, .f32⟩
  | .hbm, ⟨3, _⟩ => ⟨S1, .f32⟩
  | .hbm, ⟨4, _⟩ => ⟨S_, .i32⟩
  | .hbm, ⟨5, _⟩ => ⟨S16x16, .i32⟩
  | .hbm, ⟨6, _⟩ => ⟨S16x16, .i1⟩
  | .hbm, ⟨7, _⟩ => ⟨S_, .i32⟩
  | .hbm, ⟨8, _⟩ => ⟨S_, .i32⟩
  | .hbm, ⟨9, _⟩ => ⟨S16x16, .i32⟩
  | .hbm, ⟨10, _⟩ => ⟨S16x16, .i32⟩
  | .hbm, ⟨11, _⟩ => ⟨S256x1, .i32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S16x16, .f32⟩
  | .hbm, ⟨22, _⟩ => ⟨S256, .f32⟩
  | .hbm, ⟨23, _⟩ => ⟨S256x1, .f32⟩
  | .hbm, ⟨24, _⟩ => ⟨S256x100001, .f32⟩
  | .hbm, ⟨25, _⟩ => ⟨S256x100001, .f32⟩
  | .hbm, ⟨26, _⟩ => ⟨S256x1, .i32⟩
  | .hbm, ⟨27, _⟩ => ⟨S16x16, .i32⟩
  | .hbm, ⟨28, _⟩ => ⟨S_, .i32⟩
  | .hbm, ⟨29, _⟩ => ⟨S16x16, .i32⟩
  | .hbm, ⟨30, _⟩ => ⟨S16x16, .i1⟩
  | .hbm, ⟨31, _⟩ => ⟨S16x16, .i32⟩
  | .hbm, ⟨32, _⟩ => ⟨S_, .i32⟩
  | .hbm, ⟨33, _⟩ => ⟨S_, .i32⟩
  | .hbm, ⟨34, _⟩ => ⟨S16x16, .i32⟩
  | .hbm, ⟨35, _⟩ => ⟨S16x16, .i32⟩
  | .hbm, ⟨36, _⟩ => ⟨S16x16x100001, .f32⟩
  | .local _ .vmem, ⟨0, _⟩ => ⟨S8x1, .i32⟩
  | .local _ .vmem, ⟨1, _⟩ => ⟨S8x1, .i32⟩
  | .local _ .vmem, ⟨2, _⟩ => ⟨S8x1, .i32⟩
  | .local _ .vmem, ⟨3, _⟩ => ⟨S8x1, .i32⟩
  | .local _ .vmem, ⟨4, _⟩ => ⟨S8x1, .f32⟩
  | .local _ .vmem, ⟨5, _⟩ => ⟨S8x1, .f32⟩
  | .local _ .vmem, ⟨6, _⟩ => ⟨S8x100001, .f32⟩
  | .local _ .vmem, ⟨7, _⟩ => ⟨S8x100001, .f32⟩
  | .local _ .vmem, ⟨8, _⟩ => ⟨S8x1, .i32⟩
  | .local _ .vmem, ⟨9, _⟩ => ⟨S8x1, .i32⟩
  | .local _ .vmem, ⟨10, _⟩ => ⟨S8x100001, .f32⟩
  | .local _ .smem, ⟨0, _⟩ => ⟨S1, .f32⟩
  | _, _ => ⟨S16x16x100001, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_call1_v0 : Ref sig .tc := ⟨.hbm, 33, rfl⟩
abbrev main_call1_v1 : Ref sig .tc := ⟨.hbm, 34, rfl⟩
abbrev main_v19 : Ref sig .tc := ⟨.hbm, 35, rfl⟩
abbrev main_v20 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let c8_i32 : BitVec 32 := 8#32
  let v12 : BitVec 32 := Scalar.muli arg0 c8_i32
  let c0_i32_2 : BitVec 32 := 0#32
  ![v12.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x100001 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16x16x100001 : Shape := ⟨3, ![16, 16, 100001]⟩
abbrev S16x16 : Shape := ⟨2, ![16, 16]⟩
abbrev S16 : Shape := ⟨1, ![16]⟩
abbrev S1 : Shape := ⟨1, ![1]⟩
abbrev S_ : Shape := ⟨0, ![]⟩
abbrev S16x16x1 : Shape := ⟨3, ![16, 16, 1]⟩
abbrev S1x1x100001 : Shape := ⟨3, ![1, 1, 100001]⟩
abbrev S16x1x1 : Shape := ⟨3, ![16, 1, 1]⟩
abbrev S1x1x1 : Shape := ⟨3, ![1, 1, 1]⟩
abbrev S2 : Shape := ⟨1, ![2]⟩

abbrev nBuf : Space → Nat
  | .hbm => 356
  | .vmem => 0
  | .smem => 0
  | _ => 0

abbrev hbmTy0_0 (i : Nat) : BufTy := match i % 128 with
  | 0 => ⟨S16x16x100001, .f32⟩
  | 1 => ⟨S16x16, .i32⟩
  | 2 => ⟨S16, .f32⟩
  | 3 => ⟨S1, .f32⟩
  | 4 => ⟨S16x16x100001, .f32⟩
  | 5 => ⟨S_, .i32⟩
  | 6 => ⟨S16x16, .i32⟩
  | 7 => ⟨S16x16, .i1⟩
  | 8 => ⟨S_, .i32⟩
  | 9 => ⟨S_, .i32⟩
  | 10 => ⟨S16x16, .i32⟩
  | 11 => ⟨S16x16, .i32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S16x16x100001, .f32⟩
  | 22 => ⟨S16x16x1, .i32⟩
  | 23 => ⟨S1x1x100001, .i32⟩
  | 24 => ⟨S16x16x100001, .i32⟩
  | 25 => ⟨S16x16x100001, .i32⟩
  | 26 => ⟨S16x16x100001, .i1⟩
  | 27 => ⟨S16x16x100001, .f32⟩
  | 28 => ⟨S16x16x100001, .f32⟩
  | 29 => ⟨S_, .i32⟩
  | 30 => ⟨S16x16, .i32⟩
  | 31 => ⟨S16x16, .i1⟩
  | 32 => ⟨S16x16, .f32⟩
  | 33 => ⟨S16x16x1, .f32⟩
  | 34 => ⟨S16x16x100001, .f32⟩
  | 35 => ⟨S16x16x100001, .f32⟩
  | 36 => ⟨S16x16x100001, .f32⟩
  | 37 => ⟨S_, .f32⟩
  | 38 => ⟨S16x16x100001, .f32⟩
  | 39 => ⟨S16x16x100001, .f32⟩
  | 40 => ⟨S16x16x100001, .f32⟩
  | 41 => ⟨S_, .f32⟩
  | 42 => ⟨S16x16, .f32⟩
  | 43 => ⟨S16x16x1, .f32⟩
  | 44 => ⟨S16x16x100001, .f32⟩
  | 45 => ⟨S16x16x100001, .f32⟩
  | 46 => ⟨S16x16x100001, .f32⟩
  | 47 => ⟨S16x1x1, .f32⟩
  | 48 => ⟨S16x16x100001, .f32⟩
  | 49 => ⟨S16x16x100001, .f32⟩
  | 50 => ⟨S1x1x1, .f32⟩
  | 51 => ⟨S16x16x100001, .f32⟩
  | 52 => ⟨S16x16x100001, .f32⟩
  | 53 => ⟨S16x16x100001, .f32⟩
  | 54 => ⟨S_, .i32⟩
  | 55 => ⟨S_, .i32⟩
  | 56 => ⟨S_, .i32⟩
  | 57 => ⟨S_, .i32⟩
  | 58 => ⟨S1, .i32⟩
  | 59 => ⟨S_, .i32⟩
  | 60 => ⟨S_, .i32⟩
  | 61 => ⟨S_, .i32⟩
  | 62 => ⟨S1, .i32⟩
  | 63 => ⟨S2, .i32⟩
  | 64 => ⟨S_, .f32⟩
  | 65 => ⟨S_, .f32⟩
  | 66 => ⟨S_, .f32⟩
  | 67 => ⟨S_, .f32⟩
  | 68 => ⟨S1x1x1, .f32⟩
  | 69 => ⟨S1x1x1, .f32⟩
  | 70 => ⟨S1, .i32⟩
  | 71 => ⟨S_, .i32⟩
  | 72 => ⟨S1, .i32⟩
  | 73 => ⟨S_, .i32⟩
  | 74 => ⟨S16x16x100001, .i64⟩
  | 75 => ⟨S16x16x100001, .i64⟩
  | 76 => ⟨S16x16x100001, .i64⟩
  | 77 => ⟨S_, .i64⟩
  | 78 => ⟨S16x16x100001, .i64⟩
  | 79 => ⟨S16x16x100001, .i64⟩
  | 80 => ⟨S_, .i64⟩
  | 81 => ⟨S16x16x100001, .i64⟩
  | 82 => ⟨S16x16x100001, .i64⟩
  | 83 => ⟨S_, .i64⟩
  | 84 => ⟨S16x16x100001, .i64⟩
  | 85 => ⟨S16x16x100001, .i64⟩
  | 86 => ⟨S16x16x100001, .i64⟩
  | 87 => ⟨S16x16x100001, .i64⟩
  | 88 => ⟨S_, .i64⟩
  | 89 => ⟨S16x16x100001, .i64⟩
  | 90 => ⟨S16x16x100001, .i64⟩
  | 91 => ⟨S16x16x100001, .i32⟩
  | 92 => ⟨S16x16x100001, .i32⟩
  | 93 => ⟨S_, .i32⟩
  | 94 => ⟨S_, .i32⟩
  | 95 => ⟨S_, .i32⟩
  | 96 => ⟨S16x16x100001, .i32⟩
  | 97 => ⟨S16x16x100001, .i32⟩
  | 98 => ⟨S16x16x100001, .i32⟩
  | 99 => ⟨S16x16x100001, .i32⟩
  | 100 => ⟨S16x16x100001, .i32⟩
  | 101 => ⟨S_, .i32⟩
  | 102 => ⟨S16x16x100001, .i32⟩
  | 103 => ⟨S16x16x100001, .i32⟩
  | 104 => ⟨S_, .i32⟩
  | 105 => ⟨S16x16x100001, .i32⟩
  | 106 => ⟨S16x16x100001, .i32⟩
  | 107 => ⟨S16x16x100001, .i32⟩
  | 108 => ⟨S16x16x100001, .i32⟩
  | 109 => ⟨S16x16x100001, .i32⟩
  | 110 => ⟨S_, .i32⟩
  | 111 => ⟨S16x16x100001, .i32⟩
  | 112 => ⟨S16x16x100001, .i32⟩
  | 113 => ⟨S_, .i32⟩
  | 114 => ⟨S16x16x100001, .i32⟩
  | 115 => ⟨S16x16x100001, .i32⟩
  | 116 => ⟨S16x16x100001, .i32⟩
  | 117 => ⟨S16x16x100001, .i32⟩
  | 118 => ⟨S16x16x100001, .i32⟩
  | 119 => ⟨S_, .i32⟩
  | 120 => ⟨S16x16x100001, .i32⟩
  | 121 => ⟨S16x16x100001, .i32⟩
  | 122 => ⟨S_, .i32⟩
  | 123 => ⟨S16x16x100001, .i32⟩
  | 124 => ⟨S16x16x100001, .i32⟩
  | 125 => ⟨S16x16x100001, .i32⟩
  | 126 => ⟨S16x16x100001, .i32⟩
  | 127 => ⟨S16x16x100001, .i32⟩
  | _ => ⟨S16x16x100001, .f32⟩

abbrev hbmTy0_1 (i : Nat) : BufTy := match i % 128 with
  | 0 => ⟨S_, .i32⟩
  | 1 => ⟨S16x16x100001, .i32⟩
  | 2 => ⟨S16x16x100001, .i32⟩
  | 3 => ⟨S_, .i32⟩
  | 4 => ⟨S16x16x100001, .i32⟩
  | 5 => ⟨S16x16x100001, .i32⟩
  | 6 => ⟨S16x16x100001, .i32⟩
  | 7 => ⟨S16x16x100001, .i32⟩
  | 8 => ⟨S16x16x100001, .i32⟩
  | 9 => ⟨S16x16x100001, .i32⟩
  | 10 => ⟨S16x16x100001, .i32⟩
  | 11 => ⟨S16x16x100001, .i32⟩
  | 12 => ⟨S_, .i32⟩
  | 13 => ⟨S16x16x100001, .i32⟩
  | 14 => ⟨S16x16x100001, .i32⟩
  | 15 => ⟨S16x16x100001, .i32⟩
  | 16 => ⟨S_, .i32⟩
  | 17 => ⟨S16x16x100001, .i32⟩
  | 18 => ⟨S16x16x100001, .i32⟩
  | 19 => ⟨S_, .i32⟩
  | 20 => ⟨S16x16x100001, .i32⟩
  | 21 => ⟨S16x16x100001, .i32⟩
  | 22 => ⟨S16x16x100001, .i32⟩
  | 23 => ⟨S16x16x100001, .i32⟩
  | 24 => ⟨S16x16x100001, .i32⟩
  | 25 => ⟨S_, .i32⟩
  | 26 => ⟨S16x16x100001, .i32⟩
  | 27 => ⟨S16x16x100001, .i32⟩
  | 28 => ⟨S_, .i32⟩
  | 29 => ⟨S16x16x100001, .i32⟩
  | 30 => ⟨S16x16x100001, .i32⟩
  | 31 => ⟨S16x16x100001, .i32⟩
  | 32 => ⟨S16x16x100001, .i32⟩
  | 33 => ⟨S16x16x100001, .i32⟩
  | 34 => ⟨S_, .i32⟩
  | 35 => ⟨S16x16x100001, .i32⟩
  | 36 => ⟨S16x16x100001, .i32⟩
  | 37 => ⟨S_, .i32⟩
  | 38 => ⟨S16x16x100001, .i32⟩
  | 39 => ⟨S16x16x100001, .i32⟩
  | 40 => ⟨S16x16x100001, .i32⟩
  | 41 => ⟨S16x16x100001, .i32⟩
  | 42 => ⟨S16x16x100001, .i32⟩
  | 43 => ⟨S_, .i32⟩
  | 44 => ⟨S16x16x100001, .i32⟩
  | 45 => ⟨S16x16x100001, .i32⟩
  | 46 => ⟨S_, .i32⟩
  | 47 => ⟨S16x16x100001, .i32⟩
  | 48 => ⟨S16x16x100001, .i32⟩
  | 49 => ⟨S16x16x100001, .i32⟩
  | 50 => ⟨S16x16x100001, .i32⟩
  | 51 => ⟨S16x16x100001, .i32⟩
  | 52 => ⟨S16x16x100001, .i32⟩
  | 53 => ⟨S16x16x100001, .i32⟩
  | 54 => ⟨S16x16x100001, .i32⟩
  | 55 => ⟨S_, .i32⟩
  | 56 => ⟨S16x16x100001, .i32⟩
  | 57 => ⟨S16x16x100001, .i32⟩
  | 58 => ⟨S16x16x100001, .i32⟩
  | 59 => ⟨S_, .i32⟩
  | 60 => ⟨S16x16x100001, .i32⟩
  | 61 => ⟨S16x16x100001, .i32⟩
  | 62 => ⟨S_, .i32⟩
  | 63 => ⟨S16x16x100001, .i32⟩
  | 64 => ⟨S16x16x100001, .i32⟩
  | 65 => ⟨S16x16x100001, .i32⟩
  | 66 => ⟨S16x16x100001, .i32⟩
  | 67 => ⟨S16x16x100001, .i32⟩
  | 68 => ⟨S_, .i32⟩
  | 69 => ⟨S16x16x100001, .i32⟩
  | 70 => ⟨S16x16x100001, .i32⟩
  | 71 => ⟨S_, .i32⟩
  | 72 => ⟨S16x16x100001, .i32⟩
  | 73 => ⟨S16x16x100001, .i32⟩
  | 74 => ⟨S16x16x100001, .i32⟩
  | 75 => ⟨S16x16x100001, .i32⟩
  | 76 => ⟨S16x16x100001, .i32⟩
  | 77 => ⟨S_, .i32⟩
  | 78 => ⟨S16x16x100001, .i32⟩
  | 79 => ⟨S16x16x100001, .i32⟩
  | 80 => ⟨S_, .i32⟩
  | 81 => ⟨S16x16x100001, .i32⟩
  | 82 => ⟨S16x16x100001, .i32⟩
  | 83 => ⟨S16x16x100001, .i32⟩
  | 84 => ⟨S16x16x100001, .i32⟩
  | 85 => ⟨S16x16x100001, .i32⟩
  | 86 => ⟨S_, .i32⟩
  | 87 => ⟨S16x16x100001, .i32⟩
  | 88 => ⟨S16x16x100001, .i32⟩
  | 89 => ⟨S_, .i32⟩
  | 90 => ⟨S16x16x100001, .i32⟩
  | 91 => ⟨S16x16x100001, .i32⟩
  | 92 => ⟨S16x16x100001, .i32⟩
  | 93 => ⟨S16x16x100001, .i32⟩
  | 94 => ⟨S16x16x100001, .i32⟩
  | 95 => ⟨S16x16x100001, .i32⟩
  | 96 => ⟨S16x16x100001, .i32⟩
  | 97 => ⟨S16x16x100001, .i32⟩
  | 98 => ⟨S_, .i32⟩
  | 99 => ⟨S16x16x100001, .i32⟩
  | 100 => ⟨S16x16x100001, .i32⟩
  | 101 => ⟨S16x16x100001, .i32⟩
  | 102 => ⟨S_, .i32⟩
  | 103 => ⟨S16x16x100001, .i32⟩
  | 104 => ⟨S16x16x100001, .i32⟩
  | 105 => ⟨S_, .i32⟩
  | 106 => ⟨S16x16x100001, .i32⟩
  | 107 => ⟨S16x16x100001, .i32⟩
  | 108 => ⟨S16x16x100001, .i32⟩
  | 109 => ⟨S16x16x100001, .i32⟩
  | 110 => ⟨S16x16x100001, .i32⟩
  | 111 => ⟨S_, .i32⟩
  | 112 => ⟨S16x16x100001, .i32⟩
  | 113 => ⟨S16x16x100001, .i32⟩
  | 114 => ⟨S_, .i32⟩
  | 115 => ⟨S16x16x100001, .i32⟩
  | 116 => ⟨S16x16x100001, .i32⟩
  | 117 => ⟨S16x16x100001, .i32⟩
  | 118 => ⟨S16x16x100001, .i32⟩
  | 119 => ⟨S16x16x100001, .i32⟩
  | 120 => ⟨S_, .i32⟩
  | 121 => ⟨S16x16x100001, .i32⟩
  | 122 => ⟨S16x16x100001, .i32⟩
  | 123 => ⟨S_, .i32⟩
  | 124 => ⟨S16x16x100001, .i32⟩
  | 125 => ⟨S16x16x100001, .i32⟩
  | 126 => ⟨S16x16x100001, .i32⟩
  | 127 => ⟨S16x16x100001, .i32⟩
  | _ => ⟨S16x16x100001, .f32⟩

abbrev hbmTy0_2 (i : Nat) : BufTy := match i % 128 with
  | 0 => ⟨S16x16x100001, .i32⟩
  | 1 => ⟨S_, .i32⟩
  | 2 => ⟨S16x16x100001, .i32⟩
  | 3 => ⟨S16x16x100001, .i32⟩
  | 4 => ⟨S_, .i32⟩
  | 5 => ⟨S16x16x100001, .i32⟩
  | 6 => ⟨S16x16x100001, .i32⟩
  | 7 => ⟨S16x16x100001, .i32⟩
  | 8 => ⟨S16x16x100001, .i32⟩
  | 9 => ⟨S16x16x100001, .i32⟩
  | 10 => ⟨S16x16x100001, .i32⟩
  | 11 => ⟨S16x16x100001, .i32⟩
  | 12 => ⟨S16x16x100001, .i32⟩
  | 13 => ⟨S_, .i32⟩
  | 14 => ⟨S16x16x100001, .i32⟩
  | 15 => ⟨S16x16x100001, .i32⟩
  | 16 => ⟨S16x16x100001, .i32⟩
  | 17 => ⟨S_, .i32⟩
  | 18 => ⟨S16x16x100001, .i32⟩
  | 19 => ⟨S16x16x100001, .i32⟩
  | 20 => ⟨S_, .i32⟩
  | 21 => ⟨S16x16x100001, .i32⟩
  | 22 => ⟨S16x16x100001, .i32⟩
  | 23 => ⟨S16x16x100001, .i32⟩
  | 24 => ⟨S16x16x100001, .i32⟩
  | 25 => ⟨S16x16x100001, .i32⟩
  | 26 => ⟨S_, .i32⟩
  | 27 => ⟨S16x16x100001, .i32⟩
  | 28 => ⟨S16x16x100001, .i32⟩
  | 29 => ⟨S_, .i32⟩
  | 30 => ⟨S16x16x100001, .i32⟩
  | 31 => ⟨S16x16x100001, .i32⟩
  | 32 => ⟨S16x16x100001, .i32⟩
  | 33 => ⟨S16x16x100001, .i32⟩
  | 34 => ⟨S16x16x100001, .i32⟩
  | 35 => ⟨S_, .i32⟩
  | 36 => ⟨S16x16x100001, .i32⟩
  | 37 => ⟨S16x16x100001, .i32⟩
  | 38 => ⟨S_, .i32⟩
  | 39 => ⟨S16x16x100001, .i32⟩
  | 40 => ⟨S16x16x100001, .i32⟩
  | 41 => ⟨S16x16x100001, .i32⟩
  | 42 => ⟨S16x16x100001, .i32⟩
  | 43 => ⟨S16x16x100001, .i32⟩
  | 44 => ⟨S_, .i32⟩
  | 45 => ⟨S16x16x100001, .i32⟩
  | 46 => ⟨S16x16x100001, .i32⟩
  | 47 => ⟨S_, .i32⟩
  | 48 => ⟨S16x16x100001, .i32⟩
  | 49 => ⟨S16x16x100001, .i32⟩
  | 50 => ⟨S16x16x100001, .i32⟩
  | 51 => ⟨S16x16x100001, .i32⟩
  | 52 => ⟨S16x16x100001, .i32⟩
  | 53 => ⟨S16x16x100001, .i32⟩
  | 54 => ⟨S16x16x100001, .i32⟩
  | 55 => ⟨S16x16x100001, .i32⟩
  | 56 => ⟨S_, .i32⟩
  | 57 => ⟨S16x16x100001, .i32⟩
  | 58 => ⟨S16x16x100001, .i32⟩
  | 59 => ⟨S16x16x100001, .i32⟩
  | 60 => ⟨S_, .i32⟩
  | 61 => ⟨S16x16x100001, .i32⟩
  | 62 => ⟨S16x16x100001, .i32⟩
  | 63 => ⟨S_, .i32⟩
  | 64 => ⟨S16x16x100001, .i32⟩
  | 65 => ⟨S16x16x100001, .i32⟩
  | 66 => ⟨S16x16x100001, .f32⟩
  | 67 => ⟨S_, .f32⟩
  | 68 => ⟨S16x16x100001, .f32⟩
  | 69 => ⟨S16x16x100001, .f32⟩
  | 70 => ⟨S1x1x1, .f32⟩
  | 71 => ⟨S16x16x100001, .f32⟩
  | 72 => ⟨S16x16x100001, .f32⟩
  | 73 => ⟨S16x16x100001, .f32⟩
  | 74 => ⟨S16x16x100001, .f32⟩
  | 75 => ⟨S16x16x100001, .f32⟩
  | 76 => ⟨S16x16x100001, .f32⟩
  | 77 => ⟨S_, .f32⟩
  | 78 => ⟨S16x16x100001, .f32⟩
  | 79 => ⟨S16x16x100001, .f32⟩
  | 80 => ⟨S_, .f32⟩
  | 81 => ⟨S16x16x100001, .f32⟩
  | 82 => ⟨S16x16x100001, .f32⟩
  | 83 => ⟨S16x16x100001, .f32⟩
  | 84 => ⟨S_, .f32⟩
  | 85 => ⟨S16x16x100001, .f32⟩
  | 86 => ⟨S16x16x100001, .f32⟩
  | 87 => ⟨S16x16x100001, .f32⟩
  | 88 => ⟨S16x16x100001, .i32⟩
  | 89 => ⟨S_, .f32⟩
  | 90 => ⟨S_, .i32⟩
  | 91 => ⟨S16x16, .f32⟩
  | 92 => ⟨S16x16, .i32⟩
  | 93 => ⟨S_, .i32⟩
  | 94 => ⟨S16x16, .i32⟩
  | 95 => ⟨S16x16, .i1⟩
  | 96 => ⟨S_, .i32⟩
  | 97 => ⟨S_, .i32⟩
  | 98 => ⟨S16x16, .i32⟩
  | 99 => ⟨S16x16, .i32⟩
  | _ => ⟨S16x16x100001, .f32⟩

abbrev hbmTy (i : Nat) : BufTy := match i / 128 with
  | 0 => hbmTy0_0 i
  | 1 => hbmTy0_1 i
  | 2 => hbmTy0_2 i
  | _ => ⟨S16x16x100001, .f32⟩

abbrev bufTy : (tb : Table) → Fin (tcTables nBuf tb) → BufTy
  | .hbm, ⟨i, _⟩ => hbmTy i
  | _, _ => ⟨S16x16x100001, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v11 : Ref sig .tc := ⟨.hbm, 27, rfl⟩
abbrev main_v12 : Ref sig .tc := ⟨.hbm, 28, rfl⟩
abbrev main_c_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_cst_10 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_c : Ref sig .tc := ⟨.hbm, 77, rfl⟩
abbrev main_call2_v11 : Ref sig .tc := ⟨.hbm, 78, rfl⟩
abbrev main_call2_v12 : Ref sig .tc := ⟨.hbm, 79, rfl⟩
abbrev main_call2_c_0 : Ref sig .tc := ⟨.hbm, 80, rfl⟩
abbrev main_call2_v13 : Ref sig .tc := ⟨.hbm, 81, rfl⟩
abbrev main_call2_v14 : Ref sig .tc := ⟨.hbm, 82, rfl⟩
abbrev main_call2_c_1 : Ref sig .tc := ⟨.hbm, 83, rfl⟩
abbrev main_call2_v15 : Ref sig .tc := ⟨.hbm, 84, rfl⟩
abbrev main_call2_v16 : Ref sig .tc := ⟨.hbm, 85, rfl⟩
abbrev main_call2_v17 : Ref sig .tc := ⟨.hbm, 86, rfl⟩
abbrev main_call2_v18 : Ref sig .tc := ⟨.hbm, 87, rfl⟩
abbrev main_call2_c_2 : Ref sig .tc := ⟨.hbm, 88, rfl⟩
abbrev main_call2_v19 : Ref sig .tc := ⟨.hbm, 89, rfl⟩
abbrev main_call2_v20 : Ref sig .tc := ⟨.hbm, 90, rfl⟩
abbrev main_call2_v21 : Ref sig .tc := ⟨.hbm, 91, rfl⟩
abbrev main_call2_v22 : Ref sig .tc := ⟨.hbm, 92, rfl⟩
abbrev main_call2_call0_v0 : Ref sig .tc := ⟨.hbm, 93, rfl⟩
abbrev main_call2_call0_c : Ref sig .tc := ⟨.hbm, 94, rfl⟩
abbrev main_call2_call0_v1 : Ref sig .tc := ⟨.hbm, 95, rfl⟩
abbrev main_call2_call0_v2 : Ref sig .tc := ⟨.hbm, 96, rfl⟩
abbrev main_call2_call0_v3 : Ref sig .tc := ⟨.hbm, 97, rfl⟩
abbrev main_call2_call0_v4 : Ref sig .tc := ⟨.hbm, 98, rfl⟩
abbrev main_call2_call0_v5 : Ref sig .tc := ⟨.hbm, 99, rfl⟩
abbrev main_call2_call0_v6 : Ref sig .tc := ⟨.hbm, 100, rfl⟩
abbrev main_call2_call0_c_0 : Ref sig .tc := ⟨.hbm, 101, rfl⟩
abbrev main_call2_call0_v7 : Ref sig .tc := ⟨.hbm, 102, rfl⟩
abbrev main_call2_call0_v8 : Ref sig .tc := ⟨.hbm, 103, rfl⟩
abbrev main_call2_call0_c_1 : Ref sig .tc := ⟨.hbm, 104, rfl⟩
abbrev main_call2_call0_v9 : Ref sig .tc := ⟨.hbm, 105, rfl⟩
abbrev main_call2_call0_v10 : Ref sig .tc := ⟨.hbm, 106, rfl⟩
abbrev main_call2_call0_v11 : Ref sig .tc := ⟨.hbm, 107, rfl⟩
abbrev main_call2_call0_v12 : Ref sig .tc := ⟨.hbm, 108, rfl⟩
abbrev main_call2_call0_v13 : Ref sig .tc := ⟨.hbm, 109, rfl⟩
abbrev main_call2_call0_c_2 : Ref sig .tc := ⟨.hbm, 110, rfl⟩
abbrev main_call2_call0_v14 : Ref sig .tc := ⟨.hbm, 111, rfl⟩
abbrev main_call2_call0_v15 : Ref sig .tc := ⟨.hbm, 112, rfl⟩
abbrev main_call2_call0_c_3 : Ref sig .tc := ⟨.hbm, 113, rfl⟩
abbrev main_call2_call0_v16 : Ref sig .tc := ⟨.hbm, 114, rfl⟩
abbrev main_call2_call0_v17 : Ref sig .tc := ⟨.hbm, 115, rfl⟩
abbrev main_call2_call0_v18 : Ref sig .tc := ⟨.hbm, 116, rfl⟩
abbrev main_call2_call0_v19 : Ref sig .tc := ⟨.hbm, 117, rfl⟩
abbrev main_call2_call0_v20 : Ref sig .tc := ⟨.hbm, 118, rfl⟩
abbrev main_call2_call0_c_4 : Ref sig .tc := ⟨.hbm, 119, rfl⟩
abbrev main_call2_call0_v21 : Ref sig .tc := ⟨.hbm, 120, rfl⟩
abbrev main_call2_call0_v22 : Ref sig .tc := ⟨.hbm, 121, rfl⟩
abbrev main_call2_call0_c_5 : Ref sig .tc := ⟨.hbm, 122, rfl⟩
abbrev main_call2_call0_v23 : Ref sig .tc := ⟨.hbm, 123, rfl⟩
abbrev main_call2_call0_v24 : Ref sig .tc := ⟨.hbm, 124, rfl⟩
abbrev main_call2_call0_v25 : Ref sig .tc := ⟨.hbm, 125, rfl⟩
abbrev main_call2_call0_v26 : Ref sig .tc := ⟨.hbm, 126, rfl⟩
abbrev main_call2_call0_v27 : Ref sig .tc := ⟨.hbm, 127, rfl⟩
abbrev main_call2_call0_c_6 : Ref sig .tc := ⟨.hbm, 128, rfl⟩
abbrev main_call2_call0_v28 : Ref sig .tc := ⟨.hbm, 129, rfl⟩
abbrev main_call2_call0_v29 : Ref sig .tc := ⟨.hbm, 130, rfl⟩
abbrev main_call2_call0_c_7 : Ref sig .tc := ⟨.hbm, 131, rfl⟩
abbrev main_call2_call0_v30 : Ref sig .tc := ⟨.hbm, 132, rfl⟩
abbrev main_call2_call0_v31 : Ref sig .tc := ⟨.hbm, 133, rfl⟩
abbrev main_call2_call0_v32 : Ref sig .tc := ⟨.hbm, 134, rfl⟩
abbrev main_call2_call0_v33 : Ref sig .tc := ⟨.hbm, 135, rfl⟩
abbrev main_call2_call0_v34 : Ref sig .tc := ⟨.hbm, 136, rfl⟩
abbrev main_call2_call0_v35 : Ref sig .tc := ⟨.hbm, 137, rfl⟩
abbrev main_call2_call0_v36 : Ref sig .tc := ⟨.hbm, 138, rfl⟩
abbrev main_call2_call0_v37 : Ref sig .tc := ⟨.hbm, 139, rfl⟩
abbrev main_call2_call0_c_8 : Ref sig .tc := ⟨.hbm, 140, rfl⟩
abbrev main_call2_call0_v38 : Ref sig .tc := ⟨.hbm, 141, rfl⟩
abbrev main_call2_call0_v39 : Ref sig .tc := ⟨.hbm, 142, rfl⟩
abbrev main_call2_call0_v40 : Ref sig .tc := ⟨.hbm, 143, rfl⟩
abbrev main_call2_call0_c_9 : Ref sig .tc := ⟨.hbm, 144, rfl⟩
abbrev main_call2_call0_v41 : Ref sig .tc := ⟨.hbm, 145, rfl⟩
abbrev main_call2_call0_v42 : Ref sig .tc := ⟨.hbm, 146, rfl⟩
abbrev main_call2_call0_c_10 : Ref sig .tc := ⟨.hbm, 147, rfl⟩
abbrev main_call2_call0_v43 : Ref sig .tc := ⟨.hbm, 148, rfl⟩
abbrev main_call2_call0_v44 : Ref sig .tc := ⟨.hbm, 149, rfl⟩
abbrev main_call2_call0_v45 : Ref sig .tc := ⟨.hbm, 150, rfl⟩
abbrev main_call2_call0_v46 : Ref sig .tc := ⟨.hbm, 151, rfl⟩
abbrev main_call2_call0_v47 : Ref sig .tc := ⟨.hbm, 152, rfl⟩
abbrev main_call2_call0_c_11 : Ref sig .tc := ⟨.hbm, 153, rfl⟩
abbrev main_call2_call0_v48 : Ref sig .tc := ⟨.hbm, 154, rfl⟩
abbrev main_call2_call0_v49 : Ref sig .tc := ⟨.hbm, 155, rfl⟩
abbrev main_call2_call0_c_12 : Ref sig .tc := ⟨.hbm, 156, rfl⟩
abbrev main_call2_call0_v50 : Ref sig .tc := ⟨.hbm, 157, rfl⟩
abbrev main_call2_call0_v51 : Ref sig .tc := ⟨.hbm, 158, rfl⟩
abbrev main_call2_call0_v52 : Ref sig .tc := ⟨.hbm, 159, rfl⟩
abbrev main_call2_call0_v53 : Ref sig .tc := ⟨.hbm, 160, rfl⟩
abbrev main_call2_call0_v54 : Ref sig .tc := ⟨.hbm, 161, rfl⟩
abbrev main_call2_call0_c_13 : Ref sig .tc := ⟨.hbm, 162, rfl⟩
abbrev main_call2_call0_v55 : Ref sig .tc := ⟨.hbm, 163, rfl⟩
abbrev main_call2_call0_v56 : Ref sig .tc := ⟨.hbm, 164, rfl⟩
abbrev main_call2_call0_c_14 : Ref sig .tc := ⟨.hbm, 165, rfl⟩
abbrev main_call2_call0_v57 : Ref sig .tc := ⟨.hbm, 166, rfl⟩
abbrev main_call2_call0_v58 : Ref sig .tc := ⟨.hbm, 167, rfl⟩
abbrev main_call2_call0_v59 : Ref sig .tc := ⟨.hbm, 168, rfl⟩
abbrev main_call2_call0_v60 : Ref sig .tc := ⟨.hbm, 169, rfl⟩
abbrev main_call2_call0_v61 : Ref sig .tc := ⟨.hbm, 170, rfl⟩
abbrev main_call2_call0_c_15 : Ref sig .tc := ⟨.hbm, 171, rfl⟩
abbrev main_call2_call0_v62 : Ref sig .tc := ⟨.hbm, 172, rfl⟩
abbrev main_call2_call0_v63 : Ref sig .tc := ⟨.hbm, 173, rfl⟩
abbrev main_call2_call0_c_16 : Ref sig .tc := ⟨.hbm, 174, rfl⟩
abbrev main_call2_call0_v64 : Ref sig .tc := ⟨.hbm, 175, rfl⟩
abbrev main_call2_call0_v65 : Ref sig .tc := ⟨.hbm, 176, rfl⟩
abbrev main_call2_call0_v66 : Ref sig .tc := ⟨.hbm, 177, rfl⟩
abbrev main_call2_call0_v67 : Ref sig .tc := ⟨.hbm, 178, rfl⟩
abbrev main_call2_call0_v68 : Ref sig .tc := ⟨.hbm, 179, rfl⟩
abbrev main_call2_call0_v69 : Ref sig .tc := ⟨.hbm, 180, rfl⟩
abbrev main_call2_call0_v70 : Ref sig .tc := ⟨.hbm, 181, rfl⟩
abbrev main_call2_call0_v71 : Ref sig .tc := ⟨.hbm, 182, rfl⟩
abbrev main_call2_call0_c_17 : Ref sig .tc := ⟨.hbm, 183, rfl⟩
abbrev main_call2_call0_v72 : Ref sig .tc := ⟨.hbm, 184, rfl⟩
abbrev main_call2_call0_v73 : Ref sig .tc := ⟨.hbm, 185, rfl⟩
abbrev main_call2_call0_v74 : Ref sig .tc := ⟨.hbm, 186, rfl⟩
abbrev main_call2_call0_c_18 : Ref sig .tc := ⟨.hbm, 187, rfl⟩
abbrev main_call2_call0_v75 : Ref sig .tc := ⟨.hbm, 188, rfl⟩
abbrev main_call2_call0_v76 : Ref sig .tc := ⟨.hbm, 189, rfl⟩
abbrev main_call2_call0_c_19 : Ref sig .tc := ⟨.hbm, 190, rfl⟩
abbrev main_call2_call0_v77 : Ref sig .tc := ⟨.hbm, 191, rfl⟩
abbrev main_call2_call0_v78 : Ref sig .tc := ⟨.hbm, 192, rfl⟩
abbrev main_call2_call0_v79 : Ref sig .tc := ⟨.hbm, 193, rfl⟩
abbrev main_call2_call0_v80 : Ref sig .tc := ⟨.hbm, 194, rfl⟩
abbrev main_call2_call0_v81 : Ref sig .tc := ⟨.hbm, 195, rfl⟩
abbrev main_call2_call0_c_20 : Ref sig .tc := ⟨.hbm, 196, rfl⟩
abbrev main_call2_call0_v82 : Ref sig .tc := ⟨.hbm, 197, rfl⟩
abbrev main_call2_call0_v83 : Ref sig .tc := ⟨.hbm, 198, rfl⟩
abbrev main_call2_call0_c_21 : Ref sig .tc := ⟨.hbm, 199, rfl⟩
abbrev main_call2_call0_v84 : Ref sig .tc := ⟨.hbm, 200, rfl⟩
abbrev main_call2_call0_v85 : Ref sig .tc := ⟨.hbm, 201, rfl⟩
abbrev main_call2_call0_v86 : Ref sig .tc := ⟨.hbm, 202, rfl⟩
abbrev main_call2_call0_v87 : Ref sig .tc := ⟨.hbm, 203, rfl⟩
abbrev main_call2_call0_v88 : Ref sig .tc := ⟨.hbm, 204, rfl⟩
abbrev main_call2_call0_c_22 : Ref sig .tc := ⟨.hbm, 205, rfl⟩
abbrev main_call2_call0_v89 : Ref sig .tc := ⟨.hbm, 206, rfl⟩
abbrev main_call2_call0_v90 : Ref sig .tc := ⟨.hbm, 207, rfl⟩
abbrev main_call2_call0_c_23 : Ref sig .tc := ⟨.hbm, 208, rfl⟩
abbrev main_call2_call0_v91 : Ref sig .tc := ⟨.hbm, 209, rfl⟩
abbrev main_call2_call0_v92 : Ref sig .tc := ⟨.hbm, 210, rfl⟩
abbrev main_call2_call0_v93 : Ref sig .tc := ⟨.hbm, 211, rfl⟩
abbrev main_call2_call0_v94 : Ref sig .tc := ⟨.hbm, 212, rfl⟩
abbrev main_call2_call0_v95 : Ref sig .tc := ⟨.hbm, 213, rfl⟩
abbrev main_call2_call0_c_24 : Ref sig .tc := ⟨.hbm, 214, rfl⟩
abbrev main_call2_call0_v96 : Ref sig .tc := ⟨.hbm, 215, rfl⟩
abbrev main_call2_call0_v97 : Ref sig .tc := ⟨.hbm, 216, rfl⟩
abbrev main_call2_call0_c_25 : Ref sig .tc := ⟨.hbm, 217, rfl⟩
abbrev main_call2_call0_v98 : Ref sig .tc := ⟨.hbm, 218, rfl⟩
abbrev main_call2_call0_v99 : Ref sig .tc := ⟨.hbm, 219, rfl⟩
abbrev main_call2_call0_v100 : Ref sig .tc := ⟨.hbm, 220, rfl⟩
abbrev main_call2_call0_v101 : Ref sig .tc := ⟨.hbm, 221, rfl⟩
abbrev main_call2_call0_v102 : Ref sig .tc := ⟨.hbm, 222, rfl⟩
abbrev main_call2_call0_v103 : Ref sig .tc := ⟨.hbm, 223, rfl⟩
abbrev main_call2_call0_v104 : Ref sig .tc := ⟨.hbm, 224, rfl⟩
abbrev main_call2_call0_v105 : Ref sig .tc := ⟨.hbm, 225, rfl⟩
abbrev main_call2_call0_c_26 : Ref sig .tc := ⟨.hbm, 226, rfl⟩
abbrev main_call2_call0_v106 : Ref sig .tc := ⟨.hbm, 227, rfl⟩
abbrev main_call2_call0_v107 : Ref sig .tc := ⟨.hbm, 228, rfl⟩
abbrev main_call2_call0_v108 : Ref sig .tc := ⟨.hbm, 229, rfl⟩
abbrev main_call2_call0_c_27 : Ref sig .tc := ⟨.hbm, 230, rfl⟩
abbrev main_call2_call0_v109 : Ref sig .tc := ⟨.hbm, 231, rfl⟩
abbrev main_call2_call0_v110 : Ref sig .tc := ⟨.hbm, 232, rfl⟩
abbrev main_call2_call0_c_28 : Ref sig .tc := ⟨.hbm, 233, rfl⟩
abbrev main_call2_call0_v111 : Ref sig .tc := ⟨.hbm, 234, rfl⟩
abbrev main_call2_call0_v112 : Ref sig .tc := ⟨.hbm, 235, rfl⟩
abbrev main_call2_call0_v113 : Ref sig .tc := ⟨.hbm, 236, rfl⟩
abbrev main_call2_call0_v114 : Ref sig .tc := ⟨.hbm, 237, rfl⟩
abbrev main_call2_call0_v115 : Ref sig .tc := ⟨.hbm, 238, rfl⟩
abbrev main_call2_call0_c_29 : Ref sig .tc := ⟨.hbm, 239, rfl⟩
abbrev main_call2_call0_v116 : Ref sig .tc := ⟨.hbm, 240, rfl⟩
abbrev main_call2_call0_v117 : Ref sig .tc := ⟨.hbm, 241, rfl⟩
abbrev main_call2_call0_c_30 : Ref sig .tc := ⟨.hbm, 242, rfl⟩
abbrev main_call2_call0_v118 : Ref sig .tc := ⟨.hbm, 243, rfl⟩
abbrev main_call2_call0_v119 : Ref sig .tc := ⟨.hbm, 244, rfl⟩
abbrev main_call2_call0_v120 : Ref sig .tc := ⟨.hbm, 245, rfl⟩
abbrev main_call2_call0_v121 : Ref sig .tc := ⟨.hbm, 246, rfl⟩
abbrev main_call2_call0_v122 : Ref sig .tc := ⟨.hbm, 247, rfl⟩
abbrev main_call2_call0_c_31 : Ref sig .tc := ⟨.hbm, 248, rfl⟩
abbrev main_call2_call0_v123 : Ref sig .tc := ⟨.hbm, 249, rfl⟩
abbrev main_call2_call0_v124 : Ref sig .tc := ⟨.hbm, 250, rfl⟩
abbrev main_call2_call0_c_32 : Ref sig .tc := ⟨.hbm, 251, rfl⟩
abbrev main_call2_call0_v125 : Ref sig .tc := ⟨.hbm, 252, rfl⟩
abbrev main_call2_call0_v126 : Ref sig .tc := ⟨.hbm, 253, rfl⟩
abbrev main_call2_call0_v127 : Ref sig .tc := ⟨.hbm, 254, rfl⟩
abbrev main_call2_call0_v128 : Ref sig .tc := ⟨.hbm, 255, rfl⟩
abbrev main_call2_call0_v129 : Ref sig .tc := ⟨.hbm, 256, rfl⟩
abbrev main_call2_call0_c_33 : Ref sig .tc := ⟨.hbm, 257, rfl⟩
abbrev main_call2_call0_v130 : Ref sig .tc := ⟨.hbm, 258, rfl⟩
abbrev main_call2_call0_v131 : Ref sig .tc := ⟨.hbm, 259, rfl⟩
abbrev main_call2_call0_c_34 : Ref sig .tc := ⟨.hbm, 260, rfl⟩
abbrev main_call2_call0_v132 : Ref sig .tc := ⟨.hbm, 261, rfl⟩
abbrev main_call2_call0_v133 : Ref sig .tc := ⟨.hbm, 262, rfl⟩
abbrev main_call2_call0_v134 : Ref sig .tc := ⟨.hbm, 263, rfl⟩
abbrev main_call2_call0_v135 : Ref sig .tc := ⟨.hbm, 264, rfl⟩
abbrev main_call2_call0_v136 : Ref sig .tc := ⟨.hbm, 265, rfl⟩
abbrev main_call2_call0_v137 : Ref sig .tc := ⟨.hbm, 266, rfl⟩
abbrev main_call2_call0_v138 : Ref sig .tc := ⟨.hbm, 267, rfl⟩
abbrev main_call2_call0_v139 : Ref sig .tc := ⟨.hbm, 268, rfl⟩
abbrev main_call2_call0_c_35 : Ref sig .tc := ⟨.hbm, 269, rfl⟩
abbrev main_call2_call0_v140 : Ref sig .tc := ⟨.hbm, 270, rfl⟩
abbrev main_call2_call0_v141 : Ref sig .tc := ⟨.hbm, 271, rfl⟩
abbrev main_call2_call0_v142 : Ref sig .tc := ⟨.hbm, 272, rfl⟩
abbrev main_call2_call0_c_36 : Ref sig .tc := ⟨.hbm, 273, rfl⟩
abbrev main_call2_call0_v143 : Ref sig .tc := ⟨.hbm, 274, rfl⟩
abbrev main_call2_call0_v144 : Ref sig .tc := ⟨.hbm, 275, rfl⟩
abbrev main_call2_call0_c_37 : Ref sig .tc := ⟨.hbm, 276, rfl⟩
abbrev main_call2_call0_v145 : Ref sig .tc := ⟨.hbm, 277, rfl⟩
abbrev main_call2_call0_v146 : Ref sig .tc := ⟨.hbm, 278, rfl⟩
abbrev main_call2_call0_v147 : Ref sig .tc := ⟨.hbm, 279, rfl⟩
abbrev main_call2_call0_v148 : Ref sig .tc := ⟨.hbm, 280, rfl⟩
abbrev main_call2_call0_v149 : Ref sig .tc := ⟨.hbm, 281, rfl⟩
abbrev main_call2_call0_c_38 : Ref sig .tc := ⟨.hbm, 282, rfl⟩
abbrev main_call2_call0_v150 : Ref sig .tc := ⟨.hbm, 283, rfl⟩
abbrev main_call2_call0_v151 : Ref sig .tc := ⟨.hbm, 284, rfl⟩
abbrev main_call2_call0_c_39 : Ref sig .tc := ⟨.hbm, 285, rfl⟩
abbrev main_call2_call0_v152 : Ref sig .tc := ⟨.hbm, 286, rfl⟩
abbrev main_call2_call0_v153 : Ref sig .tc := ⟨.hbm, 287, rfl⟩
abbrev main_call2_call0_v154 : Ref sig .tc := ⟨.hbm, 288, rfl⟩
abbrev main_call2_call0_v155 : Ref sig .tc := ⟨.hbm, 289, rfl⟩
abbrev main_call2_call0_v156 : Ref sig .tc := ⟨.hbm, 290, rfl⟩
abbrev main_call2_call0_c_40 : Ref sig .tc := ⟨.hbm, 291, rfl⟩
abbrev main_call2_call0_v157 : Ref sig .tc := ⟨.hbm, 292, rfl⟩
abbrev main_call2_call0_v158 : Ref sig .tc := ⟨.hbm, 293, rfl⟩
abbrev main_call2_call0_c_41 : Ref sig .tc := ⟨.hbm, 294, rfl⟩
abbrev main_call2_call0_v159 : Ref sig .tc := ⟨.hbm, 295, rfl⟩
abbrev main_call2_call0_v160 : Ref sig .tc := ⟨.hbm, 296, rfl⟩
abbrev main_call2_call0_v161 : Ref sig .tc := ⟨.hbm, 297, rfl⟩
abbrev main_call2_call0_v162 : Ref sig .tc := ⟨.hbm, 298, rfl⟩
abbrev main_call2_call0_v163 : Ref sig .tc := ⟨.hbm, 299, rfl⟩
abbrev main_call2_call0_c_42 : Ref sig .tc := ⟨.hbm, 300, rfl⟩
abbrev main_call2_call0_v164 : Ref sig .tc := ⟨.hbm, 301, rfl⟩
abbrev main_call2_call0_v165 : Ref sig .tc := ⟨.hbm, 302, rfl⟩
abbrev main_call2_call0_c_43 : Ref sig .tc := ⟨.hbm, 303, rfl⟩
abbrev main_call2_call0_v166 : Ref sig .tc := ⟨.hbm, 304, rfl⟩
abbrev main_call2_call0_v167 : Ref sig .tc := ⟨.hbm, 305, rfl⟩
abbrev main_call2_call0_v168 : Ref sig .tc := ⟨.hbm, 306, rfl⟩
abbrev main_call2_call0_v169 : Ref sig .tc := ⟨.hbm, 307, rfl⟩
abbrev main_call2_call0_v170 : Ref sig .tc := ⟨.hbm, 308, rfl⟩
abbrev main_call2_v23_0 : Ref sig .tc := ⟨.hbm, 309, rfl⟩
abbrev main_call2_call0_v172 : Ref sig .tc := ⟨.hbm, 310, rfl⟩
abbrev main_call2_call0_v173 : Ref sig .tc := ⟨.hbm, 311, rfl⟩
abbrev main_call2_call0_c_44 : Ref sig .tc := ⟨.hbm, 312, rfl⟩
abbrev main_call2_call0_v174 : Ref sig .tc := ⟨.hbm, 313, rfl⟩
abbrev main_call2_v23_1 : Ref sig .tc := ⟨.hbm, 314, rfl⟩
abbrev main_call2_v24 : Ref sig .tc := ⟨.hbm, 315, rfl⟩
abbrev main_call2_c_3 : Ref sig .tc := ⟨.hbm, 316, rfl⟩
abbrev main_call2_v25 : Ref sig .tc := ⟨.hbm, 317, rfl⟩
abbrev main_call2_v26 : Ref sig .tc := ⟨.hbm, 318, rfl⟩
abbrev main_call2_c_4 : Ref sig .tc := ⟨.hbm, 319, rfl⟩
abbrev main_call2_v27 : Ref sig .tc := ⟨.hbm, 320, rfl⟩
abbrev main_call2_v28 : Ref sig .tc := ⟨.hbm, 321, rfl⟩
abbrev main_call2_v29 : Ref sig .tc := ⟨.hbm, 322, rfl⟩
abbrev main_call2_cst : Ref sig .tc := ⟨.hbm, 323, rfl⟩
abbrev main_call2_v30 : Ref sig .tc := ⟨.hbm, 324, rfl⟩
abbrev main_call2_v31 : Ref sig .tc := ⟨.hbm, 325, rfl⟩
abbrev main_call2_v32 : Ref sig .tc := ⟨.hbm, 326, rfl⟩
abbrev main_call2_v33 : Ref sig .tc := ⟨.hbm, 327, rfl⟩
abbrev main_call2_v34 : Ref sig .tc := ⟨.hbm, 328, rfl⟩
abbrev main_call2_v35 : Ref sig .tc := ⟨.hbm, 329, rfl⟩
abbrev main_call2_v36 : Ref sig .tc := ⟨.hbm, 330, rfl⟩
abbrev main_call2_v37 : Ref sig .tc := ⟨.hbm, 331, rfl⟩
abbrev main_v42 : Ref sig .tc := ⟨.hbm, 332, rfl⟩
abbrev main_cst_11 : Ref sig .tc := ⟨.hbm, 333, rfl⟩
abbrev main_v43 : Ref sig .tc := ⟨.hbm, 334, rfl⟩
abbrev main_v44 : Ref sig .tc := ⟨.hbm, 335, rfl⟩
abbrev main_cst_12 : Ref sig .tc := ⟨.hbm, 336, rfl⟩
abbrev main_v45 : Ref sig .tc := ⟨.hbm, 337, rfl⟩
abbrev main_v46 : Ref sig .tc := ⟨.hbm, 338, rfl⟩
abbrev main_v47 : Ref sig .tc := ⟨.hbm, 339, rfl⟩
abbrev main_cst_13 : Ref sig .tc := ⟨.hbm, 340, rfl⟩
abbrev main_v48 : Ref sig .tc := ⟨.hbm, 341, rfl⟩
abbrev main_v49 : Ref sig .tc := ⟨.hbm, 342, rfl⟩
abbrev main_v50 : Ref sig .tc := ⟨.hbm, 343, rfl⟩
abbrev main_call3_v0 : Ref sig .tc := ⟨.hbm, 344, rfl⟩
abbrev main_call3_cst : Ref sig .tc := ⟨.hbm, 345, rfl⟩
abbrev main_call3_c : Ref sig .tc := ⟨.hbm, 346, rfl⟩
abbrev main_call3_v1_0 : Ref sig .tc := ⟨.hbm, 347, rfl⟩
abbrev main_v51 : Ref sig .tc := ⟨.hbm, 348, rfl⟩
abbrev main_c_14 : Ref sig .tc := ⟨.hbm, 349, rfl⟩
abbrev main_v52 : Ref sig .tc := ⟨.hbm, 350, rfl⟩
abbrev main_v53 : Ref sig .tc := ⟨.hbm, 351, rfl⟩
abbrev main_c_15 : Ref sig .tc := ⟨.hbm, 352, rfl⟩
abbrev main_call4_v0 : Ref sig .tc := ⟨.hbm, 353, rfl⟩
abbrev main_call4_v1 : Ref sig .tc := ⟨.hbm, 354, rfl⟩
abbrev main_v54 : Ref sig .tc := ⟨.hbm, 355, rfl⟩

abbrev nD : Nat := 1
abbrev τ : Topo := Topo.v7x

variable {F : FTy → Type} [FloatOps F]
-- ==== Proof.KerKit.lean ====
/- What the run of the kernel is stated over: its staging memrefs, its branch conditions, what it moves itself. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1, hostOps1_1, hostOps1_2].map StableHlo.seq)) :=
  Pipeline.hmain_around cfgs 0 defs₀ 𝒱₀ m main [hostOps0, hostOps0_1, hostOps0_2] [hostOps1, hostOps1_1, hostOps1_2] (by simp only [List.Forall]; exact ⟨hostOps0_sub, hostOps0_1_sub, hostOps0_2_sub⟩)
    (by simp only [List.Forall]; exact ⟨hostOps0_fresh, hostOps0_1_fresh, hostOps0_2_fresh⟩) main_chain

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0: over LANES of the blocks the body loads from its input VMEM windows
    (`v0`), so no function of the point — a case variable: a hypothesis of each run, a `by_cases`
    of the obligation and an `if` of `outsAt`, stated over the argument blocks there. -/
abbrev cond0_0 (i : grid0.Coords) (v0 : Vec F S8x1 .i32) : Prop := (Scalar.cmpi .ne (Scalar.extui (Scalar.xori (Scalar.cmpi .eq (extractAt ![0, 0, 0] (k0_pay2 v0) inpos_S1x1x1_p0_0_0) 100000#32) 1#1)) 0#32) = 1#1

/-- The condition of the body's `scf.if` 1: over LANES of the blocks the body loads from its input VMEM windows
    (`v0`), so no function of the point — a case variable: a hypothesis of each run, a `by_cases`
    of the obligation and an `if` of `outsAt`, stated over the argument blocks there. -/
abbrev cond0_1 (i : grid0.Coords) (v0 : Vec F S8x1 .i32) : Prop := (Scalar.cmpi .ne (Scalar.extui (Scalar.cmpi .eq (extractAt ![0, 0, 0] (k0_pay2 v0) inpos_S1x1x1_p0_0_0) 100000#32)) 0#32) = 1#1

/-! ## The kernel body on any staging memrefs: a subtype the run finds -/

/-- Each window's current staging memref at point `t`, spelled as the pipeline passes it (`bodyAt0`), and its wholeness. -/
abbrev ms0_0 (t : Fin cfg0.N) : Memref sig .tc .vmem S8x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x100001 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x1 .i32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S8x100001 .f32 := Memref.whole cc0_scratch0
/-- The operands left in HBM that the body copies into scratch itself, whole. -/
abbrev hbM0_0 : Memref sig .tc .hbm S256x100001 .f32 := Memref.whole main_v13
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 1 → SemLoc sig := fun j => (![SemLoc.dma 11] : Fin 1 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 11) 0) := by
  rw [Pipeline.ownSems0_eq_of_list c osem0 [0] (by decide) (by decide)]; rfl
/-- The HBM operands the body moves, as references: unscoped, no window's array (`Pipeline.restRefs`). -/
def H0 : Finset (Ref sig .tc) := {main_v13}
theorem H0_sub : H0 ⊆ Pipeline.restRefs sig spec0 := by decide
/-- The lines after the region touch none of the operands the body moves: each operation's buffers are unscoped
    TensorCore references, none of them in `H0` (`Pipeline.sub_tailRefsBut`). -/
theorem sfx_but : ∀ ops ∈ ([hostOps1, hostOps1_1, hostOps1_2] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl | rfl | rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl | rfl | rfl | rfl | rfl | rfl
    all_goals intro b hb; simp only [H0, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefsBut Pipeline.Prefetch.none spec0 H0 op ((List.forall_iff_forall_mem.mp hostOps1_1_sub) op hop) (fun j => j.elim0) ?_
    simp only [hostOps1_1, List.mem_cons, List.mem_nil_iff, or_false] at hop
    rcases hop with rfl | rfl | rfl
    all_goals intro b hb; simp only [H0, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefsBut Pipeline.Prefetch.none spec0 H0 op ((List.forall_iff_forall_mem.mp hostOps1_2_sub) op hop) (fun j => j.elim0) ?_
    simp only [hostOps1_2, List.mem_cons, List.mem_nil_iff, or_false] at hop
    rcases hop with rfl
    all_goals intro b hb; simp only [H0, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v13)) := by
  rw [BI.bigSep_eq_bigSepL_of_eq [main_v13] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d)) ∗ (∃ r, prngReg c r) ∗ iprop(semVal ((c : Thread nD τ), SemLoc.dma 11) 0) ∗ iprop(hbPt0 c hbM0_0 (V m c main_v13))) := by
  rw [Pipeline.ΦD_eq, scopedRest0_eq, ownSems00_eq, hbmPts0_eq]; simp only [scM0_0, owns_whole]; try rfl

end Cert.KernelIdeal.Run

end

end
-- ==== Proof.KerBody.lean ====
/- The body at a point, in its two cases, with what it leaves in the two outputs. -/
module

public import proofs.«01_k».proof.Proof.KerKit
public import Idealize.ShloMosaic.Lib.VecWindow

@[expose] public section

set_option maxRecDepth 16384

noncomputable section

namespace Cert.KernelIdeal.Run

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The eight rows of the scores that point `i` copies. -/
def rows0 (c : Dev nD) (i : grid0.Coords) (fh0 : HbBuf0 (F := F) c hbM0_0) : Vec F S8x100001 .f32 :=
  ((Memref.whole main_v13 : Memref sig .tc .hbm S256x100001 .f32).slice (Rect.unit (s := S256x100001) (k0_off1 i) S8x100001.size (k0_off1_inb i)) (fun _ => rfl)).view.read (Elt F) fh0

/-- The rates a block with a masked row ends with. -/
def rates0 (x0 : Vec F S8x1 .i32) (y : Vec F S8x100001 .f32) (x2 : Vec F S8x1 .f32) : Vec F S8x100001 .f32 :=
  k0_pay8 (k0_pay1 x0) y x2

/-- The uniform draws of point `i`, before their last maximum. -/
def draws0 (i : grid0.Coords) : FVec F S8x100001 .f32 :=
  have v46 := k0_pay9 (BitVec.ofNat 32 (i 0).val)
  have v92 := k0_pay21 v46 k0_pay10
  have v93 := k0_pay22 v46 k0_pay10
  have v134 := k0_pay33 v92 v93 k0_pay23
  have v140 := k0_pay34 v92 v93 k0_pay23
  k0_pay46 (k0_pay44 v134 v140) (k0_pay45 v134 v140)

/-- The tokens a block with a masked row ends with. -/
def toks0 (i : grid0.Coords) (x0 x1 : Vec F S8x1 .i32) (y : Vec F S8x100001 .f32) (x2 : Vec F S8x1 .f32) (x3 : Vec F S1 .f32) : Vec F S8x1 .i32 :=
  k0_pay5 (iota .tc S8x100001 32 [1] iota_S8x100001_d1_w32) k0_pay6 (k0_pay7 (k0_pay1 x0)) (rates0 x0 y x2)
    (draws0 i) (Scalar.ofBits .f32 0x00000000#32) (x3 (Shape.Idx.first (Nat.lt_of_sub_eq_succ numel1_S1))) x1

set_option maxHeartbeats 2000000 in
/-- The body on a block without a masked row: the rates are zeros and the tokens stay. -/
theorem run_unmasked (c : Dev nD) (i : grid0.Coords) (arg1 : Memref sig .tc .vmem S8x1 .i32) (harg1 : arg1.IsWhole) (arg2 : Memref sig .tc .vmem S8x1 .i32) (harg2 : arg2.IsWhole) (arg3 : Memref sig .tc .vmem S8x1 .f32) (harg3 : arg3.IsWhole) (arg4 : Memref sig .tc .smem S1 .f32) (harg4 : arg4.IsWhole) (arg6 : Memref sig .tc .vmem S8x100001 .f32) (harg6 : arg6.IsWhole) (arg7 : Memref sig .tc .vmem S8x1 .i32) (harg7 : arg7.IsWhole) (arg8 : Memref sig .tc .vmem S8x100001 .f32) (harg8 : arg8.IsWhole)
    (x0 : Vec F S8x1 .i32) (x1 : Vec F S8x1 .i32) (x2 : Vec F S8x1 .f32) (x3 : Vec F S1 .f32) (fh0 : HbBuf0 (F := F) c hbM0_0) (hc0 : cond0_0 i x0) (hc1 : ¬cond0_1 i x0) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg6 fullShare d) ∗ (∃ d, owns (c : Thread nD τ) arg7 fullShare d) ∗ (∃ d, owns (c : Thread nD τ) arg8 fullShare d) ∗ semVal ((c : Thread nD τ), SemLoc.dma 11) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare (k0_pay3 (F := F)) ∗ owns (c : Thread nD τ) arg7 fullShare (k0_pay4 x1) ∗ (∃ d, owns (c : Thread nD τ) arg8 fullShare d) ∗ semVal ((c : Thread nD τ), SemLoc.dma 11) 0 ∗ hbPt0 c hbM0_0 fh0 ∗ (∃ W', owes (c : Thread nD τ) 0 W')) -∗ K ⟨⟩))
          ⊢ wp frame (wpE (defs₀ (F := F)) Variants.none c none) Set.univ (cc0__body i arg1 harg1 arg2 harg2 arg3 harg3 arg4 harg4 (Memref.whole main_v13) (Memref.isWhole_whole _) arg6 harg6 arg7 harg7 arg8 harg8 cc0_scratch1) K := by
    intro W K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hq0, Hh0, HW, Hk⟩
    obtain rfl := harg1.eq_unread hf0; obtain rfl := harg2.eq_unread hf1; obtain rfl := harg3.eq_unread hf2; obtain rfl := harg4.eq_unread hf3
    have e0 : arg1.view.readAt (Elt F) (Rect.unit (s := S8x1) ![0, 0] S8x1.size inb_S8x1_S8x1_0_0).toLoadRect (harg1.unread x0) = x0 := (View.readAt_full _ _ _).trans (harg1.read_unread _)
    have e1 : arg2.view.readAt (Elt F) (Rect.unit (s := S8x1) ![0, 0] S8x1.size inb_S8x1_S8x1_0_0).toLoadRect (harg2.unread x1) = x1 := (View.readAt_full _ _ _).trans (harg2.read_unread _)
    have e2 : arg3.view.readAt (Elt F) (Rect.unit (s := S8x1) ![0, 0] S8x1.size inb_S8x1_S8x1_0_0).toLoadRect (harg3.unread x2) = x2 := (View.readAt_full _ _ _).trans (harg3.read_unread _)
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      rw [View.read_writes_full]
    isplitl [H5]
    · iexists _; isplitr; swap; · iexact H5
      ipureintro
      rw [View.read_writes_full]
    isplitl [HS0]
    · iexists _, _; isplitr; swap; · iexact HS0
      ipureintro; rfl
    isplitl [Hq0]; · iexact Hq0
    isplitl [Hh0]; · iexact Hh0
    iexists _; iexact HW

set_option maxHeartbeats 2000000 in
/-- The body on a block with a masked row: its rates and its tokens. -/
theorem run_masked (c : Dev nD) (i : grid0.Coords) (arg1 : Memref sig .tc .vmem S8x1 .i32) (harg1 : arg1.IsWhole) (arg2 : Memref sig .tc .vmem S8x1 .i32) (harg2 : arg2.IsWhole) (arg3 : Memref sig .tc .vmem S8x1 .f32) (harg3 : arg3.IsWhole) (arg4 : Memref sig .tc .smem S1 .f32) (harg4 : arg4.IsWhole) (arg6 : Memref sig .tc .vmem S8x100001 .f32) (harg6 : arg6.IsWhole) (arg7 : Memref sig .tc .vmem S8x1 .i32) (harg7 : arg7.IsWhole) (arg8 : Memref sig .tc .vmem S8x100001 .f32) (harg8 : arg8.IsWhole)
    (x0 : Vec F S8x1 .i32) (x1 : Vec F S8x1 .i32) (x2 : Vec F S8x1 .f32) (x3 : Vec F S1 .f32) (fh0 : HbBuf0 (F := F) c hbM0_0) (hc0 : ¬cond0_0 i x0) (hc1 : cond0_1 i x0) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg6 fullShare d) ∗ (∃ d, owns (c : Thread nD τ) arg7 fullShare d) ∗ (∃ d, owns (c : Thread nD τ) arg8 fullShare d) ∗ semVal ((c : Thread nD τ), SemLoc.dma 11) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare (rates0 x0 (rows0 c i fh0) x2) ∗ owns (c : Thread nD τ) arg7 fullShare (toks0 i x0 x1 (rows0 c i fh0) x2 x3) ∗ (∃ d, owns (c : Thread nD τ) arg8 fullShare d) ∗ semVal ((c : Thread nD τ), SemLoc.dma 11) 0 ∗ hbPt0 c hbM0_0 fh0 ∗ (∃ W', owes (c : Thread nD τ) 0 W')) -∗ K ⟨⟩))
          ⊢ wp frame (wpE (defs₀ (F := F)) Variants.none c none) Set.univ (cc0__body i arg1 harg1 arg2 harg2 arg3 harg3 arg4 harg4 (Memref.whole main_v13) (Memref.isWhole_whole _) arg6 harg6 arg7 harg7 arg8 harg8 cc0_scratch1) K := by
    intro W K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hq0, Hh0, HW, Hk⟩
    obtain rfl := harg1.eq_unread hf0; obtain rfl := harg2.eq_unread hf1; obtain rfl := harg3.eq_unread hf2; obtain rfl := harg4.eq_unread hf3
    have e0 : arg1.view.readAt (Elt F) (Rect.unit (s := S8x1) ![0, 0] S8x1.size inb_S8x1_S8x1_0_0).toLoadRect (harg1.unread x0) = x0 := (View.readAt_full _ _ _).trans (harg1.read_unread _)
    have e1 : arg2.view.readAt (Elt F) (Rect.unit (s := S8x1) ![0, 0] S8x1.size inb_S8x1_S8x1_0_0).toLoadRect (harg2.unread x1) = x1 := (View.readAt_full _ _ _).trans (harg2.read_unread _)
    have e2 : arg3.view.readAt (Elt F) (Rect.unit (s := S8x1) ![0, 0] S8x1.size inb_S8x1_S8x1_0_0).toLoadRect (harg3.unread x2) = x2 := (View.readAt_full _ _ _).trans (harg3.read_unread _)
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      rw [View.read_writes_full, show run_masked.sl.v15 c i arg8 fh0 = rows0 c i fh0 from View.readCov_full arg8.view _ (fun a => by exact Nat.le_of_eq (Nat.zero_add _)) _ _]
      rfl
    isplitl [H5]
    · iexists _; isplitr; swap; · iexact H5
      ipureintro
      rw [View.read_writes_full, show run_masked.sl.r_1 c i arg8 x0 x2 fh0 = rates0 x0 (rows0 c i fh0) x2 from by
          delta run_masked.sl.r_1
          rw [show run_masked.sl.v15 c i arg8 fh0 = rows0 c i fh0 from View.readCov_full arg8.view _ (fun a => by exact Nat.le_of_eq (Nat.zero_add _)) _ _]
          rfl, show run_masked.sl.r_4 c arg4 harg4 x3 = x3 (Shape.Idx.first (Nat.lt_of_sub_eq_succ numel1_S1)) from by
          delta run_masked.sl.r_4
          rw [View.readAt_full, harg4.read_unread]]
      rfl
    isplitl [HS0]
    · iexists _, _; isplitr; swap; · iexact HS0
      ipureintro; rfl
    isplitl [Hq0]; · iexact Hq0
    isplitl [Hh0]; · iexact Hh0
    iexists _; iexact HW

end Cert.KernelIdeal.Run

end

end
-- ==== Proof.KerRun.lean ====
/- The run of the kernel: what each point leaves in its two result blocks, and the launch of the whole program. -/
module

public import proofs.«01_k».proof.Proof.KerBody
public import Idealize.ShloMosaic.Lib.Claim

@[expose] public section

set_option maxRecDepth 16384

noncomputable section

namespace Cert.KernelIdeal.Run

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Of the two conditionals of the body exactly one is taken. -/
theorem cond_iff (i : grid0.Coords) (x0 : Vec F S8x1 .i32) : cond0_1 i x0 ↔ ¬ cond0_0 i x0 := by
  unfold cond0_0 cond0_1
  generalize extractAt ![0, 0, 0] (k0_pay2 x0) inpos_S1x1x1_p0_0_0 = a
  generalize Scalar.cmpi .eq a 100000#32 = b
  obtain rfl | rfl := BitVec.eq_zero_or_eq_one b <;> decide

open Classical in
/-- The block of rates point `t` leaves. -/
def out4 (c : Dev nD) (t : Fin cfg0.N) : Vec F S8x100001 .f32 :=
  if cond0_1 (grid0.coords t) (iblk m c 0 t) then
    rates0 (iblk m c 0 t) (rows0 c (grid0.coords t) (V m c main_v13)) (iblk m c 2 t)
  else k0_pay3 (F := F)

open Classical in
/-- The block of tokens point `t` leaves. -/
def out5 (c : Dev nD) (t : Fin cfg0.N) : Vec F S8x1 .i32 :=
  if cond0_1 (grid0.coords t) (iblk m c 0 t) then
    toks0 (grid0.coords t) (iblk m c 0 t) (iblk m c 1 t) (rows0 c (grid0.coords t) (V m c main_v13)) (iblk m c 2 t) (iblk m c 3 t)
  else k0_pay4 (iblk m c 1 t)

/-- The proof data of the one pipeline on core `c`: the arrays as the region finds them; after the body each input's
    buffer at its block and the outputs at `out4`, `out5`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
    | ⟨5, _⟩ => out5 m c t
  Φ _ := Pipeline.ΦD osem0 spec0 H0 (V m) c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out4 m c t := by dsimp only [dats]
theorem after0_5 (c : Dev nD) (t : Fin cfg0.N) : (dats m 0 c).after 5 t = out5 m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- The body at any point: with the inputs' memrefs at their blocks it returns the outputs at `out4`, `out5`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    after0_0, after0_1, after0_2, after0_3, after0_4, after0_5]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  by_cases h1 : cond0_1 (grid0.coords t) (iblk m c 0 t)
  · have h0 : ¬ cond0_0 (grid0.coords t) (iblk m c 0 t) := (cond_iff _ _).mp h1
    rw [out4, out5, if_pos h1, if_pos h1]
    iintro ⟨⟨HS0, Hg, Hq0, Hh0⟩, ⟨%W, -, HW⟩, ⟨%d0, H0⟩, ⟨%d1, H1⟩, ⟨%d2, H2⟩, ⟨%d3, H3⟩, ⟨%d4, H4⟩, ⟨%d5, H5⟩⟩
    iapply (run_masked c (grid0.coords t) _ _ _ _ _ _ _ _ _ _ _ _ _ _ (iblk m c 0 t) (iblk m c 1 t) (iblk m c 2 t) (iblk m c 3 t) (V m c main_v13) h0 h1 W _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [Hq0]; · iexact Hq0
    isplitl [Hh0]; · iexact Hh0
    isplitl [HW]; · iexact HW
    iintro ⟨H0, H1, H2, H3, H4, H5, HS0, Hq0, Hh0, ⟨%W', HW'⟩⟩
    isplitl [HS0 Hg Hq0 Hh0]
    · isplitl [HS0]
      · iexact HS0
      isplitl [Hg]
      · iexact Hg
      isplitl [Hq0]
      · iexact Hq0
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    iexact H5
  · have h0 : cond0_0 (grid0.coords t) (iblk m c 0 t) := by
      by_contra h; exact h1 ((cond_iff _ _).mpr h)
    rw [out4, out5, if_neg h1, if_neg h1]
    iintro ⟨⟨HS0, Hg, Hq0, Hh0⟩, ⟨%W, -, HW⟩, ⟨%d0, H0⟩, ⟨%d1, H1⟩, ⟨%d2, H2⟩, ⟨%d3, H3⟩, ⟨%d4, H4⟩, ⟨%d5, H5⟩⟩
    iapply (run_unmasked c (grid0.coords t) _ _ _ _ _ _ _ _ _ _ _ _ _ _ (iblk m c 0 t) (iblk m c 1 t) (iblk m c 2 t) (iblk m c 3 t) (V m c main_v13) h0 h1 W _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [Hq0]; · iexact Hq0
    isplitl [Hh0]; · iexact Hh0
    isplitl [HW]; · iexact HW
    iintro ⟨H0, H1, H2, H3, H4, H5, HS0, Hq0, Hh0, ⟨%W', HW'⟩⟩
    isplitl [HS0 Hg Hq0 Hh0]
    · isplitl [HS0]
      · iexact HS0
      isplitl [Hg]
      · iexact Hg
      isplitl [Hq0]
      · iexact Hq0
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    iexact H5
/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- No host operation after the region writes `main_arg0`: it ends as launched. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1, hostOps1_1, hostOps1_2] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1, hostOps1_1, hostOps1_2] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (Pipeline.UD sig nD τ) ℕ (cfgs p) c) (c : Dev nD) :
    Pipeline.afterTail₀ cfgs dats 0 (V0 m) [hostOps1, hostOps1_1, hostOps1_2] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

set_option backward.isDefEq.respectTransparency.types false in
set_option maxHeartbeats 800000 in
/-- The launch: every fair execution of @main ends, each window's array at what the points leave, every other buffer at
    what the host lines compute from that, and every semaphore counter at zero. -/
theorem run_main : θ_run defs (onTc (τ := τ) (main (F := F))) (s₀ m ρ)
    (fun r => Pipeline.FramePost cfgs (dats m) (0 : Fin 1) (Pipeline.afterTail₀ cfgs (dats m) 0 (V0 m) [hostOps1, hostOps1_1, hostOps1_2]) r ∧ r.2.sem = fun _ => 0) :=
  Pipeline.θ_run_frame_dma_around_shared (Q' := _) cfgs (dats m) (0 : Fin 1) launch₀0 osem0 defs₀ Variants.none ownSemFacts0 H0 H0_sub m ρ main
    (hbody := fun c => (body_obligation m c).loose) (hq := fun _ _ _ => rfl)
    (howed := fun _ _ => rfl) (V₀ := V0 m) (opss := [hostOps1, hostOps1_1, hostOps1_2]) (hsub := sfx_but) (hfresh := sfx_fresh) (hkeep := sfx_keeps)
    (hmain := hmain m Variants.none) (hA := A_eq m) (hin := fun _ => .rfl) (hout := fun _ => .rfl)

/-- The frame: every fair execution of @main ends with the arguments as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨(((h.1 c).2 main_arg0 (Pipeline.mem_restRefs_of main_arg0 (by decide) (by decide))).trans (W_main_arg0 m (dats m) c)),
      (((h.1 c).2 main_arg1 (Pipeline.mem_restRefs_of main_arg1 (by decide) (by decide))).trans (W_main_arg1 m (dats m) c)),
      (((h.1 c).2 main_arg2 (Pipeline.mem_restRefs_of main_arg2 (by decide) (by decide))).trans (W_main_arg2 m (dats m) c)),
      ((h.1 c).1 3).trans (((dats m 0 c).arrAt_in 3 rfl _).trans ((A_eq m c 3).trans (V_main_arg3 m c)))⟩, h.2⟩) (run_main m ρ)

end Cert.KernelIdeal.Run

end

end
-- ==== Proof.RefOps.lean ====
/- The reference as a list of host operations, in order. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The values of the argmax of the last axis (its index is `argmaxSnd`). -/
def argmaxFst (x : (⟨S16x16x100001, .f32⟩ : BufTy).Contents (Elt F)) (y : (⟨S16x16x100001, .i32⟩ : BufTy).Contents (Elt F))
    (u : (⟨S_, .f32⟩ : BufTy).Contents (Elt F)) (v : (⟨S_, .i32⟩ : BufTy).Contents (Elt F)) :
    (⟨S16x16, .f32⟩ : BufTy).Contents (Elt F) :=
  fun j => (Host.argReduce reducer_argmax_f32_i32 x y u v reducesTo_S16x16x100001_S16x16_d2 h_S_ j).1

/-- The index of the argmax of the last axis. -/
def argmaxSnd (x : (⟨S16x16x100001, .f32⟩ : BufTy).Contents (Elt F)) (y : (⟨S16x16x100001, .i32⟩ : BufTy).Contents (Elt F))
    (u : (⟨S_, .f32⟩ : BufTy).Contents (Elt F)) (v : (⟨S_, .i32⟩ : BufTy).Contents (Elt F)) :
    (⟨S16x16, .i32⟩ : BufTy).Contents (Elt F) :=
  fun j => (Host.argReduce reducer_argmax_f32_i32 x y u v reducesTo_S16x16x100001_S16x16_d2 h_S_ j).2

/-- The function of the operation that writes `main_v41`, named. It packs its operands into a list of dependent pairs
    whose shapes a later argument's type mentions, so `simp` cannot rewrite an operand where it stands; applied by
    name, the operands are plain arguments, which the window lemmas below rewrite before the name unfolds. -/
def fn_main_v41 : (⟨S1, .i32⟩ : BufTy).Contents (Elt F) → (⟨S1, .i32⟩ : BufTy).Contents (Elt F) → (⟨S2, .i32⟩ : BufTy).Contents (Elt F) :=
  (fun a b => concatenate S2 0 [⟨S1, a⟩, ⟨S1, b⟩] concatenates_S1_S1_S2_d0)

/-- @main's operations 1 … 30 of 352 (window `main_part0`). -/
abbrev ops_part0_0 : List (HloOp τ sig (Elt F)) :=
  [ unary main_arg0 main_v0 (Host.exp : (⟨S16x16x100001, .f32⟩ : BufTy).Contents (Elt F) → (⟨S16x16x100001, .f32⟩ : BufTy).Contents (Elt F)),
    nullary main_c (constantI S_ 32 4294967295#32),
    unary main_c main_v1 (broadcastInDim S16x16 ![] bcast_S_S16x16 : (⟨S_, .i32⟩ : BufTy).Contents (Elt F) → (⟨S16x16, .i32⟩ : BufTy).Contents (Elt F)),
    binary main_arg1 main_v1 main_v2 (cmpi .eq : (⟨S16x16, .i32⟩ : BufTy).Contents (Elt F) → (⟨S16x16, .i32⟩ : BufTy).Contents (Elt F) → (⟨S16x16, .i1⟩ : BufTy).Contents (Elt F)),
    nullary main_c_0 (constantI S_ 32 100000#32),
    TRef.unary (TRef.of (T := ⟨S_, .i32⟩) main_c_0) (TRef.of (T := ⟨S_, .i32⟩) main_call0_v0) id,
    TRef.unary (TRef.of (T := ⟨S_, .i32⟩) main_call0_v0) (TRef.of (T := ⟨S16x16, .i32⟩) main_call0_v1) (broadcastInDim S16x16 ![] bcast_S_S16x16),
    TRef.ternary (TRef.of (T := ⟨S16x16, .i1⟩) main_v2) (TRef.of (T := ⟨S16x16, .i32⟩) main_call0_v1) (TRef.of (T := ⟨S16x16, .i32⟩) main_arg1) (TRef.of (T := ⟨S16x16, .i32⟩) main_v3) select,
    nullary main_cst (constant S_ .f32 0x3F7FBE77#32),
    unary main_cst main_v4 (broadcastInDim S16 ![] bcast_S_S16 : (⟨S_, .f32⟩ : BufTy).Contents (Elt F) → (⟨S16, .f32⟩ : BufTy).Contents (Elt F)),
    binary main_v4 main_arg2 main_v5 (mulf : (⟨S16, .f32⟩ : BufTy).Contents (Elt F) → (⟨S16, .f32⟩ : BufTy).Contents (Elt F) → (⟨S16, .f32⟩ : BufTy).Contents (Elt F)),
    nullary main_cst_1 (constant S_ .f32 0x3F800000#32),
    unary main_cst_1 main_v6 (broadcastInDim S16 ![] bcast_S_S16 : (⟨S_, .f32⟩ : BufTy).Contents (Elt F) → (⟨S16, .f32⟩ : BufTy).Contents (Elt F)),
    binary main_v6 main_v5 main_v7 (subf : (⟨S16, .f32⟩ : BufTy).Contents (Elt F) → (⟨S16, .f32⟩ : BufTy).Contents (Elt F) → (⟨S16, .f32⟩ : BufTy).Contents (Elt F)),
    nullary main_cst_2 (constant S_ .f32 0x3F7FBE77#32),
    unary main_cst_2 main_v8 (broadcastInDim S16 ![] bcast_S_S16 : (⟨S_, .f32⟩ : BufTy).Contents (Elt F) → (⟨S16, .f32⟩ : BufTy).Contents (Elt F)),
    binary main_v8 main_v7 main_v9 (Host.divf : (⟨S16, .f32⟩ : BufTy).Contents (Elt F) → (⟨S16, .f32⟩ : BufTy).Contents (Elt F) → (⟨S16, .f32⟩ : BufTy).Contents (Elt F)),
    unary main_arg0 main_v10 (Host.exp : (⟨S16x16x100001, .f32⟩ : BufTy).Contents (Elt F) → (⟨S16x16x100001, .f32⟩ : BufTy).Contents (Elt F)),
    TRef.unary (TRef.of (T := ⟨S16x16, .i32⟩) main_v3) (TRef.of (T := ⟨S16x16x1, .i32⟩) main_call1_v0) (broadcastInDim S16x16x1 ![0, 1] bcast_S16x16_S16x16x1_0_1),
    TRef.nullary (TRef.of (T := ⟨S1x1x100001, .i32⟩) main_call1_v1) (iotaInDim S1x1x100001 32 2),
    TRef.unary (TRef.of (T := ⟨S16x16x1, .i32⟩) main_call1_v0) (TRef.of (T := ⟨S16x16x100001, .i32⟩) main_call1_v2) (broadcastInDim S16x16x100001 ![0, 1, 2] bcast_S16x16x1_S16x16x100001_0_1_2),
    TRef.unary (TRef.of (T := ⟨S1x1x100001, .i32⟩) main_call1_v1) (TRef.of (T := ⟨S16x16x100001, .i32⟩) main_call1_v3) (broadcastInDim S16x16x100001 ![0, 1, 2] bcast_S1x1x100001_S16x16x100001_0_1_2),
    TRef.binary (TRef.of (T := ⟨S16x16x100001, .i32⟩) main_call1_v2) (TRef.of (T := ⟨S16x16x100001, .i32⟩) main_call1_v3) (TRef.of (T := ⟨S16x16x100001, .i1⟩) main_call1_v4) (cmpi .eq),
    TRef.unary (TRef.of (T := ⟨S16x16x100001, .i1⟩) main_call1_v4) (TRef.of (T := ⟨S16x16x100001, .f32⟩) main_v11) (uitofp .f32),
    unary main_v11 main_v12 (Host.negf : (⟨S16x16x100001, .f32⟩ : BufTy).Contents (Elt F) → (⟨S16x16x100001, .f32⟩ : BufTy).Contents (Elt F)),
    nullary main_c_3 (constantI S_ 32 100000#32),
    unary main_c_3 main_v13 (broadcastInDim S16x16 ![] bcast_S_S16x16 : (⟨S_, .i32⟩ : BufTy).Contents (Elt F) → (⟨S16x16, .i32⟩ : BufTy).Contents (Elt F)),
    binary main_v3 main_v13 main_v14 (cmpi .eq : (⟨S16x16, .i32⟩ : BufTy).Contents (Elt F) → (⟨S16x16, .i32⟩ : BufTy).Contents (Elt F) → (⟨S16x16, .i1⟩ : BufTy).Contents (Elt F)),
    unary main_v14 main_v15 (uitofp .f32 : (⟨S16x16, .i1⟩ : BufTy).Contents (Elt F) → (⟨S16x16, .f32⟩ : BufTy).Contents (Elt F)),
    unary main_v15 main_v16 (broadcastInDim S16x16x1 ![0, 1] bcast_S16x16_S16x16x1_0_1 : (⟨S16x16, .f32⟩ : BufTy).Contents (Elt F) → (⟨S16x16x1, .f32⟩ : BufTy).Contents (Elt F)) ]

/-- @main's operations 31 … 60 of 352 (window `main_part0`). -/
abbrev ops_part0_1 : List (HloOp τ sig (Elt F)) :=
  [ unary main_v16 main_v17 (broadcastInDim S16x16x100001 ![0, 1, 2] bcast_S16x16x1_S16x16x100001_0_1_2 : (⟨S16x16x1, .f32⟩ : BufTy).Contents (Elt F) → (⟨S16x16x100001, .f32⟩ : BufTy).Contents (Elt F)),
    binary main_v12 main_v17 main_v18 (addf : (⟨S16x16x100001, .f32⟩ : BufTy).Contents (Elt F) → (⟨S16x16x100001, .f32⟩ : BufTy).Contents (Elt F) → (⟨S16x16x100001, .f32⟩ : BufTy).Contents (Elt F)),
    binary main_v18 main_v10 main_v19 (mulf : (⟨S16x16x100001, .f32⟩ : BufTy).Contents (Elt F) → (⟨S16x16x100001, .f32⟩ : BufTy).Contents (Elt F) → (⟨S16x16x100001, .f32⟩ : BufTy).Contents (Elt F)),
    nullary main_cst_4 (constant S_ .f32 0x3F800000#32),
    unary main_cst_4 main_v20 (broadcastInDim S16x16x100001 ![] bcast_S_S16x16x100001 : (⟨S_, .f32⟩ : BufTy).Contents (Elt F) → (⟨S16x16x100001, .f32⟩ : BufTy).Contents (Elt F)),
    binary main_v20 main_v11 main_v21 (subf : (⟨S16x16x100001, .f32⟩ : BufTy).Contents (Elt F) → (⟨S16x16x100001, .f32⟩ : BufTy).Contents (Elt F) → (⟨S16x16x100001, .f32⟩ : BufTy).Contents (Elt F)),
    binary main_v19 main_v21 main_v22 (mulf : (⟨S16x16x100001, .f32⟩ : BufTy).Contents (Elt F) → (⟨S16x16x100001, .f32⟩ : BufTy).Contents (Elt F) → (⟨S16x16x100001, .f32⟩ : BufTy).Contents (Elt F)),
    nullary main_cst_5 (constant S_ .f32 0x00000000#32),
    binary main_v22 main_cst_5 main_v23 ((fun x v => Host.reduceAdd x v reducesTo_S16x16x100001_S16x16_d2 h_S_) : (⟨S16x16x100001, .f32⟩ : BufTy).Contents (Elt F) → (⟨S_, .f32⟩ : BufTy).Contents (Elt F) → (⟨S16x16, .f32⟩ : BufTy).Contents (Elt F)),
    unary main_v23 main_v24 (broadcastInDim S16x16x1 ![0, 1] bcast_S16x16_S16x16x1_0_1 : (⟨S16x16, .f32⟩ : BufTy).Contents (Elt F) → (⟨S16x16x1, .f32⟩ : BufTy).Contents (Elt F)),
    unary main_v24 main_v25 (broadcastInDim S16x16x100001 ![0, 1, 2] bcast_S16x16x1_S16x16x100001_0_1_2 : (⟨S16x16x1, .f32⟩ : BufTy).Contents (Elt F) → (⟨S16x16x100001, .f32⟩ : BufTy).Contents (Elt F)),
    binary main_v11 main_v25 main_v26 (mulf : (⟨S16x16x100001, .f32⟩ : BufTy).Contents (Elt F) → (⟨S16x16x100001, .f32⟩ : BufTy).Contents (Elt F) → (⟨S16x16x100001, .f32⟩ : BufTy).Contents (Elt F)),
    binary main_v22 main_v26 main_v27 (subf : (⟨S16x16x100001, .f32⟩ : BufTy).Contents (Elt F) → (⟨S16x16x100001, .f32⟩ : BufTy).Contents (Elt F) → (⟨S16x16x100001, .f32⟩ : BufTy).Contents (Elt F)),
    unary main_v9 main_v28 (broadcastInDim S16x1x1 ![0] bcast_S16_S16x1x1_0 : (⟨S16, .f32⟩ : BufTy).Contents (Elt F) → (⟨S16x1x1, .f32⟩ : BufTy).Contents (Elt F)),
    unary main_v28 main_v29 (broadcastInDim S16x16x100001 ![0, 1, 2] bcast_S16x1x1_S16x16x100001_0_1_2 : (⟨S16x1x1, .f32⟩ : BufTy).Contents (Elt F) → (⟨S16x16x100001, .f32⟩ : BufTy).Contents (Elt F)),
    binary main_v29 main_v27 main_v30 (mulf : (⟨S16x16x100001, .f32⟩ : BufTy).Contents (Elt F) → (⟨S16x16x100001, .f32⟩ : BufTy).Contents (Elt F) → (⟨S16x16x100001, .f32⟩ : BufTy).Contents (Elt F)),
    unary main_arg3 main_v31 (broadcastInDim S1x1x1 ![2] bcast_S1_S1x1x1_2 : (⟨S1, .f32⟩ : BufTy).Contents (Elt F) → (⟨S1x1x1, .f32⟩ : BufTy).Contents (Elt F)),
    unary main_v31 main_v32 (broadcastInDim S16x16x100001 ![0, 1, 2] bcast_S1x1x1_S16x16x100001_0_1_2 : (⟨S1x1x1, .f32⟩ : BufTy).Contents (Elt F) → (⟨S16x16x100001, .f32⟩ : BufTy).Contents (Elt F)),
    binary main_v32 main_v30 main_v33 (mulf : (⟨S16x16x100001, .f32⟩ : BufTy).Contents (Elt F) → (⟨S16x16x100001, .f32⟩ : BufTy).Contents (Elt F) → (⟨S16x16x100001, .f32⟩ : BufTy).Contents (Elt F)),
    binary main_v11 main_v33 main_v34 (addf : (⟨S16x16x100001, .f32⟩ : BufTy).Contents (Elt F) → (⟨S16x16x100001, .f32⟩ : BufTy).Contents (Elt F) → (⟨S16x16x100001, .f32⟩ : BufTy).Contents (Elt F)),
    nullary main_c_6 (constantI S_ 32 1#32),
    nullary main_c_7 (constantI S_ 32 32#32),
    binary main_c_6 main_c_7 main_v35 (Host.shrui : (⟨S_, .i32⟩ : BufTy).Contents (Elt F) → (⟨S_, .i32⟩ : BufTy).Contents (Elt F) → (⟨S_, .i32⟩ : BufTy).Contents (Elt F)),
    unary main_v35 main_v36 (id : (⟨S_, .i32⟩ : BufTy).Contents (Elt F) → (⟨S_, .i32⟩ : BufTy).Contents (Elt F)),
    unary main_v36 main_v37 (broadcastInDim S1 ![] bcast_S_S1 : (⟨S_, .i32⟩ : BufTy).Contents (Elt F) → (⟨S1, .i32⟩ : BufTy).Contents (Elt F)),
    nullary main_c_8 (constantI S_ 32 4294967295#32),
    binary main_c_6 main_c_8 main_v38 (andi : (⟨S_, .i32⟩ : BufTy).Contents (Elt F) → (⟨S_, .i32⟩ : BufTy).Contents (Elt F) → (⟨S_, .i32⟩ : BufTy).Contents (Elt F)),
    unary main_v38 main_v39 (id : (⟨S_, .i32⟩ : BufTy).Contents (Elt F) → (⟨S_, .i32⟩ : BufTy).Contents (Elt F)),
    unary main_v39 main_v40 (broadcastInDim S1 ![] bcast_S_S1 : (⟨S_, .i32⟩ : BufTy).Contents (Elt F) → (⟨S1, .i32⟩ : BufTy).Contents (Elt F)),
    binary main_v37 main_v40 main_v41 (fn_main_v41 (F := F)) ]

/-- @main's operations 61 … 90 of 352 (window `main_part0`). -/
abbrev ops_part0_2 : List (HloOp τ sig (Elt F)) :=
  [ nullary main_cst_9 (constant S_ .f32 0x00000000#32),
    nullary main_cst_10 (constant S_ .f32 0x3F800000#32),
    TRef.unary (TRef.of (T := ⟨S_, .f32⟩) main_cst_9) (TRef.of (T := ⟨S_, .f32⟩) main_call2_v0) id,
    TRef.unary (TRef.of (T := ⟨S_, .f32⟩) main_cst_10) (TRef.of (T := ⟨S_, .f32⟩) main_call2_v1) id,
    TRef.unary (TRef.of (T := ⟨S_, .f32⟩) main_call2_v0) (TRef.of (T := ⟨S1x1x1, .f32⟩) main_call2_v2) (broadcastInDim S1x1x1 ![] bcast_S_S1x1x1),
    TRef.unary (TRef.of (T := ⟨S_, .f32⟩) main_call2_v1) (TRef.of (T := ⟨S1x1x1, .f32⟩) main_call2_v3) (broadcastInDim S1x1x1 ![] bcast_S_S1x1x1),
    TRef.unary (TRef.of (T := ⟨S2, .i32⟩) main_v41) (TRef.of (T := ⟨S1, .i32⟩) main_call2_v4) (extractStridedSlice S1 ![0] · slices_S2_S1_0),
    TRef.reshape (TRef.of (T := ⟨S1, .i32⟩) main_call2_v4) (TRef.of (T := ⟨S_, .i32⟩) main_call2_v5) (rfl : (.i32 : EltTy) = .i32) shapeCasts_S1_S_,
    TRef.unary (TRef.of (T := ⟨S2, .i32⟩) main_v41) (TRef.of (T := ⟨S1, .i32⟩) main_call2_v6) (extractStridedSlice S1 ![1] · slices_S2_S1_1),
    TRef.reshape (TRef.of (T := ⟨S1, .i32⟩) main_call2_v6) (TRef.of (T := ⟨S_, .i32⟩) main_call2_v7) (rfl : (.i32 : EltTy) = .i32) shapeCasts_S1_S_,
    TRef.nullary (TRef.of (T := ⟨S16x16x100001, .i64⟩) main_call2_v8) (iotaInDim S16x16x100001 64 0),
    TRef.nullary (TRef.of (T := ⟨S16x16x100001, .i64⟩) main_call2_v9) (iotaInDim S16x16x100001 64 1),
    TRef.nullary (TRef.of (T := ⟨S16x16x100001, .i64⟩) main_call2_v10) (iotaInDim S16x16x100001 64 2),
    TRef.nullary (TRef.of (T := ⟨S_, .i64⟩) main_call2_c) (constantI S_ 64 1600016#64),
    TRef.unary (TRef.of (T := ⟨S_, .i64⟩) main_call2_c) (TRef.of (T := ⟨S16x16x100001, .i64⟩) main_call2_v11) (broadcastInDim S16x16x100001 ![] bcast_S_S16x16x100001),
    TRef.binary (TRef.of (T := ⟨S16x16x100001, .i64⟩) main_call2_v11) (TRef.of (T := ⟨S16x16x100001, .i64⟩) main_call2_v8) (TRef.of (T := ⟨S16x16x100001, .i64⟩) main_call2_v12) muli,
    TRef.nullary (TRef.of (T := ⟨S_, .i64⟩) main_call2_c_0) (constantI S_ 64 100001#64),
    TRef.unary (TRef.of (T := ⟨S_, .i64⟩) main_call2_c_0) (TRef.of (T := ⟨S16x16x100001, .i64⟩) main_call2_v13) (broadcastInDim S16x16x100001 ![] bcast_S_S16x16x100001),
    TRef.binary (TRef.of (T := ⟨S16x16x100001, .i64⟩) main_call2_v13) (TRef.of (T := ⟨S16x16x100001, .i64⟩) main_call2_v9) (TRef.of (T := ⟨S16x16x100001, .i64⟩) main_call2_v14) muli,
    TRef.nullary (TRef.of (T := ⟨S_, .i64⟩) main_call2_c_1) (constantI S_ 64 1#64),
    TRef.unary (TRef.of (T := ⟨S_, .i64⟩) main_call2_c_1) (TRef.of (T := ⟨S16x16x100001, .i64⟩) main_call2_v15) (broadcastInDim S16x16x100001 ![] bcast_S_S16x16x100001),
    TRef.binary (TRef.of (T := ⟨S16x16x100001, .i64⟩) main_call2_v15) (TRef.of (T := ⟨S16x16x100001, .i64⟩) main_call2_v10) (TRef.of (T := ⟨S16x16x100001, .i64⟩) main_call2_v16) muli,
    TRef.binary (TRef.of (T := ⟨S16x16x100001, .i64⟩) main_call2_v12) (TRef.of (T := ⟨S16x16x100001, .i64⟩) main_call2_v14) (TRef.of (T := ⟨S16x16x100001, .i64⟩) main_call2_v17) addi,
    TRef.binary (TRef.of (T := ⟨S16x16x100001, .i64⟩) main_call2_v17) (TRef.of (T := ⟨S16x16x100001, .i64⟩) main_call2_v16) (TRef.of (T := ⟨S16x16x100001, .i64⟩) main_call2_v18) addi,
    TRef.nullary (TRef.of (T := ⟨S_, .i64⟩) main_call2_c_2) (constantI S_ 64 32#64),
    TRef.unary (TRef.of (T := ⟨S_, .i64⟩) main_call2_c_2) (TRef.of (T := ⟨S16x16x100001, .i64⟩) main_call2_v19) (broadcastInDim S16x16x100001 ![] bcast_S_S16x16x100001),
    TRef.binary (TRef.of (T := ⟨S16x16x100001, .i64⟩) main_call2_v18) (TRef.of (T := ⟨S16x16x100001, .i64⟩) main_call2_v19) (TRef.of (T := ⟨S16x16x100001, .i64⟩) main_call2_v20) Host.shrui,
    TRef.unary (TRef.of (T := ⟨S16x16x100001, .i64⟩) main_call2_v18) (TRef.of (T := ⟨S16x16x100001, .i32⟩) main_call2_v21) (trunci 32 · natLt_32_64),
    TRef.unary (TRef.of (T := ⟨S16x16x100001, .i64⟩) main_call2_v20) (TRef.of (T := ⟨S16x16x100001, .i32⟩) main_call2_v22) (trunci 32 · natLt_32_64),
    TRef.binary (TRef.of (T := ⟨S_, .i32⟩) main_call2_v5) (TRef.of (T := ⟨S_, .i32⟩) main_call2_v7) (TRef.of (T := ⟨S_, .i32⟩) main_call2_call0_v0) xori ]

/-- @main's operations 91 … 120 of 352 (window `main_part0`). -/
abbrev ops_part0_3 : List (HloOp τ sig (Elt F)) :=
  [ TRef.nullary (TRef.of (T := ⟨S_, .i32⟩) main_call2_call0_c) (constantI S_ 32 466688986#32),
    TRef.binary (TRef.of (T := ⟨S_, .i32⟩) main_call2_call0_v0) (TRef.of (T := ⟨S_, .i32⟩) main_call2_call0_c) (TRef.of (T := ⟨S_, .i32⟩) main_call2_call0_v1) xori,
    TRef.unary (TRef.of (T := ⟨S_, .i32⟩) main_call2_v5) (TRef.of (T := ⟨S16x16x100001, .i32⟩) main_call2_call0_v2) (broadcastInDim S16x16x100001 ![] bcast_S_S16x16x100001),
    TRef.binary (TRef.of (T := ⟨S16x16x100001, .i32⟩) main_call2_v22) (TRef.of (T := ⟨S16x16x100001, .i32⟩) main_call2_call0_v2) (TRef.of (T := ⟨S16x16x100001, .i32⟩) main_call2_call0_v3) addi,
    TRef.unary (TRef.of (T := ⟨S_, .i32⟩) main_call2_v7) (TRef.of (T := ⟨S16x16x100001, .i32⟩) main_call2_call0_v4) (broadcastInDim S16x16x100001 ![] bcast_S_S16x16x100001),
    TRef.binary (TRef.of (T := ⟨S16x16x100001, .i32⟩) main_call2_v21) (TRef.of (T := ⟨S16x16x100001, .i32⟩) main_call2_call0_v4) (TRef.of (T := ⟨S16x16x100001, .i32⟩) main_call2_call0_v5) addi,
    TRef.binary (TRef.of (T := ⟨S16x16x100001, .i32⟩) main_call2_call0_v3) (TRef.of (T := ⟨S16x16x100001, .i32⟩) main_call2_call0_v5) (TRef.of (T := ⟨S16x16x100001, .i32⟩) main_call2_call0_v6) addi,
    TRef.nullary (TRef.of (T := ⟨S_, .i32⟩) main_call2_call0_c_0) (constantI S_ 32 13#32),
    TRef.unary (TRef.of (T := ⟨S_, .i32⟩) main_call2_call0_c_0) (TRef.of (T := ⟨S16x16x100001, .i32⟩) main_call2_call0_v7) (broadcastInDim S16x16x100001 ![] bcast_S_S16x16x100001),
    TRef.binary (TRef.of (T := ⟨S16x16x100001, .i32⟩) main_call2_call0_v5) (TRef.of (T := ⟨S16x16x100001, .i32⟩) main_call2_call0_v7) (TRef.of (T := ⟨S16x16x100001, .i32⟩) main_call2_call0_v8) Host.shli,
    TRef.nullary (TRef.of (T := ⟨S_, .i32⟩) main_call2_call0_c_1) (constantI S_ 32 19#32),
    TRef.unary (TRef.of (T := ⟨S_, .i32⟩) main_call2_call0_c_1) (TRef.of (T := ⟨S16x16x100001, .i32⟩) main_call2_call0_v9) (broadcastInDim S16x16x100001 ![] bcast_S_S16x16x100001),
    TRef.binary (TRef.of (T := ⟨S16x16x100001, .i32⟩) main_call2_call0_v5) (TRef.of (T := ⟨S16x16x100001, .i32⟩) main_call2_call0_v9) (TRef.of (T := ⟨S16x16x100001, .i32⟩) main_call2_call0_v10) Host.shrui,
    TRef.binary (TRef.of (T := ⟨S16x16x100001, .i32⟩) main_call2_call0_v8) (TRef.of (T := ⟨S16x16x100001, .i32⟩) main_call2_call0_v10) (TRef.of (T := ⟨S16x16x100001, .i32⟩) main_call2_call0_v11) ori,
    TRef.binary (TRef.of (T := ⟨S16x16x100001, .i32⟩) main_call2_call0_v6) (TRef.of (T := ⟨S16x16x100001, .i32⟩) main_call2_call0_v11) (TRef.of (T := ⟨S16x16x100001, .i32⟩) main_call2_call0_v12) xori,
    TRef.binary (TRef.of (T := ⟨S16x16x100001, .i32⟩) main_call2_call0_v6) (TRef.of (T := ⟨S16x16x100001, .i32⟩) main_call2_call0_v12) (TRef.of (T := ⟨S16x16x100001, .i32⟩) main_call2_call0_v13) addi,
    TRef.nullary (TRef.of (T := ⟨S_, .i32⟩) main_call2_call0_c_2) (constantI S_ 32 15#32),
    TRef.unary (TRef.of (T := ⟨S_, .i32⟩) main_call2_call0_c_2) (TRef.of (T := ⟨S16x16x100001, .i32⟩) main_call2_call0_v14) (broadcastInDim S16x16x100001 ![] bcast_S_S16x16x100001),
    TRef.binary (TRef.of (T := ⟨S16x16x100001, .i32⟩) main_call2_call0_v12) (TRef.of (T := ⟨S16x16x100001, .i32⟩) main_call2_call0_v14) (TRef.of (T := ⟨S16x16x100001, .i32⟩) main_call2_call0_v15) Host.shli,
    TRef.nullary (TRef.of (T := ⟨S_, .i32⟩) main_call2_call0_c_3) (constantI S_ 32 17#32),
    TRef.unary (TRef.of (T := ⟨S_, .i32⟩) main_call2_call0_c_3) (TRef.of (T := ⟨S16x16x100001, .i32⟩) main_call2_call0_v16) (broadcastInDim S16x16x100001 ![] bcast_S_S16x16x100001),
    TRef.binary (TRef.of (T := ⟨S16x16x100001, .i32⟩) main_call2_call0_v12) (TRef.of (T := ⟨S16x16x100001, .i32⟩) main_call2_call0_v16) (TRef.of (T := ⟨S16x16x100001, .i32⟩) main_call2_call0_v17) Host.shrui,
    TRef.binary (TRef.of (T := ⟨S16x16x100001, .i32⟩) main_call2_call0_v15) (TRef.of (T := ⟨S16x16x100001, .i32⟩) main_call2_call0_v17) (TRef.of (T := ⟨S16x16x100001, .i32⟩) main_call2_call0_v18) ori,
    TRef.binary (TRef.of (T := ⟨S16x16x100001, .i32⟩) main_call2_call0_v13) (TRef.of (T := ⟨S16x16x100001, .i32⟩) main_call2_call0_v18) (TRef.of (T := ⟨S16x16x100001, .i32⟩) main_call2_call0_v19) xori,
    TRef.binary (TRef.of (T := ⟨S16x16x100001, .i32⟩) main_call2_call0_v13) (TRef.of (T := ⟨S16x16x100001, .i32⟩) main_call2_call0_v19) (TRef.of (T := ⟨S16x16x100001, .i32⟩) main_call2_call0_v20) addi,
    TRef.nullary (TRef.of (T := ⟨S_, .i32⟩) main_call2_call0_c_4) (constantI S_ 32 26#32),
    TRef.unary (TRef.of (T := ⟨S_, .i32⟩) main_call2_call0_c_4) (TRef.of (T := ⟨S16x16x100001, .i32⟩) main_call2_call0_v21) (broadcastInDim S16x16x100001 ![] bcast_S_S16x16x100001),
    TRef.binary (TRef.of (T := ⟨S16x16x100001, .i32⟩) main_call2_call0_v19) (TRef.of (T := ⟨S16x16x100001, .i32⟩) main_call2_call0_v21) (TRef.of (T := ⟨S16x16x100001, .i32⟩) main_call2_call0_v22) Host.shli,
    TRef.nullary (TRef.of (T := ⟨S_, .i32⟩) main_call2_call0_c_5) (constantI S_ 32 6#32),
    TRef.unary (TRef.of (T := ⟨S_, .i32⟩) main_call2_call0_c_5) (TRef.of (T := ⟨S16x16x100001, .i32⟩) main_call2_call0_v23) (broadcastInDim S16x16x100001 ![] bcast_S_S16x16x100001) ]

/-- @main's operations 121 … 150 of 352 (window `main_part0`). -/
abbrev ops_part0_4 : List (HloOp τ sig (Elt F)) :=
  [ TRef.binary (TRef.of (T := ⟨S16x16x100001, .i32⟩) main_call2_call0_v19) (TRef.of (T := ⟨S16x16x100001, .i32⟩) main_call2_call0_v23) (TRef.of (T := ⟨S16x16x100001, .i32⟩) main_call2_call0_v24) Host.shrui,
    TRef.binary (TRef.of (T := ⟨S16x16x100001, .i32⟩) main_call2_call0_v22) (TRef.of (T := ⟨S16x16x100001, .i32⟩) main_call2_call0_v24) (TRef.of (T := ⟨S16x16x100001, .i32⟩) main_call2_call0_v25) ori,
    TRef.binary (TRef.of (T := ⟨S16x16x100001, .i32⟩) main_call2_call0_v20) (TRef.of (T := ⟨S16x16x100001, .i32⟩) main_call2_call0_v25) (TRef.of (T := ⟨S16x16x100001, .i32⟩) main_call2_call0_v26) xori,
    TRef.binary (TRef.of (T := ⟨S16x16x100001, .i32⟩) main_call2_call0_v20) (TRef.of (T := ⟨S16x16x100001, .i32⟩) main_call2_call0_v26) (TRef.of (T := ⟨S16x16x100001, .i32⟩) main_call2_call0_v27) addi,
    TRef.nullary (TRef.of (T := ⟨S_, .i32⟩) main_call2_call0_c_6) (constantI S_ 32 6#32),
    TRef.unary (TRef.of (T := ⟨S_, .i32⟩) main_call2_call0_c_6) (TRef.of (T := ⟨S16x16x100001, .i32⟩) main_call2_call0_v28) (broadcastInDim S16x16x100001 ![] bcast_S_S16x16x100001),
    TRef.binary (TRef.of (T := ⟨S16x16x100001, .i32⟩) main_call2_call0_v26) (TRef.of (T := ⟨S16x16x100001, .i32⟩) main_call2_call0_v28) (TRef.of (T := ⟨S16x16x100001, .i32⟩) main_call2_call0_v29) Host.shli,
    TRef.nullary (TRef.of (T := ⟨S_, .i32⟩) main_call2_call0_c_7) (constantI S_ 32 26#32),
    TRef.unary (TRef.of (T := ⟨S_, .i32⟩) main_call2_call0_c_7) (TRef.of (T := ⟨S16x16x100001, .i32⟩) main_call2_call0_v30) (broadcastInDim S16x16x100001 ![] bcast_S_S16x16x100001),
    TRef.binary (TRef.of (T := ⟨S16x16x100001, .i32⟩) main_call2_call0_v26) (TRef.of (T := ⟨S16x16x100001, .i32⟩) main_call2_call0_v30) (TRef.of (T := ⟨S16x16x100001, .i32⟩) main_call2_call0_v31) Host.shrui,
    TRef.binary (TRef.of (T := ⟨S16x16x100001, .i32⟩) main_call2_call0_v29) (TRef.of (T := ⟨S16x16x100001, .i32⟩) main_call2_call0_v31) (TRef.of (T := ⟨S16x16x100001, .i32⟩) main_call2_call0_v32) ori,
    TRef.binary (TRef.of (T := ⟨S16x16x100001, .i32⟩) main_call2_call0_v27) (TRef.of (T := ⟨S16x16x100001, .i32⟩) main_call2_call0_v32) (TRef.of (T := ⟨S16x16x100001, .i32⟩) main_call2_call0_v33) xori,
    TRef.unary (TRef.of (T := ⟨S_, .i32⟩) main_call2_v7) (TRef.of (T := ⟨S16x16x100001, .i32⟩) main_call2_call0_v34) (broadcastInDim S16x16x100001 ![] bcast_S_S16x16x100001),
    TRef.binary (TRef.of (T := ⟨S16x16x100001, .i32⟩) main_call2_call0_v27) (TRef.of (T := ⟨S16x16x100001, .i32⟩) main_call2_call0_v34) (TRef.of (T := ⟨S16x16x100001, .i32⟩) main_call2_call0_v35) addi,
    TRef.unary (TRef.of (T := ⟨S_, .i32⟩) main_call2_call0_v1) (TRef.of (T := ⟨S16x16x100001, .i32⟩) main_call2_call0_v36) (broadcastInDim S16x16x100001 ![] bcast_S_S16x16x100001),
    TRef.binary (TRef.of (T := ⟨S16x16x100001, .i32⟩) main_call2_call0_v33) (TRef.of (T := ⟨S16x16x100001, .i32⟩) main_call2_call0_v36) (TRef.of (T := ⟨S16x16x100001, .i32⟩) main_call2_call0_v37) addi,
    TRef.nullary (TRef.of (T := ⟨S_, .i32⟩) main_call2_call0_c_8) (constantI S_ 32 1#32),
    TRef.unary (TRef.of (T := ⟨S_, .i32⟩) main_call2_call0_c_8) (TRef.of (T := ⟨S16x16x100001, .i32⟩) main_call2_call0_v38) (broadcastInDim S16x16x100001 ![] bcast_S_S16x16x100001),
    TRef.binary (TRef.of (T := ⟨S16x16x100001, .i32⟩) main_call2_call0_v37) (TRef.of (T := ⟨S16x16x100001, .i32⟩) main_call2_call0_v38) (TRef.of (T := ⟨S16x16x100001, .i32⟩) main_call2_call0_v39) addi,
    TRef.binary (TRef.of (T := ⟨S16x16x100001, .i32⟩) main_call2_call0_v35) (TRef.of (T := ⟨S16x16x100001, .i32⟩) main_call2_call0_v39) (TRef.of (T := ⟨S16x16x100001, .i32⟩) main_call2_call0_v40) addi,
    TRef.nullary (TRef.of (T := ⟨S_, .i32⟩) main_call2_call0_c_9) (constantI S_ 32 17#32),
    TRef.unary (TRef.of (T := ⟨S_, .i32⟩) main_call2_call0_c_9) (TRef.of (T := ⟨S16x16x100001, .i32⟩) main_call2_call0_v41) (broadcastInDim S16x16x100001 ![] bcast_S_S16x16x100001),
    TRef.binary (TRef.of (T := ⟨S16x16x100001, .i32⟩) main_call2_call0_v39) (TRef.of (T := ⟨S16x16x100001, .i32⟩) main_call2_call0_v41) (TRef.of (T := ⟨S16x16x100001, .i32⟩) main_call2_call0_v42) Host.shli,
    TRef.nullary (TRef.of (T := ⟨S_, .i32⟩) main_call2_call0_c_10) (constantI S_ 32 15#32),
    TRef.unary (TRef.of (T := ⟨S_, .i32⟩) main_call2_call0_c_10) (TRef.of (T := ⟨S16x16x100001, .i32⟩) main_call2_call0_v43) (broadcastInDim S16x16x100001 ![] bcast_S_S16x16x100001),
    TRef.binary (TRef.of (T := ⟨S16x16x100001, .i32⟩) main_call2_call0_v39) (TRef.of (T := ⟨S16x16x100001, .i32⟩) main_call2_call0_v43) (TRef.of (T := ⟨S16x16x100001, .i32⟩) main_call2_call0_v44) Host.shrui,
    TRef.binary (TRef.of (T := ⟨S16x16x100001, .i32⟩) main_call2_call0_v42) (TRef.of (T := ⟨S16x16x100001, .i32⟩) main_call2_call0_v44) (TRef.of (T := ⟨S16x16x100001, .i32⟩) main_call2_call0_v45) ori,
    TRef.binary (TRef.of (T := ⟨S16x16x100001, .i32⟩) main_call2_call0_v40) (TRef.of (T := ⟨S16x16x100001, .i32⟩) main_call2_call0_v45) (TRef.of (T := ⟨S16x16x100001, .i32⟩) main_call2_call0_v46) xori,
    TRef.binary (TRef.of (T := ⟨S16x16x100001, .i32⟩) main_call2_call0_v40) (TRef.of (T := ⟨S16x16x100001, .i32⟩) main_call2_call0_v46) (TRef.of (T := ⟨S16x16x100001, .i32⟩) main_call2_call0_v47) addi,
    TRef.nullary (TRef.of (T := ⟨S_, .i32⟩) main_call2_call0_c_11) (constantI S_ 32 29#32) ]

/-- @main's operations 151 … 180 of 352 (window `main_part0`). -/
abbrev ops_part0_5 : List (HloOp τ sig (Elt F)) :=
  [ TRef.unary (TRef.of (T := ⟨S_, .i32⟩) main_call2_call0_c_11) (TRef.of (T := ⟨S16x16x100001, .i32⟩) main_call2_call0_v48) (broadcastInDim S16x16x100001 ![] bcast_S_S16x16x100001),
    TRef.binary (TRef.of (T := ⟨S16x16x100001, .i32⟩) main_call2_call0_v46) (TRef.of (T := ⟨S16x16x100001, .i32⟩) main_call2_call0_v48) (TRef.of (T := ⟨S16x16x100001, .i32⟩) main_call2_call0_v49) Host.shli,
    TRef.nullary (TRef.of (T := ⟨S_, .i32⟩) main_call2_call0_c_12) (constantI S_ 32 3#32),
    TRef.unary (TRef.of (T := ⟨S_, .i32⟩) main_call2_call0_c_12) (TRef.of (T := ⟨S16x16x100001, .i32⟩) main_call2_call0_v50) (broadcastInDim S16x16x100001 ![] bcast_S_S16x16x100001),
    TRef.binary (TRef.of (T := ⟨S16x16x100001, .i32⟩) main_call2_call0_v46) (TRef.of (T := ⟨S16x16x100001, .i32⟩) main_call2_call0_v50) (TRef.of (T := ⟨S16x16x100001, .i32⟩) main_call2_call0_v51) Host.shrui,
    TRef.binary (TRef.of (T := ⟨S16x16x100001, .i32⟩) main_call2_call0_v49) (TRef.of (T := ⟨S16x16x100001, .i32⟩) main_call2_call0_v51) (TRef.of (T := ⟨S16x16x100001, .i32⟩) main_call2_call0_v52) ori,
    TRef.binary (TRef.of (T := ⟨S16x16x100001, .i32⟩) main_call2_call0_v47) (TRef.of (T := ⟨S16x16x100001, .i32⟩) main_call2_call0_v52) (TRef.of (T := ⟨S16x16x100001, .i32⟩) main_call2_call0_v53) xori,
    TRef.binary (TRef.of (T := ⟨S16x16x100001, .i32⟩) main_call2_call0_v47) (TRef.of (T := ⟨S16x16x100001, .i32⟩) main_call2_call0_v53) (TRef.of (T := ⟨S16x16x100001, .i32⟩) main_call2_call0_v54) addi,
    TRef.nullary (TRef.of (T := ⟨S_, .i32⟩) main_call2_call0_c_13) (constantI S_ 32 16#32),
    TRef.unary (TRef.of (T := ⟨S_, .i32⟩) main_call2_call0_c_13) (TRef.of (T := ⟨S16x16x100001, .i32⟩) main_call2_call0_v55) (broadcastInDim S16x16x100001 ![] bcast_S_S16x16x100001),
    TRef.binary (TRef.of (T := ⟨S16x16x100001, .i32⟩) main_call2_call0_v53) (TRef.of (T := ⟨S16x16x100001, .i32⟩) main_call2_call0_v55) (TRef.of (T := ⟨S16x16x100001, .i32⟩) main_call2_call0_v56) Host.shli,
    TRef.nullary (TRef.of (T := ⟨S_, .i32⟩) main_call2_call0_c_14) (constantI S_ 32 16#32),
    TRef.unary (TRef.of (T := ⟨S_, .i32⟩) main_call2_call0_c_14) (TRef.of (T := ⟨S16x16x100001, .i32⟩) main_call2_call0_v57) (broadcastInDim S16x16x100001 ![] bcast_S_S16x16x100001),
    TRef.binary (TRef.of (T := ⟨S16x16x100001, .i32⟩) main_call2_call0_v53) (TRef.of (T := ⟨S16x16x100001, .i32⟩) main_call2_call0_v57) (TRef.of (T := ⟨S16x16x100001, .i32⟩) main_call2_call0_v58) Host.shrui,
    TRef.binary (TRef.of (T := ⟨S16x16x100001, .i32⟩) main_call2_call0_v56) (TRef.of (T := ⟨S16x16x100001, .i32⟩) main_call2_call0_v58) (TRef.of (T := ⟨S16x16x100001, .i32⟩) main_call2_call0_v59) ori,
    TRef.binary (TRef.of (T := ⟨S16x16x100001, .i32⟩) main_call2_call0_v54) (TRef.of (T := ⟨S16x16x100001, .i32⟩) main_call2_call0_v59) (TRef.of (T := ⟨S16x16x100001, .i32⟩) main_call2_call0_v60) xori,
    TRef.binary (TRef.of (T := ⟨S16x16x100001, .i32⟩) main_call2_call0_v54) (TRef.of (T := ⟨S16x16x100001, .i32⟩) main_call2_call0_v60) (TRef.of (T := ⟨S16x16x100001, .i32⟩) main_call2_call0_v61) addi,
    TRef.nullary (TRef.of (T := ⟨S_, .i32⟩) main_call2_call0_c_15) (constantI S_ 32 24#32),
    TRef.unary (TRef.of (T := ⟨S_, .i32⟩) main_call2_call0_c_15) (TRef.of (T := ⟨S16x16x100001, .i32⟩) main_call2_call0_v62) (broadcastInDim S16x16x100001 ![] bcast_S_S16x16x100001),
    TRef.binary (TRef.of (T := ⟨S16x16x100001, .i32⟩) main_call2_call0_v60) (TRef.of (T := ⟨S16x16x100001, .i32⟩) main_call2_call0_v62) (TRef.of (T := ⟨S16x16x100001, .i32⟩) main_call2_call0_v63) Host.shli,
    TRef.nullary (TRef.of (T := ⟨S_, .i32⟩) main_call2_call0_c_16) (constantI S_ 32 8#32),
    TRef.unary (TRef.of (T := ⟨S_, .i32⟩) main_call2_call0_c_16) (TRef.of (T := ⟨S16x16x100001, .i32⟩) main_call2_call0_v64) (broadcastInDim S16x16x100001 ![] bcast_S_S16x16x100001),
    TRef.binary (TRef.of (T := ⟨S16x16x100001, .i32⟩) main_call2_call0_v60) (TRef.of (T := ⟨S16x16x100001, .i32⟩) main_call2_call0_v64) (TRef.of (T := ⟨S16x16x100001, .i32⟩) main_call2_call0_v65) Host.shrui,
    TRef.binary (TRef.of (T := ⟨S16x16x100001, .i32⟩) main_call2_call0_v63) (TRef.of (T := ⟨S16x16x100001, .i32⟩) main_call2_call0_v65) (TRef.of (T := ⟨S16x16x100001, .i32⟩) main_call2_call0_v66) ori,
    TRef.binary (TRef.of (T := ⟨S16x16x100001, .i32⟩) main_call2_call0_v61) (TRef.of (T := ⟨S16x16x100001, .i32⟩) main_call2_call0_v66) (TRef.of (T := ⟨S16x16x100001, .i32⟩) main_call2_call0_v67) xori,
    TRef.unary (TRef.of (T := ⟨S_, .i32⟩) main_call2_call0_v1) (TRef.of (T := ⟨S16x16x100001, .i32⟩) main_call2_call0_v68) (broadcastInDim S16x16x100001 ![] bcast_S_S16x16x100001),
    TRef.binary (TRef.of (T := ⟨S16x16x100001, .i32⟩) main_call2_call0_v61) (TRef.of (T := ⟨S16x16x100001, .i32⟩) main_call2_call0_v68) (TRef.of (T := ⟨S16x16x100001, .i32⟩) main_call2_call0_v69) addi,
    TRef.unary (TRef.of (T := ⟨S_, .i32⟩) main_call2_v5) (TRef.of (T := ⟨S16x16x100001, .i32⟩) main_call2_call0_v70) (broadcastInDim S16x16x100001 ![] bcast_S_S16x16x100001),
    TRef.binary (TRef.of (T := ⟨S16x16x100001, .i32⟩) main_call2_call0_v67) (TRef.of (T := ⟨S16x16x100001, .i32⟩) main_call2_call0_v70) (TRef.of (T := ⟨S16x16x100001, .i32⟩) main_call2_call0_v71) addi,
    TRef.nullary (TRef.of (T := ⟨S_, .i32⟩) main_call2_call0_c_17) (constantI S_ 32 2#32) ]

/-- @main's operations 181 … 210 of 352 (window `main_part0`). -/
abbrev ops_part0_6 : List (HloOp τ sig (Elt F)) :=
  [ TRef.unary (TRef.of (T := ⟨S_, .i32⟩) main_call2_call0_c_17) (TRef.of (T := ⟨S16x16x100001, .i32⟩) main_call2_call0_v72) (broadcastInDim S16x16x100001 ![] bcast_S_S16x16x100001),
    TRef.binary (TRef.of (T := ⟨S16x16x100001, .i32⟩) main_call2_call0_v71) (TRef.of (T := ⟨S16x16x100001, .i32⟩) main_call2_call0_v72) (TRef.of (T := ⟨S16x16x100001, .i32⟩) main_call2_call0_v73) addi,
    TRef.binary (TRef.of (T := ⟨S16x16x100001, .i32⟩) main_call2_call0_v69) (TRef.of (T := ⟨S16x16x100001, .i32⟩) main_call2_call0_v73) (TRef.of (T := ⟨S16x16x100001, .i32⟩) main_call2_call0_v74) addi,
    TRef.nullary (TRef.of (T := ⟨S_, .i32⟩) main_call2_call0_c_18) (constantI S_ 32 13#32),
    TRef.unary (TRef.of (T := ⟨S_, .i32⟩) main_call2_call0_c_18) (TRef.of (T := ⟨S16x16x100001, .i32⟩) main_call2_call0_v75) (broadcastInDim S16x16x100001 ![] bcast_S_S16x16x100001),
    TRef.binary (TRef.of (T := ⟨S16x16x100001, .i32⟩) main_call2_call0_v73) (TRef.of (T := ⟨S16x16x100001, .i32⟩) main_call2_call0_v75) (TRef.of (T := ⟨S16x16x100001, .i32⟩) main_call2_call0_v76) Host.shli,
    TRef.nullary (TRef.of (T := ⟨S_, .i32⟩) main_call2_call0_c_19) (constantI S_ 32 19#32),
    TRef.unary (TRef.of (T := ⟨S_, .i32⟩) main_call2_call0_c_19) (TRef.of (T := ⟨S16x16x100001, .i32⟩) main_call2_call0_v77) (broadcastInDim S16x16x100001 ![] bcast_S_S16x16x100001),
    TRef.binary (TRef.of (T := ⟨S16x16x100001, .i32⟩) main_call2_call0_v73) (TRef.of (T := ⟨S16x16x100001, .i32⟩) main_call2_call0_v77) (TRef.of (T := ⟨S16x16x100001, .i32⟩) main_call2_call0_v78) Host.shrui,
    TRef.binary (TRef.of (T := ⟨S16x16x100001, .i32⟩) main_call2_call0_v76) (TRef.of (T := ⟨S16x16x100001, .i32⟩) main_call2_call0_v78) (TRef.of (T := ⟨S16x16x100001, .i32⟩) main_call2_call0_v79) ori,
    TRef.binary (TRef.of (T := ⟨S16x16x100001, .i32⟩) main_call2_call0_v74) (TRef.of (T := ⟨S16x16x100001, .i32⟩) main_call2_call0_v79) (TRef.of (T := ⟨S16x16x100001, .i32⟩) main_call2_call0_v80) xori,
    TRef.binary (TRef.of (T := ⟨S16x16x100001, .i32⟩) main_call2_call0_v74) (TRef.of (T := ⟨S16x16x100001, .i32⟩) main_call2_call0_v80) (TRef.of (T := ⟨S16x16x100001, .i32⟩) main_call2_call0_v81) addi,
    TRef.nullary (TRef.of (T := ⟨S_, .i32⟩) main_call2_call0_c_20) (constantI S_ 32 15#32),
    TRef.unary (TRef.of (T := ⟨S_, .i32⟩) main_call2_call0_c_20) (TRef.of (T := ⟨S16x16x100001, .i32⟩) main_call2_call0_v82) (broadcastInDim S16x16x100001 ![] bcast_S_S16x16x100001),
    TRef.binary (TRef.of (T := ⟨S16x16x100001, .i32⟩) main_call2_call0_v80) (TRef.of (T := ⟨S16x16x100001, .i32⟩) main_call2_call0_v82) (TRef.of (T := ⟨S16x16x100001, .i32⟩) main_call2_call0_v83) Host.shli,
    TRef.nullary (TRef.of (T := ⟨S_, .i32⟩) main_call2_call0_c_21) (constantI S_ 32 17#32),
    TRef.unary (TRef.of (T := ⟨S_, .i32⟩) main_call2_call0_c_21) (TRef.of (T := ⟨S16x16x100001, .i32⟩) main_call2_call0_v84) (broadcastInDim S16x16x100001 ![] bcast_S_S16x16x100001),
    TRef.binary (TRef.of (T := ⟨S16x16x100001, .i32⟩) main_call2_call0_v80) (TRef.of (T := ⟨S16x16x100001, .i32⟩) main_call2_call0_v84) (TRef.of (T := ⟨S16x16x100001, .i32⟩) main_call2_call0_v85) Host.shrui,
    TRef.binary (TRef.of (T := ⟨S16x16x100001, .i32⟩) main_call2_call0_v83) (TRef.of (T := ⟨S16x16x100001, .i32⟩) main_call2_call0_v85) (TRef.of (T := ⟨S16x16x100001, .i32⟩) main_call2_call0_v86) ori,
    TRef.binary (TRef.of (T := ⟨S16x16x100001, .i32⟩) main_call2_call0_v81) (TRef.of (T := ⟨S16x16x100001, .i32⟩) main_call2_call0_v86) (TRef.of (T := ⟨S16x16x100001, .i32⟩) main_call2_call0_v87) xori,
    TRef.binary (TRef.of (T := ⟨S16x16x100001, .i32⟩) main_call2_call0_v81) (TRef.of (T := ⟨S16x16x100001, .i32⟩) main_call2_call0_v87) (TRef.of (T := ⟨S16x16x100001, .i32⟩) main_call2_call0_v88) addi,
    TRef.nullary (TRef.of (T := ⟨S_, .i32⟩) main_call2_call0_c_22) (constantI S_ 32 26#32),
    TRef.unary (TRef.of (T := ⟨S_, .i32⟩) main_call2_call0_c_22) (TRef.of (T := ⟨S16x16x100001, .i32⟩) main_call2_call0_v89) (broadcastInDim S16x16x100001 ![] bcast_S_S16x16x100001),
    TRef.binary (TRef.of (T := ⟨S16x16x100001, .i32⟩) main_call2_call0_v87) (TRef.of (T := ⟨S16x16x100001, .i32⟩) main_call2_call0_v89) (TRef.of (T := ⟨S16x16x100001, .i32⟩) main_call2_call0_v90) Host.shli,
    TRef.nullary (TRef.of (T := ⟨S_, .i32⟩) main_call2_call0_c_23) (constantI S_ 32 6#32),
    TRef.unary (TRef.of (T := ⟨S_, .i32⟩) main_call2_call0_c_23) (TRef.of (T := ⟨S16x16x100001, .i32⟩) main_call2_call0_v91) (broadcastInDim S16x16x100001 ![] bcast_S_S16x16x100001),
    TRef.binary (TRef.of (T := ⟨S16x16x100001, .i32⟩) main_call2_call0_v87) (TRef.of (T := ⟨S16x16x100001, .i32⟩) main_call2_call0_v91) (TRef.of (T := ⟨S16x16x100001, .i32⟩) main_call2_call0_v92) Host.shrui,
    TRef.binary (TRef.of (T := ⟨S16x16x100001, .i32⟩) main_call2_call0_v90) (TRef.of (T := ⟨S16x16x100001, .i32⟩) main_call2_call0_v92) (TRef.of (T := ⟨S16x16x100001, .i32⟩) main_call2_call0_v93) ori,
    TRef.binary (TRef.of (T := ⟨S16x16x100001, .i32⟩) main_call2_call0_v88) (TRef.of (T := ⟨S16x16x100001, .i32⟩) main_call2_call0_v93) (TRef.of (T := ⟨S16x16x100001, .i32⟩) main_call2_call0_v94) xori,
    TRef.binary (TRef.of (T := ⟨S16x16x100001, .i32⟩) main_call2_call0_v88) (TRef.of (T := ⟨S16x16x100001, .i32⟩) main_call2_call0_v94) (TRef.of (T := ⟨S16x16x100001, .i32⟩) main_call2_call0_v95) addi ]

/-- @main's operations 211 … 240 of 352 (window `main_part0`). -/
abbrev ops_part0_7 : List (HloOp τ sig (Elt F)) :=
  [ TRef.nullary (TRef.of (T := ⟨S_, .i32⟩) main_call2_call0_c_24) (constantI S_ 32 6#32),
    TRef.unary (TRef.of (T := ⟨S_, .i32⟩) main_call2_call0_c_24) (TRef.of (T := ⟨S16x16x100001, .i32⟩) main_call2_call0_v96) (broadcastInDim S16x16x100001 ![] bcast_S_S16x16x100001),
    TRef.binary (TRef.of (T := ⟨S16x16x100001, .i32⟩) main_call2_call0_v94) (TRef.of (T := ⟨S16x16x100001, .i32⟩) main_call2_call0_v96) (TRef.of (T := ⟨S16x16x100001, .i32⟩) main_call2_call0_v97) Host.shli,
    TRef.nullary (TRef.of (T := ⟨S_, .i32⟩) main_call2_call0_c_25) (constantI S_ 32 26#32),
    TRef.unary (TRef.of (T := ⟨S_, .i32⟩) main_call2_call0_c_25) (TRef.of (T := ⟨S16x16x100001, .i32⟩) main_call2_call0_v98) (broadcastInDim S16x16x100001 ![] bcast_S_S16x16x100001),
    TRef.binary (TRef.of (T := ⟨S16x16x100001, .i32⟩) main_call2_call0_v94) (TRef.of (T := ⟨S16x16x100001, .i32⟩) main_call2_call0_v98) (TRef.of (T := ⟨S16x16x100001, .i32⟩) main_call2_call0_v99) Host.shrui,
    TRef.binary (TRef.of (T := ⟨S16x16x100001, .i32⟩) main_call2_call0_v97) (TRef.of (T := ⟨S16x16x100001, .i32⟩) main_call2_call0_v99) (TRef.of (T := ⟨S16x16x100001, .i32⟩) main_call2_call0_v100) ori,
    TRef.binary (TRef.of (T := ⟨S16x16x100001, .i32⟩) main_call2_call0_v95) (TRef.of (T := ⟨S16x16x100001, .i32⟩) main_call2_call0_v100) (TRef.of (T := ⟨S16x16x100001, .i32⟩) main_call2_call0_v101) xori,
    TRef.unary (TRef.of (T := ⟨S_, .i32⟩) main_call2_v5) (TRef.of (T := ⟨S16x16x100001, .i32⟩) main_call2_call0_v102) (broadcastInDim S16x16x100001 ![] bcast_S_S16x16x100001),
    TRef.binary (TRef.of (T := ⟨S16x16x100001, .i32⟩) main_call2_call0_v95) (TRef.of (T := ⟨S16x16x100001, .i32⟩) main_call2_call0_v102) (TRef.of (T := ⟨S16x16x100001, .i32⟩) main_call2_call0_v103) addi,
    TRef.unary (TRef.of (T := ⟨S_, .i32⟩) main_call2_v7) (TRef.of (T := ⟨S16x16x100001, .i32⟩) main_call2_call0_v104) (broadcastInDim S16x16x100001 ![] bcast_S_S16x16x100001),
    TRef.binary (TRef.of (T := ⟨S16x16x100001, .i32⟩) main_call2_call0_v101) (TRef.of (T := ⟨S16x16x100001, .i32⟩) main_call2_call0_v104) (TRef.of (T := ⟨S16x16x100001, .i32⟩) main_call2_call0_v105) addi,
    TRef.nullary (TRef.of (T := ⟨S_, .i32⟩) main_call2_call0_c_26) (constantI S_ 32 3#32),
    TRef.unary (TRef.of (T := ⟨S_, .i32⟩) main_call2_call0_c_26) (TRef.of (T := ⟨S16x16x100001, .i32⟩) main_call2_call0_v106) (broadcastInDim S16x16x100001 ![] bcast_S_S16x16x100001),
    TRef.binary (TRef.of (T := ⟨S16x16x100001, .i32⟩) main_call2_call0_v105) (TRef.of (T := ⟨S16x16x100001, .i32⟩) main_call2_call0_v106) (TRef.of (T := ⟨S16x16x100001, .i32⟩) main_call2_call0_v107) addi,
    TRef.binary (TRef.of (T := ⟨S16x16x100001, .i32⟩) main_call2_call0_v103) (TRef.of (T := ⟨S16x16x100001, .i32⟩) main_call2_call0_v107) (TRef.of (T := ⟨S16x16x100001, .i32⟩) main_call2_call0_v108) addi,
    TRef.nullary (TRef.of (T := ⟨S_, .i32⟩) main_call2_call0_c_27) (constantI S_ 32 17#32),
    TRef.unary (TRef.of (T := ⟨S_, .i32⟩) main_call2_call0_c_27) (TRef.of (T := ⟨S16x16x100001, .i32⟩) main_call2_call0_v109) (broadcastInDim S16x16x100001 ![] bcast_S_S16x16x100001),
    TRef.binary (TRef.of (T := ⟨S16x16x100001, .i32⟩) main_call2_call0_v107) (TRef.of (T := ⟨S16x16x100001, .i32⟩) main_call2_call0_v109) (TRef.of (T := ⟨S16x16x100001, .i32⟩) main_call2_call0_v110) Host.shli,
    TRef.nullary (TRef.of (T := ⟨S_, .i32⟩) main_call2_call0_c_28) (constantI S_ 32 15#32),
    TRef.unary (TRef.of (T := ⟨S_, .i32⟩) main_call2_call0_c_28) (TRef.of (T := ⟨S16x16x100001, .i32⟩) main_call2_call0_v111) (broadcastInDim S16x16x100001 ![] bcast_S_S16x16x100001),
    TRef.binary (TRef.of (T := ⟨S16x16x100001, .i32⟩) main_call2_call0_v107) (TRef.of (T := ⟨S16x16x100001, .i32⟩) main_call2_call0_v111) (TRef.of (T := ⟨S16x16x100001, .i32⟩) main_call2_call0_v112) Host.shrui,
    TRef.binary (TRef.of (T := ⟨S16x16x100001, .i32⟩) main_call2_call0_v110) (TRef.of (T := ⟨S16x16x100001, .i32⟩) main_call2_call0_v112) (TRef.of (T := ⟨S16x16x100001, .i32⟩) main_call2_call0_v113) ori,
    TRef.binary (TRef.of (T := ⟨S16x16x100001, .i32⟩) main_call2_call0_v108) (TRef.of (T := ⟨S16x16x100001, .i32⟩) main_call2_call0_v113) (TRef.of (T := ⟨S16x16x100001, .i32⟩) main_call2_call0_v114) xori,
    TRef.binary (TRef.of (T := ⟨S16x16x100001, .i32⟩) main_call2_call0_v108) (TRef.of (T := ⟨S16x16x100001, .i32⟩) main_call2_call0_v114) (TRef.of (T := ⟨S16x16x100001, .i32⟩) main_call2_call0_v115) addi,
    TRef.nullary (TRef.of (T := ⟨S_, .i32⟩) main_call2_call0_c_29) (constantI S_ 32 29#32),
    TRef.unary (TRef.of (T := ⟨S_, .i32⟩) main_call2_call0_c_29) (TRef.of (T := ⟨S16x16x100001, .i32⟩) main_call2_call0_v116) (broadcastInDim S16x16x100001 ![] bcast_S_S16x16x100001),
    TRef.binary (TRef.of (T := ⟨S16x16x100001, .i32⟩) main_call2_call0_v114) (TRef.of (T := ⟨S16x16x100001, .i32⟩) main_call2_call0_v116) (TRef.of (T := ⟨S16x16x100001, .i32⟩) main_call2_call0_v117) Host.shli,
    TRef.nullary (TRef.of (T := ⟨S_, .i32⟩) main_call2_call0_c_30) (constantI S_ 32 3#32),
    TRef.unary (TRef.of (T := ⟨S_, .i32⟩) main_call2_call0_c_30) (TRef.of (T := ⟨S16x16x100001, .i32⟩) main_call2_call0_v118) (broadcastInDim S16x16x100001 ![] bcast_S_S16x16x100001) ]

/-- @main's operations 241 … 270 of 352 (window `main_part0`). -/
abbrev ops_part0_8 : List (HloOp τ sig (Elt F)) :=
  [ TRef.binary (TRef.of (T := ⟨S16x16x100001, .i32⟩) main_call2_call0_v114) (TRef.of (T := ⟨S16x16x100001, .i32⟩) main_call2_call0_v118) (TRef.of (T := ⟨S16x16x100001, .i32⟩) main_call2_call0_v119) Host.shrui,
    TRef.binary (TRef.of (T := ⟨S16x16x100001, .i32⟩) main_call2_call0_v117) (TRef.of (T := ⟨S16x16x100001, .i32⟩) main_call2_call0_v119) (TRef.of (T := ⟨S16x16x100001, .i32⟩) main_call2_call0_v120) ori,
    TRef.binary (TRef.of (T := ⟨S16x16x100001, .i32⟩) main_call2_call0_v115) (TRef.of (T := ⟨S16x16x100001, .i32⟩) main_call2_call0_v120) (TRef.of (T := ⟨S16x16x100001, .i32⟩) main_call2_call0_v121) xori,
    TRef.binary (TRef.of (T := ⟨S16x16x100001, .i32⟩) main_call2_call0_v115) (TRef.of (T := ⟨S16x16x100001, .i32⟩) main_call2_call0_v121) (TRef.of (T := ⟨S16x16x100001, .i32⟩) main_call2_call0_v122) addi,
    TRef.nullary (TRef.of (T := ⟨S_, .i32⟩) main_call2_call0_c_31) (constantI S_ 32 16#32),
    TRef.unary (TRef.of (T := ⟨S_, .i32⟩) main_call2_call0_c_31) (TRef.of (T := ⟨S16x16x100001, .i32⟩) main_call2_call0_v123) (broadcastInDim S16x16x100001 ![] bcast_S_S16x16x100001),
    TRef.binary (TRef.of (T := ⟨S16x16x100001, .i32⟩) main_call2_call0_v121) (TRef.of (T := ⟨S16x16x100001, .i32⟩) main_call2_call0_v123) (TRef.of (T := ⟨S16x16x100001, .i32⟩) main_call2_call0_v124) Host.shli,
    TRef.nullary (TRef.of (T := ⟨S_, .i32⟩) main_call2_call0_c_32) (constantI S_ 32 16#32),
    TRef.unary (TRef.of (T := ⟨S_, .i32⟩) main_call2_call0_c_32) (TRef.of (T := ⟨S16x16x100001, .i32⟩) main_call2_call0_v125) (broadcastInDim S16x16x100001 ![] bcast_S_S16x16x100001),
    TRef.binary (TRef.of (T := ⟨S16x16x100001, .i32⟩) main_call2_call0_v121) (TRef.of (T := ⟨S16x16x100001, .i32⟩) main_call2_call0_v125) (TRef.of (T := ⟨S16x16x100001, .i32⟩) main_call2_call0_v126) Host.shrui,
    TRef.binary (TRef.of (T := ⟨S16x16x100001, .i32⟩) main_call2_call0_v124) (TRef.of (T := ⟨S16x16x100001, .i32⟩) main_call2_call0_v126) (TRef.of (T := ⟨S16x16x100001, .i32⟩) main_call2_call0_v127) ori,
    TRef.binary (TRef.of (T := ⟨S16x16x100001, .i32⟩) main_call2_call0_v122) (TRef.of (T := ⟨S16x16x100001, .i32⟩) main_call2_call0_v127) (TRef.of (T := ⟨S16x16x100001, .i32⟩) main_call2_call0_v128) xori,
    TRef.binary (TRef.of (T := ⟨S16x16x100001, .i32⟩) main_call2_call0_v122) (TRef.of (T := ⟨S16x16x100001, .i32⟩) main_call2_call0_v128) (TRef.of (T := ⟨S16x16x100001, .i32⟩) main_call2_call0_v129) addi,
    TRef.nullary (TRef.of (T := ⟨S_, .i32⟩) main_call2_call0_c_33) (constantI S_ 32 24#32),
    TRef.unary (TRef.of (T := ⟨S_, .i32⟩) main_call2_call0_c_33) (TRef.of (T := ⟨S16x16x100001, .i32⟩) main_call2_call0_v130) (broadcastInDim S16x16x100001 ![] bcast_S_S16x16x100001),
    TRef.binary (TRef.of (T := ⟨S16x16x100001, .i32⟩) main_call2_call0_v128) (TRef.of (T := ⟨S16x16x100001, .i32⟩) main_call2_call0_v130) (TRef.of (T := ⟨S16x16x100001, .i32⟩) main_call2_call0_v131) Host.shli,
    TRef.nullary (TRef.of (T := ⟨S_, .i32⟩) main_call2_call0_c_34) (constantI S_ 32 8#32),
    TRef.unary (TRef.of (T := ⟨S_, .i32⟩) main_call2_call0_c_34) (TRef.of (T := ⟨S16x16x100001, .i32⟩) main_call2_call0_v132) (broadcastInDim S16x16x100001 ![] bcast_S_S16x16x100001),
    TRef.binary (TRef.of (T := ⟨S16x16x100001, .i32⟩) main_call2_call0_v128) (TRef.of (T := ⟨S16x16x100001, .i32⟩) main_call2_call0_v132) (TRef.of (T := ⟨S16x16x100001, .i32⟩) main_call2_call0_v133) Host.shrui,
    TRef.binary (TRef.of (T := ⟨S16x16x100001, .i32⟩) main_call2_call0_v131) (TRef.of (T := ⟨S16x16x100001, .i32⟩) main_call2_call0_v133) (TRef.of (T := ⟨S16x16x100001, .i32⟩) main_call2_call0_v134) ori,
    TRef.binary (TRef.of (T := ⟨S16x16x100001, .i32⟩) main_call2_call0_v129) (TRef.of (T := ⟨S16x16x100001, .i32⟩) main_call2_call0_v134) (TRef.of (T := ⟨S16x16x100001, .i32⟩) main_call2_call0_v135) xori,
    TRef.unary (TRef.of (T := ⟨S_, .i32⟩) main_call2_v7) (TRef.of (T := ⟨S16x16x100001, .i32⟩) main_call2_call0_v136) (broadcastInDim S16x16x100001 ![] bcast_S_S16x16x100001),
    TRef.binary (TRef.of (T := ⟨S16x16x100001, .i32⟩) main_call2_call0_v129) (TRef.of (T := ⟨S16x16x100001, .i32⟩) main_call2_call0_v136) (TRef.of (T := ⟨S16x16x100001, .i32⟩) main_call2_call0_v137) addi,
    TRef.unary (TRef.of (T := ⟨S_, .i32⟩) main_call2_call0_v1) (TRef.of (T := ⟨S16x16x100001, .i32⟩) main_call2_call0_v138) (broadcastInDim S16x16x100001 ![] bcast_S_S16x16x100001),
    TRef.binary (TRef.of (T := ⟨S16x16x100001, .i32⟩) main_call2_call0_v135) (TRef.of (T := ⟨S16x16x100001, .i32⟩) main_call2_call0_v138) (TRef.of (T := ⟨S16x16x100001, .i32⟩) main_call2_call0_v139) addi,
    TRef.nullary (TRef.of (T := ⟨S_, .i32⟩) main_call2_call0_c_35) (constantI S_ 32 4#32),
    TRef.unary (TRef.of (T := ⟨S_, .i32⟩) main_call2_call0_c_35) (TRef.of (T := ⟨S16x16x100001, .i32⟩) main_call2_call0_v140) (broadcastInDim S16x16x100001 ![] bcast_S_S16x16x100001),
    TRef.binary (TRef.of (T := ⟨S16x16x100001, .i32⟩) main_call2_call0_v139) (TRef.of (T := ⟨S16x16x100001, .i32⟩) main_call2_call0_v140) (TRef.of (T := ⟨S16x16x100001, .i32⟩) main_call2_call0_v141) addi,
    TRef.binary (TRef.of (T := ⟨S16x16x100001, .i32⟩) main_call2_call0_v137) (TRef.of (T := ⟨S16x16x100001, .i32⟩) main_call2_call0_v141) (TRef.of (T := ⟨S16x16x100001, .i32⟩) main_call2_call0_v142) addi,
    TRef.nullary (TRef.of (T := ⟨S_, .i32⟩) main_call2_call0_c_36) (constantI S_ 32 13#32) ]

/-- @main's operations 271 … 300 of 352 (window `main_part0`). -/
abbrev ops_part0_9 : List (HloOp τ sig (Elt F)) :=
  [ TRef.unary (TRef.of (T := ⟨S_, .i32⟩) main_call2_call0_c_36) (TRef.of (T := ⟨S16x16x100001, .i32⟩) main_call2_call0_v143) (broadcastInDim S16x16x100001 ![] bcast_S_S16x16x100001),
    TRef.binary (TRef.of (T := ⟨S16x16x100001, .i32⟩) main_call2_call0_v141) (TRef.of (T := ⟨S16x16x100001, .i32⟩) main_call2_call0_v143) (TRef.of (T := ⟨S16x16x100001, .i32⟩) main_call2_call0_v144) Host.shli,
    TRef.nullary (TRef.of (T := ⟨S_, .i32⟩) main_call2_call0_c_37) (constantI S_ 32 19#32),
    TRef.unary (TRef.of (T := ⟨S_, .i32⟩) main_call2_call0_c_37) (TRef.of (T := ⟨S16x16x100001, .i32⟩) main_call2_call0_v145) (broadcastInDim S16x16x100001 ![] bcast_S_S16x16x100001),
    TRef.binary (TRef.of (T := ⟨S16x16x100001, .i32⟩) main_call2_call0_v141) (TRef.of (T := ⟨S16x16x100001, .i32⟩) main_call2_call0_v145) (TRef.of (T := ⟨S16x16x100001, .i32⟩) main_call2_call0_v146) Host.shrui,
    TRef.binary (TRef.of (T := ⟨S16x16x100001, .i32⟩) main_call2_call0_v144) (TRef.of (T := ⟨S16x16x100001, .i32⟩) main_call2_call0_v146) (TRef.of (T := ⟨S16x16x100001, .i32⟩) main_call2_call0_v147) ori,
    TRef.binary (TRef.of (T := ⟨S16x16x100001, .i32⟩) main_call2_call0_v142) (TRef.of (T := ⟨S16x16x100001, .i32⟩) main_call2_call0_v147) (TRef.of (T := ⟨S16x16x100001, .i32⟩) main_call2_call0_v148) xori,
    TRef.binary (TRef.of (T := ⟨S16x16x100001, .i32⟩) main_call2_call0_v142) (TRef.of (T := ⟨S16x16x100001, .i32⟩) main_call2_call0_v148) (TRef.of (T := ⟨S16x16x100001, .i32⟩) main_call2_call0_v149) addi,
    TRef.nullary (TRef.of (T := ⟨S_, .i32⟩) main_call2_call0_c_38) (constantI S_ 32 15#32),
    TRef.unary (TRef.of (T := ⟨S_, .i32⟩) main_call2_call0_c_38) (TRef.of (T := ⟨S16x16x100001, .i32⟩) main_call2_call0_v150) (broadcastInDim S16x16x100001 ![] bcast_S_S16x16x100001),
    TRef.binary (TRef.of (T := ⟨S16x16x100001, .i32⟩) main_call2_call0_v148) (TRef.of (T := ⟨S16x16x100001, .i32⟩) main_call2_call0_v150) (TRef.of (T := ⟨S16x16x100001, .i32⟩) main_call2_call0_v151) Host.shli,
    TRef.nullary (TRef.of (T := ⟨S_, .i32⟩) main_call2_call0_c_39) (constantI S_ 32 17#32),
    TRef.unary (TRef.of (T := ⟨S_, .i32⟩) main_call2_call0_c_39) (TRef.of (T := ⟨S16x16x100001, .i32⟩) main_call2_call0_v152) (broadcastInDim S16x16x100001 ![] bcast_S_S16x16x100001),
    TRef.binary (TRef.of (T := ⟨S16x16x100001, .i32⟩) main_call2_call0_v148) (TRef.of (T := ⟨S16x16x100001, .i32⟩) main_call2_call0_v152) (TRef.of (T := ⟨S16x16x100001, .i32⟩) main_call2_call0_v153) Host.shrui,
    TRef.binary (TRef.of (T := ⟨S16x16x100001, .i32⟩) main_call2_call0_v151) (TRef.of (T := ⟨S16x16x100001, .i32⟩) main_call2_call0_v153) (TRef.of (T := ⟨S16x16x100001, .i32⟩) main_call2_call0_v154) ori,
    TRef.binary (TRef.of (T := ⟨S16x16x100001, .i32⟩) main_call2_call0_v149) (TRef.of (T := ⟨S16x16x100001, .i32⟩) main_call2_call0_v154) (TRef.of (T := ⟨S16x16x100001, .i32⟩) main_call2_call0_v155) xori,
    TRef.binary (TRef.of (T := ⟨S16x16x100001, .i32⟩) main_call2_call0_v149) (TRef.of (T := ⟨S16x16x100001, .i32⟩) main_call2_call0_v155) (TRef.of (T := ⟨S16x16x100001, .i32⟩) main_call2_call0_v156) addi,
    TRef.nullary (TRef.of (T := ⟨S_, .i32⟩) main_call2_call0_c_40) (constantI S_ 32 26#32),
    TRef.unary (TRef.of (T := ⟨S_, .i32⟩) main_call2_call0_c_40) (TRef.of (T := ⟨S16x16x100001, .i32⟩) main_call2_call0_v157) (broadcastInDim S16x16x100001 ![] bcast_S_S16x16x100001),
    TRef.binary (TRef.of (T := ⟨S16x16x100001, .i32⟩) main_call2_call0_v155) (TRef.of (T := ⟨S16x16x100001, .i32⟩) main_call2_call0_v157) (TRef.of (T := ⟨S16x16x100001, .i32⟩) main_call2_call0_v158) Host.shli,
    TRef.nullary (TRef.of (T := ⟨S_, .i32⟩) main_call2_call0_c_41) (constantI S_ 32 6#32),
    TRef.unary (TRef.of (T := ⟨S_, .i32⟩) main_call2_call0_c_41) (TRef.of (T := ⟨S16x16x100001, .i32⟩) main_call2_call0_v159) (broadcastInDim S16x16x100001 ![] bcast_S_S16x16x100001),
    TRef.binary (TRef.of (T := ⟨S16x16x100001, .i32⟩) main_call2_call0_v155) (TRef.of (T := ⟨S16x16x100001, .i32⟩) main_call2_call0_v159) (TRef.of (T := ⟨S16x16x100001, .i32⟩) main_call2_call0_v160) Host.shrui,
    TRef.binary (TRef.of (T := ⟨S16x16x100001, .i32⟩) main_call2_call0_v158) (TRef.of (T := ⟨S16x16x100001, .i32⟩) main_call2_call0_v160) (TRef.of (T := ⟨S16x16x100001, .i32⟩) main_call2_call0_v161) ori,
    TRef.binary (TRef.of (T := ⟨S16x16x100001, .i32⟩) main_call2_call0_v156) (TRef.of (T := ⟨S16x16x100001, .i32⟩) main_call2_call0_v161) (TRef.of (T := ⟨S16x16x100001, .i32⟩) main_call2_call0_v162) xori,
    TRef.binary (TRef.of (T := ⟨S16x16x100001, .i32⟩) main_call2_call0_v156) (TRef.of (T := ⟨S16x16x100001, .i32⟩) main_call2_call0_v162) (TRef.of (T := ⟨S16x16x100001, .i32⟩) main_call2_call0_v163) addi,
    TRef.nullary (TRef.of (T := ⟨S_, .i32⟩) main_call2_call0_c_42) (constantI S_ 32 6#32),
    TRef.unary (TRef.of (T := ⟨S_, .i32⟩) main_call2_call0_c_42) (TRef.of (T := ⟨S16x16x100001, .i32⟩) main_call2_call0_v164) (broadcastInDim S16x16x100001 ![] bcast_S_S16x16x100001),
    TRef.binary (TRef.of (T := ⟨S16x16x100001, .i32⟩) main_call2_call0_v162) (TRef.of (T := ⟨S16x16x100001, .i32⟩) main_call2_call0_v164) (TRef.of (T := ⟨S16x16x100001, .i32⟩) main_call2_call0_v165) Host.shli,
    TRef.nullary (TRef.of (T := ⟨S_, .i32⟩) main_call2_call0_c_43) (constantI S_ 32 26#32) ]

/-- @main's operations 301 … 330 of 352 (window `main_part0`). -/
abbrev ops_part0_10 : List (HloOp τ sig (Elt F)) :=
  [ TRef.unary (TRef.of (T := ⟨S_, .i32⟩) main_call2_call0_c_43) (TRef.of (T := ⟨S16x16x100001, .i32⟩) main_call2_call0_v166) (broadcastInDim S16x16x100001 ![] bcast_S_S16x16x100001),
    TRef.binary (TRef.of (T := ⟨S16x16x100001, .i32⟩) main_call2_call0_v162) (TRef.of (T := ⟨S16x16x100001, .i32⟩) main_call2_call0_v166) (TRef.of (T := ⟨S16x16x100001, .i32⟩) main_call2_call0_v167) Host.shrui,
    TRef.binary (TRef.of (T := ⟨S16x16x100001, .i32⟩) main_call2_call0_v165) (TRef.of (T := ⟨S16x16x100001, .i32⟩) main_call2_call0_v167) (TRef.of (T := ⟨S16x16x100001, .i32⟩) main_call2_call0_v168) ori,
    TRef.binary (TRef.of (T := ⟨S16x16x100001, .i32⟩) main_call2_call0_v163) (TRef.of (T := ⟨S16x16x100001, .i32⟩) main_call2_call0_v168) (TRef.of (T := ⟨S16x16x100001, .i32⟩) main_call2_call0_v169) xori,
    TRef.unary (TRef.of (T := ⟨S_, .i32⟩) main_call2_call0_v1) (TRef.of (T := ⟨S16x16x100001, .i32⟩) main_call2_call0_v170) (broadcastInDim S16x16x100001 ![] bcast_S_S16x16x100001),
    TRef.binary (TRef.of (T := ⟨S16x16x100001, .i32⟩) main_call2_call0_v163) (TRef.of (T := ⟨S16x16x100001, .i32⟩) main_call2_call0_v170) (TRef.of (T := ⟨S16x16x100001, .i32⟩) main_call2_v23_0) addi,
    TRef.unary (TRef.of (T := ⟨S_, .i32⟩) main_call2_v5) (TRef.of (T := ⟨S16x16x100001, .i32⟩) main_call2_call0_v172) (broadcastInDim S16x16x100001 ![] bcast_S_S16x16x100001),
    TRef.binary (TRef.of (T := ⟨S16x16x100001, .i32⟩) main_call2_call0_v169) (TRef.of (T := ⟨S16x16x100001, .i32⟩) main_call2_call0_v172) (TRef.of (T := ⟨S16x16x100001, .i32⟩) main_call2_call0_v173) addi,
    TRef.nullary (TRef.of (T := ⟨S_, .i32⟩) main_call2_call0_c_44) (constantI S_ 32 5#32),
    TRef.unary (TRef.of (T := ⟨S_, .i32⟩) main_call2_call0_c_44) (TRef.of (T := ⟨S16x16x100001, .i32⟩) main_call2_call0_v174) (broadcastInDim S16x16x100001 ![] bcast_S_S16x16x100001),
    TRef.binary (TRef.of (T := ⟨S16x16x100001, .i32⟩) main_call2_call0_v173) (TRef.of (T := ⟨S16x16x100001, .i32⟩) main_call2_call0_v174) (TRef.of (T := ⟨S16x16x100001, .i32⟩) main_call2_v23_1) addi,
    TRef.binary (TRef.of (T := ⟨S16x16x100001, .i32⟩) main_call2_v23_0) (TRef.of (T := ⟨S16x16x100001, .i32⟩) main_call2_v23_1) (TRef.of (T := ⟨S16x16x100001, .i32⟩) main_call2_v24) xori,
    TRef.nullary (TRef.of (T := ⟨S_, .i32⟩) main_call2_c_3) (constantI S_ 32 9#32),
    TRef.unary (TRef.of (T := ⟨S_, .i32⟩) main_call2_c_3) (TRef.of (T := ⟨S16x16x100001, .i32⟩) main_call2_v25) (broadcastInDim S16x16x100001 ![] bcast_S_S16x16x100001),
    TRef.binary (TRef.of (T := ⟨S16x16x100001, .i32⟩) main_call2_v24) (TRef.of (T := ⟨S16x16x100001, .i32⟩) main_call2_v25) (TRef.of (T := ⟨S16x16x100001, .i32⟩) main_call2_v26) Host.shrui,
    TRef.nullary (TRef.of (T := ⟨S_, .i32⟩) main_call2_c_4) (constantI S_ 32 1065353216#32),
    TRef.unary (TRef.of (T := ⟨S_, .i32⟩) main_call2_c_4) (TRef.of (T := ⟨S16x16x100001, .i32⟩) main_call2_v27) (broadcastInDim S16x16x100001 ![] bcast_S_S16x16x100001),
    TRef.binary (TRef.of (T := ⟨S16x16x100001, .i32⟩) main_call2_v26) (TRef.of (T := ⟨S16x16x100001, .i32⟩) main_call2_v27) (TRef.of (T := ⟨S16x16x100001, .i32⟩) main_call2_v28) ori,
    TRef.unary (TRef.of (T := ⟨S16x16x100001, .i32⟩) main_call2_v28) (TRef.of (T := ⟨S16x16x100001, .f32⟩) main_call2_v29) (bitcastToFloat (F := F) .f32),
    TRef.nullary (TRef.of (T := ⟨S_, .f32⟩) main_call2_cst) (constant S_ .f32 0x3F800000#32),
    TRef.unary (TRef.of (T := ⟨S_, .f32⟩) main_call2_cst) (TRef.of (T := ⟨S16x16x100001, .f32⟩) main_call2_v30) (broadcastInDim S16x16x100001 ![] bcast_S_S16x16x100001),
    TRef.binary (TRef.of (T := ⟨S16x16x100001, .f32⟩) main_call2_v29) (TRef.of (T := ⟨S16x16x100001, .f32⟩) main_call2_v30) (TRef.of (T := ⟨S16x16x100001, .f32⟩) main_call2_v31) subf,
    TRef.binary (TRef.of (T := ⟨S1x1x1, .f32⟩) main_call2_v3) (TRef.of (T := ⟨S1x1x1, .f32⟩) main_call2_v2) (TRef.of (T := ⟨S1x1x1, .f32⟩) main_call2_v32) subf,
    TRef.unary (TRef.of (T := ⟨S1x1x1, .f32⟩) main_call2_v32) (TRef.of (T := ⟨S16x16x100001, .f32⟩) main_call2_v33) (broadcastInDim S16x16x100001 ![0, 1, 2] bcast_S1x1x1_S16x16x100001_0_1_2),
    TRef.binary (TRef.of (T := ⟨S16x16x100001, .f32⟩) main_call2_v31) (TRef.of (T := ⟨S16x16x100001, .f32⟩) main_call2_v33) (TRef.of (T := ⟨S16x16x100001, .f32⟩) main_call2_v34) mulf,
    TRef.unary (TRef.of (T := ⟨S1x1x1, .f32⟩) main_call2_v2) (TRef.of (T := ⟨S16x16x100001, .f32⟩) main_call2_v35) (broadcastInDim S16x16x100001 ![0, 1, 2] bcast_S1x1x1_S16x16x100001_0_1_2),
    TRef.binary (TRef.of (T := ⟨S16x16x100001, .f32⟩) main_call2_v34) (TRef.of (T := ⟨S16x16x100001, .f32⟩) main_call2_v35) (TRef.of (T := ⟨S16x16x100001, .f32⟩) main_call2_v36) addf,
    TRef.unary (TRef.of (T := ⟨S1x1x1, .f32⟩) main_call2_v2) (TRef.of (T := ⟨S16x16x100001, .f32⟩) main_call2_v37) (broadcastInDim S16x16x100001 ![0, 1, 2] bcast_S1x1x1_S16x16x100001_0_1_2),
    TRef.binary (TRef.of (T := ⟨S16x16x100001, .f32⟩) main_call2_v37) (TRef.of (T := ⟨S16x16x100001, .f32⟩) main_call2_v36) (TRef.of (T := ⟨S16x16x100001, .f32⟩) main_v42) maximumf,
    nullary main_cst_11 (constant S_ .f32 0x3F7FFFEF#32) ]

/-- @main's operations 331 … 333 of 352 (window `main_part0`). -/
abbrev ops_part0_11 : List (HloOp τ sig (Elt F)) :=
  [ unary main_cst_11 main_v43 (broadcastInDim S16x16x100001 ![] bcast_S_S16x16x100001 : (⟨S_, .f32⟩ : BufTy).Contents (Elt F) → (⟨S16x16x100001, .f32⟩ : BufTy).Contents (Elt F)),
    binary main_v43 main_v42 main_v44 (mulf : (⟨S16x16x100001, .f32⟩ : BufTy).Contents (Elt F) → (⟨S16x16x100001, .f32⟩ : BufTy).Contents (Elt F) → (⟨S16x16x100001, .f32⟩ : BufTy).Contents (Elt F)),
    nullary main_cst_12 (constant S_ .f32 0x358637BD#32) ]

/-- Window `main_part0`'s operations. Not an abbreviation: `main_eq` below splits `ops` into the windows and no further. -/
def ops_part0 : List (HloOp τ sig (Elt F)) :=
  ops_part0_0 ++ (ops_part0_1 ++ (ops_part0_2 ++ (ops_part0_3 ++ (ops_part0_4 ++ (ops_part0_5 ++ (ops_part0_6 ++ (ops_part0_7 ++ (ops_part0_8 ++ (ops_part0_9 ++ (ops_part0_10 ++ (ops_part0_11)))))))))))

/-- @main's operations 334 … 352 of 352 (window `main_part1`). -/
abbrev ops_part1 : List (HloOp τ sig (Elt F)) :=
  [ unary main_cst_12 main_v45 (broadcastInDim S16x16x100001 ![] bcast_S_S16x16x100001 : (⟨S_, .f32⟩ : BufTy).Contents (Elt F) → (⟨S16x16x100001, .f32⟩ : BufTy).Contents (Elt F)),
    binary main_v45 main_v44 main_v46 (addf : (⟨S16x16x100001, .f32⟩ : BufTy).Contents (Elt F) → (⟨S16x16x100001, .f32⟩ : BufTy).Contents (Elt F) → (⟨S16x16x100001, .f32⟩ : BufTy).Contents (Elt F)),
    unary main_v46 main_v47 (Host.log : (⟨S16x16x100001, .f32⟩ : BufTy).Contents (Elt F) → (⟨S16x16x100001, .f32⟩ : BufTy).Contents (Elt F)),
    nullary main_cst_13 (constant S_ .f32 0x358637BD#32),
    unary main_cst_13 main_v48 (broadcastInDim S16x16x100001 ![] bcast_S_S16x16x100001 : (⟨S_, .f32⟩ : BufTy).Contents (Elt F) → (⟨S16x16x100001, .f32⟩ : BufTy).Contents (Elt F)),
    binary main_v48 main_v47 main_v49 (subf : (⟨S16x16x100001, .f32⟩ : BufTy).Contents (Elt F) → (⟨S16x16x100001, .f32⟩ : BufTy).Contents (Elt F) → (⟨S16x16x100001, .f32⟩ : BufTy).Contents (Elt F)),
    binary main_v34 main_v49 main_v50 (Host.divf : (⟨S16x16x100001, .f32⟩ : BufTy).Contents (Elt F) → (⟨S16x16x100001, .f32⟩ : BufTy).Contents (Elt F) → (⟨S16x16x100001, .f32⟩ : BufTy).Contents (Elt F)),
    TRef.nullary (TRef.of (T := ⟨S16x16x100001, .i32⟩) main_call3_v0) (iotaInDim S16x16x100001 32 2),
    TRef.nullary (TRef.of (T := ⟨S_, .f32⟩) main_call3_cst) (constant S_ .f32 0xFF800000#32),
    TRef.nullary (TRef.of (T := ⟨S_, .i32⟩) main_call3_c) (constantI S_ 32 0#32),
    TRef.quaternary (TRef.of (T := ⟨S16x16x100001, .f32⟩) main_v50) (TRef.of (T := ⟨S16x16x100001, .i32⟩) main_call3_v0) (TRef.of (T := ⟨S_, .f32⟩) main_call3_cst) (TRef.of (T := ⟨S_, .i32⟩) main_call3_c) (TRef.of (T := ⟨S16x16, .f32⟩) main_call3_v1_0) argmaxFst,
    TRef.quaternary (TRef.of (T := ⟨S16x16x100001, .f32⟩) main_v50) (TRef.of (T := ⟨S16x16x100001, .i32⟩) main_call3_v0) (TRef.of (T := ⟨S_, .f32⟩) main_call3_cst) (TRef.of (T := ⟨S_, .i32⟩) main_call3_c) (TRef.of (T := ⟨S16x16, .i32⟩) main_v51) argmaxSnd,
    nullary main_c_14 (constantI S_ 32 100000#32),
    unary main_c_14 main_v52 (broadcastInDim S16x16 ![] bcast_S_S16x16 : (⟨S_, .i32⟩ : BufTy).Contents (Elt F) → (⟨S16x16, .i32⟩ : BufTy).Contents (Elt F)),
    binary main_v51 main_v52 main_v53 (cmpi .eq : (⟨S16x16, .i32⟩ : BufTy).Contents (Elt F) → (⟨S16x16, .i32⟩ : BufTy).Contents (Elt F) → (⟨S16x16, .i1⟩ : BufTy).Contents (Elt F)),
    nullary main_c_15 (constantI S_ 32 4294967295#32),
    TRef.unary (TRef.of (T := ⟨S_, .i32⟩) main_c_15) (TRef.of (T := ⟨S_, .i32⟩) main_call4_v0) id,
    TRef.unary (TRef.of (T := ⟨S_, .i32⟩) main_call4_v0) (TRef.of (T := ⟨S16x16, .i32⟩) main_call4_v1) (broadcastInDim S16x16 ![] bcast_S_S16x16),
    TRef.ternary (TRef.of (T := ⟨S16x16, .i1⟩) main_v53) (TRef.of (T := ⟨S16x16, .i32⟩) main_call4_v1) (TRef.of (T := ⟨S16x16, .i32⟩) main_v51) (TRef.of (T := ⟨S16x16, .i32⟩) main_v54) select ]

/-- @main's 352 operations, in order (a called function's operations stand in its call's place, spelt `TRef.…`). -/
abbrev ops : List (HloOp τ sig (Elt F)) :=
  ops_part0 ++ (ops_part1)

end Cert.ReferenceIdeal.Value

end

end
-- ==== Proof.RefMain.lean ====
/- The reference is its list of operations, which touch only its own buffers. -/
module

public import proofs.«01_k».proof.Proof.Gen.ReferenceIdeal
public import Idealize.ShloMosaic.Lib.StableHlo.Run
public import Idealize.ShloMosaic.Lib.Pipeline.Frame
public import proofs.«01_k».proof.Proof.RefOps

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]
set_option maxRecDepth 8192 in
set_option maxHeartbeats 4000000 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨unary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., nullary_bufs_sub .., unary_bufs_sub .., unary_bufs_sub .., binary_bufs_sub .., unary_bufs_sub .., unary_bufs_sub .., nullary_bufs_sub .., unary_bufs_sub .., binary_bufs_sub .., unary_bufs_sub .., unary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨unary_bufs_sub .., binary_bufs_sub .., binary_bufs_sub .., nullary_bufs_sub .., unary_bufs_sub .., binary_bufs_sub .., binary_bufs_sub .., nullary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., nullary_bufs_sub .., nullary_bufs_sub .., binary_bufs_sub .., unary_bufs_sub .., unary_bufs_sub .., nullary_bufs_sub .., binary_bufs_sub .., unary_bufs_sub .., unary_bufs_sub .., binary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨nullary_bufs_sub .., nullary_bufs_sub .., unary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., unary_bufs_sub .., unary_bufs_sub .., binary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_3_sub : (ops_part0_3 : List (HloOp τ sig (Elt F))).Forall fun op => op.bufs ⊆ tcRefs τ sig :=
  ⟨nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub ..⟩
set_option maxRecDepth 8192 in
theorem ops_part0_3_fresh : (ops_part0_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_4_sub : (ops_part0_4 : List (HloOp τ sig (Elt F))).Forall fun op => op.bufs ⊆ tcRefs τ sig :=
  ⟨binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub ..⟩
set_option maxRecDepth 8192 in
theorem ops_part0_4_fresh : (ops_part0_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_5_sub : (ops_part0_5 : List (HloOp τ sig (Elt F))).Forall fun op => op.bufs ⊆ tcRefs τ sig :=
  ⟨unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub ..⟩
set_option maxRecDepth 8192 in
theorem ops_part0_5_fresh : (ops_part0_5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_6_sub : (ops_part0_6 : List (HloOp τ sig (Elt F))).Forall fun op => op.bufs ⊆ tcRefs τ sig :=
  ⟨unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub ..⟩
set_option maxRecDepth 8192 in
theorem ops_part0_6_fresh : (ops_part0_6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_7_sub : (ops_part0_7 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub ..⟩
set_option maxRecDepth 8192 in
theorem ops_part0_7_fresh : (ops_part0_7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_8_sub : (ops_part0_8 : List (HloOp τ sig (Elt F))).Forall fun op => op.bufs ⊆ tcRefs τ sig :=
  ⟨binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub ..⟩
set_option maxRecDepth 8192 in
theorem ops_part0_8_fresh : (ops_part0_8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_9_sub : (ops_part0_9 : List (HloOp τ sig (Elt F))).Forall fun op => op.bufs ⊆ tcRefs τ sig :=
  ⟨unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub ..⟩
set_option maxRecDepth 8192 in
theorem ops_part0_9_fresh : (ops_part0_9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_10_sub : (ops_part0_10 : List (HloOp τ sig (Elt F))).Forall fun op => op.bufs ⊆ tcRefs τ sig :=
  ⟨unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub .., unary_bufs_sub .., binary_bufs_sub .., unary_bufs_sub .., binary_bufs_sub .., nullary_bufs_sub ..⟩
set_option maxRecDepth 8192 in
theorem ops_part0_10_fresh : (ops_part0_10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_11_sub : (ops_part0_11 : List (HloOp τ sig (Elt F))).Forall fun op => op.bufs ⊆ tcRefs τ sig :=
  ⟨unary_bufs_sub .., binary_bufs_sub .., nullary_bufs_sub ..⟩
set_option maxRecDepth 8192 in
theorem ops_part0_11_fresh : (ops_part0_11 : List (HloOp τ sig (Elt F))).Forall fun op => op.fresh = ∅ :=
  ⟨rfl, rfl, rfl⟩
set_option maxRecDepth 8192 in
theorem ops_part1_sub : (ops_part1 : List (HloOp τ sig (Elt F))).Forall fun op => op.bufs ⊆ tcRefs τ sig :=
  ⟨unary_bufs_sub .., binary_bufs_sub .., unary_bufs_sub .., nullary_bufs_sub .., unary_bufs_sub .., binary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., unary_bufs_sub .., ternary_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, List.mem_append, or_assoc] at h
    rcases h with h | h | h | h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part0_3_sub op h, List.forall_iff_forall_mem.mp ops_part0_4_sub op h, List.forall_iff_forall_mem.mp ops_part0_5_sub op h, List.forall_iff_forall_mem.mp ops_part0_6_sub op h, List.forall_iff_forall_mem.mp ops_part0_7_sub op h, List.forall_iff_forall_mem.mp ops_part0_8_sub op h, List.forall_iff_forall_mem.mp ops_part0_9_sub op h, List.forall_iff_forall_mem.mp ops_part0_10_sub op h, List.forall_iff_forall_mem.mp ops_part0_11_sub op h, List.forall_iff_forall_mem.mp ops_part1_sub op h]
theorem ops_fresh : ∀ op ∈ (ops : List (HloOp τ sig (Elt F))), op.fresh = ∅ := fun op h => by
    simp only [ops, ops_part0, List.mem_append, or_assoc] at h
    rcases h with h | h | h | h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part0_3_fresh op h, List.forall_iff_forall_mem.mp ops_part0_4_fresh op h, List.forall_iff_forall_mem.mp ops_part0_5_fresh op h, List.forall_iff_forall_mem.mp ops_part0_6_fresh op h, List.forall_iff_forall_mem.mp ops_part0_7_fresh op h, List.forall_iff_forall_mem.mp ops_part0_8_fresh op h, List.forall_iff_forall_mem.mp ops_part0_9_fresh op h, List.forall_iff_forall_mem.mp ops_part0_10_fresh op h, List.forall_iff_forall_mem.mp ops_part0_11_fresh op h, List.forall_iff_forall_mem.mp ops_part1_fresh op h]

end Cert.ReferenceIdeal.Value

end

end
-- ==== Proof.RefTerms.lean ====
/- What the buffers of the reference hold, each a term of the arguments and of earlier ones. -/
module

public import proofs.«01_k».proof.Proof.Gen.ReferenceIdeal
public import Idealize.ShloMosaic.Lib.StableHlo.Run
public import Idealize.ShloMosaic.Lib.Pipeline.Frame
public import proofs.«01_k».proof.Proof.RefOps

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]
set_option maxRecDepth 8192 in
/-- `main_v3`'s composed term of the arguments (named: it is used 2 times). -/
def res_main_v3 (V0 : Valuation τ sig (Elt F)) : (Proc.devRef .tc main_v3 : DevRef τ sig).ty.Contents (Elt F) :=
  select (cmpi .eq (V0 (Proc.devRef .tc main_arg1)) (broadcastInDim S16x16 ![] bcast_S_S16x16 (constantI S_ 32 4294967295#32))) (broadcastInDim S16x16 ![] bcast_S_S16x16 (id (constantI S_ 32 100000#32))) (V0 (Proc.devRef .tc main_arg1))

set_option maxRecDepth 8192 in
/-- `main_v11`'s composed term of the arguments (named: it is used 4 times). -/
def res_main_v11 (V0 : Valuation τ sig (Elt F)) : (Proc.devRef .tc main_v11 : DevRef τ sig).ty.Contents (Elt F) :=
  uitofp .f32 (cmpi .eq (broadcastInDim S16x16x100001 ![0, 1, 2] bcast_S16x16x1_S16x16x100001_0_1_2 (broadcastInDim S16x16x1 ![0, 1] bcast_S16x16_S16x16x1_0_1 (res_main_v3 V0))) (broadcastInDim S16x16x100001 ![0, 1, 2] bcast_S1x1x100001_S16x16x100001_0_1_2 (iotaInDim S1x1x100001 32 2)))

set_option maxRecDepth 8192 in
/-- `main_v22`'s composed term of the arguments (named: it is used 2 times). -/
def res_main_v22 (V0 : Valuation τ sig (Elt F)) : (Proc.devRef .tc main_v22 : DevRef τ sig).ty.Contents (Elt F) :=
  mulf (mulf (addf (Host.negf (res_main_v11 V0)) (broadcastInDim S16x16x100001 ![0, 1, 2] bcast_S16x16x1_S16x16x100001_0_1_2 (broadcastInDim S16x16x1 ![0, 1] bcast_S16x16_S16x16x1_0_1 (uitofp .f32 (cmpi .eq (res_main_v3 V0) (broadcastInDim S16x16 ![] bcast_S_S16x16 (constantI S_ 32 100000#32))))))) (Host.exp (V0 (Proc.devRef .tc main_arg0)))) (subf (broadcastInDim S16x16x100001 ![] bcast_S_S16x16x100001 (constant S_ .f32 0x3F800000#32)) (res_main_v11 V0))

set_option maxRecDepth 8192 in
/-- `main_c_6`'s composed term of the arguments (named: it is used 2 times). -/
def res_main_c_6 (V0 : Valuation τ sig (Elt F)) : (Proc.devRef .tc main_c_6 : DevRef τ sig).ty.Contents (Elt F) :=
  constantI S_ 32 1#32

set_option maxRecDepth 8192 in
/-- `main_v41`'s composed term of the arguments (named: it is used 2 times). -/
def res_main_v41 (V0 : Valuation τ sig (Elt F)) : (Proc.devRef .tc main_v41 : DevRef τ sig).ty.Contents (Elt F) :=
  concatenate S2 0 [⟨S1, (broadcastInDim S1 ![] bcast_S_S1 (id (Host.shrui (res_main_c_6 V0) (constantI S_ 32 32#32))))⟩, ⟨S1, (broadcastInDim S1 ![] bcast_S_S1 (id (andi (res_main_c_6 V0) (constantI S_ 32 4294967295#32))))⟩] concatenates_S1_S1_S2_d0

set_option maxRecDepth 8192 in
/-- `main_call2_v2`'s composed term of the arguments (named: it is used 3 times). -/
def res_main_call2_v2 (V0 : Valuation τ sig (Elt F)) : (Proc.devRef .tc main_call2_v2 : DevRef τ sig).ty.Contents (Elt F) :=
  broadcastInDim S1x1x1 ![] bcast_S_S1x1x1 (id (constant S_ .f32 0x00000000#32))

set_option maxRecDepth 8192 in
/-- `main_call2_v5`'s composed term of the arguments (named: it is used 5 times). -/
def res_main_call2_v5 (V0 : Valuation τ sig (Elt F)) : (Proc.devRef .tc main_call2_v5 : DevRef τ sig).ty.Contents (Elt F) :=
  shapeCast _ (extractStridedSlice S1 ![0] (res_main_v41 V0) slices_S2_S1_0) shapeCasts_S1_S_

set_option maxRecDepth 8192 in
/-- `main_call2_v7`'s composed term of the arguments (named: it is used 5 times). -/
def res_main_call2_v7 (V0 : Valuation τ sig (Elt F)) : (Proc.devRef .tc main_call2_v7 : DevRef τ sig).ty.Contents (Elt F) :=
  shapeCast _ (extractStridedSlice S1 ![1] (res_main_v41 V0) slices_S2_S1_1) shapeCasts_S1_S_

set_option maxRecDepth 8192 in
/-- `main_call2_v18`'s composed term of the arguments (named: it is used 2 times). -/
def res_main_call2_v18 (V0 : Valuation τ sig (Elt F)) : (Proc.devRef .tc main_call2_v18 : DevRef τ sig).ty.Contents (Elt F) :=
  addi (addi (muli (broadcastInDim S16x16x100001 ![] bcast_S_S16x16x100001 (constantI S_ 64 1600016#64)) (iotaInDim S16x16x100001 64 0)) (muli (broadcastInDim S16x16x100001 ![] bcast_S_S16x16x100001 (constantI S_ 64 100001#64)) (iotaInDim S16x16x100001 64 1))) (muli (broadcastInDim S16x16x100001 ![] bcast_S_S16x16x100001 (constantI S_ 64 1#64)) (iotaInDim S16x16x100001 64 2))

set_option maxRecDepth 8192 in
/-- `main_call2_call0_v1`'s composed term of the arguments (named: it is used 4 times). -/
def res_main_call2_call0_v1 (V0 : Valuation τ sig (Elt F)) : (Proc.devRef .tc main_call2_call0_v1 : DevRef τ sig).ty.Contents (Elt F) :=
  xori (xori (res_main_call2_v5 V0) (res_main_call2_v7 V0)) (constantI S_ 32 466688986#32)

set_option maxRecDepth 8192 in
/-- `main_call2_call0_v5`'s composed term of the arguments (named: it is used 3 times). -/
def res_main_call2_call0_v5 (V0 : Valuation τ sig (Elt F)) : (Proc.devRef .tc main_call2_call0_v5 : DevRef τ sig).ty.Contents (Elt F) :=
  addi (trunci 32 (res_main_call2_v18 V0) natLt_32_64) (broadcastInDim S16x16x100001 ![] bcast_S_S16x16x100001 (res_main_call2_v7 V0))

set_option maxRecDepth 8192 in
/-- `main_call2_call0_v6`'s composed term of the arguments (named: it is used 2 times). -/
def res_main_call2_call0_v6 (V0 : Valuation τ sig (Elt F)) : (Proc.devRef .tc main_call2_call0_v6 : DevRef τ sig).ty.Contents (Elt F) :=
  addi (addi (trunci 32 (Host.shrui (res_main_call2_v18 V0) (broadcastInDim S16x16x100001 ![] bcast_S_S16x16x100001 (constantI S_ 64 32#64))) natLt_32_64) (broadcastInDim S16x16x100001 ![] bcast_S_S16x16x100001 (res_main_call2_v5 V0))) (res_main_call2_call0_v5 V0)

set_option maxRecDepth 8192 in
/-- `main_call2_call0_v12`'s composed term of the arguments (named: it is used 3 times). -/
def res_main_call2_call0_v12 (V0 : Valuation τ sig (Elt F)) : (Proc.devRef .tc main_call2_call0_v12 : DevRef τ sig).ty.Contents (Elt F) :=
  xori (res_main_call2_call0_v6 V0) (ori (Host.shli (res_main_call2_call0_v5 V0) (broadcastInDim S16x16x100001 ![] bcast_S_S16x16x100001 (constantI S_ 32 13#32))) (Host.shrui (res_main_call2_call0_v5 V0) (broadcastInDim S16x16x100001 ![] bcast_S_S16x16x100001 (constantI S_ 32 19#32))))

set_option maxRecDepth 8192 in
/-- `main_call2_call0_v13`'s composed term of the arguments (named: it is used 2 times). -/
def res_main_call2_call0_v13 (V0 : Valuation τ sig (Elt F)) : (Proc.devRef .tc main_call2_call0_v13 : DevRef τ sig).ty.Contents (Elt F) :=
  addi (res_main_call2_call0_v6 V0) (res_main_call2_call0_v12 V0)

set_option maxRecDepth 8192 in
/-- `main_call2_call0_v19`'s composed term of the arguments (named: it is used 3 times). -/
def res_main_call2_call0_v19 (V0 : Valuation τ sig (Elt F)) : (Proc.devRef .tc main_call2_call0_v19 : DevRef τ sig).ty.Contents (Elt F) :=
  xori (res_main_call2_call0_v13 V0) (ori (Host.shli (res_main_call2_call0_v12 V0) (broadcastInDim S16x16x100001 ![] bcast_S_S16x16x100001 (constantI S_ 32 15#32))) (Host.shrui (res_main_call2_call0_v12 V0) (broadcastInDim S16x16x100001 ![] bcast_S_S16x16x100001 (constantI S_ 32 17#32))))

set_option maxRecDepth 8192 in
/-- `main_call2_call0_v20`'s composed term of the arguments (named: it is used 2 times). -/
def res_main_call2_call0_v20 (V0 : Valuation τ sig (Elt F)) : (Proc.devRef .tc main_call2_call0_v20 : DevRef τ sig).ty.Contents (Elt F) :=
  addi (res_main_call2_call0_v13 V0) (res_main_call2_call0_v19 V0)

set_option maxRecDepth 8192 in
/-- `main_call2_call0_v26`'s composed term of the arguments (named: it is used 3 times). -/
def res_main_call2_call0_v26 (V0 : Valuation τ sig (Elt F)) : (Proc.devRef .tc main_call2_call0_v26 : DevRef τ sig).ty.Contents (Elt F) :=
  xori (res_main_call2_call0_v20 V0) (ori (Host.shli (res_main_call2_call0_v19 V0) (broadcastInDim S16x16x100001 ![] bcast_S_S16x16x100001 (constantI S_ 32 26#32))) (Host.shrui (res_main_call2_call0_v19 V0) (broadcastInDim S16x16x100001 ![] bcast_S_S16x16x100001 (constantI S_ 32 6#32))))

set_option maxRecDepth 8192 in
/-- `main_call2_call0_v27`'s composed term of the arguments (named: it is used 2 times). -/
def res_main_call2_call0_v27 (V0 : Valuation τ sig (Elt F)) : (Proc.devRef .tc main_call2_call0_v27 : DevRef τ sig).ty.Contents (Elt F) :=
  addi (res_main_call2_call0_v20 V0) (res_main_call2_call0_v26 V0)

set_option maxRecDepth 8192 in
/-- `main_call2_call0_v39`'s composed term of the arguments (named: it is used 3 times). -/
def res_main_call2_call0_v39 (V0 : Valuation τ sig (Elt F)) : (Proc.devRef .tc main_call2_call0_v39 : DevRef τ sig).ty.Contents (Elt F) :=
  addi (addi (xori (res_main_call2_call0_v27 V0) (ori (Host.shli (res_main_call2_call0_v26 V0) (broadcastInDim S16x16x100001 ![] bcast_S_S16x16x100001 (constantI S_ 32 6#32))) (Host.shrui (res_main_call2_call0_v26 V0) (broadcastInDim S16x16x100001 ![] bcast_S_S16x16x100001 (constantI S_ 32 26#32))))) (broadcastInDim S16x16x100001 ![] bcast_S_S16x16x100001 (res_main_call2_call0_v1 V0))) (broadcastInDim S16x16x100001 ![] bcast_S_S16x16x100001 (constantI S_ 32 1#32))

set_option maxRecDepth 8192 in
/-- `main_call2_call0_v40`'s composed term of the arguments (named: it is used 2 times). -/
def res_main_call2_call0_v40 (V0 : Valuation τ sig (Elt F)) : (Proc.devRef .tc main_call2_call0_v40 : DevRef τ sig).ty.Contents (Elt F) :=
  addi (addi (res_main_call2_call0_v27 V0) (broadcastInDim S16x16x100001 ![] bcast_S_S16x16x100001 (res_main_call2_v7 V0))) (res_main_call2_call0_v39 V0)

set_option maxRecDepth 8192 in
/-- `main_call2_call0_v46`'s composed term of the arguments (named: it is used 3 times). -/
def res_main_call2_call0_v46 (V0 : Valuation τ sig (Elt F)) : (Proc.devRef .tc main_call2_call0_v46 : DevRef τ sig).ty.Contents (Elt F) :=
  xori (res_main_call2_call0_v40 V0) (ori (Host.shli (res_main_call2_call0_v39 V0) (broadcastInDim S16x16x100001 ![] bcast_S_S16x16x100001 (constantI S_ 32 17#32))) (Host.shrui (res_main_call2_call0_v39 V0) (broadcastInDim S16x16x100001 ![] bcast_S_S16x16x100001 (constantI S_ 32 15#32))))

set_option maxRecDepth 8192 in
/-- `main_call2_call0_v47`'s composed term of the arguments (named: it is used 2 times). -/
def res_main_call2_call0_v47 (V0 : Valuation τ sig (Elt F)) : (Proc.devRef .tc main_call2_call0_v47 : DevRef τ sig).ty.Contents (Elt F) :=
  addi (res_main_call2_call0_v40 V0) (res_main_call2_call0_v46 V0)

set_option maxRecDepth 8192 in
/-- `main_call2_call0_v53`'s composed term of the arguments (named: it is used 3 times). -/
def res_main_call2_call0_v53 (V0 : Valuation τ sig (Elt F)) : (Proc.devRef .tc main_call2_call0_v53 : DevRef τ sig).ty.Contents (Elt F) :=
  xori (res_main_call2_call0_v47 V0) (ori (Host.shli (res_main_call2_call0_v46 V0) (broadcastInDim S16x16x100001 ![] bcast_S_S16x16x100001 (constantI S_ 32 29#32))) (Host.shrui (res_main_call2_call0_v46 V0) (broadcastInDim S16x16x100001 ![] bcast_S_S16x16x100001 (constantI S_ 32 3#32))))

set_option maxRecDepth 8192 in
/-- `main_call2_call0_v54`'s composed term of the arguments (named: it is used 2 times). -/
def res_main_call2_call0_v54 (V0 : Valuation τ sig (Elt F)) : (Proc.devRef .tc main_call2_call0_v54 : DevRef τ sig).ty.Contents (Elt F) :=
  addi (res_main_call2_call0_v47 V0) (res_main_call2_call0_v53 V0)

set_option maxRecDepth 8192 in
/-- `main_call2_call0_v60`'s composed term of the arguments (named: it is used 3 times). -/
def res_main_call2_call0_v60 (V0 : Valuation τ sig (Elt F)) : (Proc.devRef .tc main_call2_call0_v60 : DevRef τ sig).ty.Contents (Elt F) :=
  xori (res_main_call2_call0_v54 V0) (ori (Host.shli (res_main_call2_call0_v53 V0) (broadcastInDim S16x16x100001 ![] bcast_S_S16x16x100001 (constantI S_ 32 16#32))) (Host.shrui (res_main_call2_call0_v53 V0) (broadcastInDim S16x16x100001 ![] bcast_S_S16x16x100001 (constantI S_ 32 16#32))))

set_option maxRecDepth 8192 in
/-- `main_call2_call0_v61`'s composed term of the arguments (named: it is used 2 times). -/
def res_main_call2_call0_v61 (V0 : Valuation τ sig (Elt F)) : (Proc.devRef .tc main_call2_call0_v61 : DevRef τ sig).ty.Contents (Elt F) :=
  addi (res_main_call2_call0_v54 V0) (res_main_call2_call0_v60 V0)

set_option maxRecDepth 8192 in
/-- `main_call2_call0_v73`'s composed term of the arguments (named: it is used 3 times). -/
def res_main_call2_call0_v73 (V0 : Valuation τ sig (Elt F)) : (Proc.devRef .tc main_call2_call0_v73 : DevRef τ sig).ty.Contents (Elt F) :=
  addi (addi (xori (res_main_call2_call0_v61 V0) (ori (Host.shli (res_main_call2_call0_v60 V0) (broadcastInDim S16x16x100001 ![] bcast_S_S16x16x100001 (constantI S_ 32 24#32))) (Host.shrui (res_main_call2_call0_v60 V0) (broadcastInDim S16x16x100001 ![] bcast_S_S16x16x100001 (constantI S_ 32 8#32))))) (broadcastInDim S16x16x100001 ![] bcast_S_S16x16x100001 (res_main_call2_v5 V0))) (broadcastInDim S16x16x100001 ![] bcast_S_S16x16x100001 (constantI S_ 32 2#32))

set_option maxRecDepth 8192 in
/-- `main_call2_call0_v74`'s composed term of the arguments (named: it is used 2 times). -/
def res_main_call2_call0_v74 (V0 : Valuation τ sig (Elt F)) : (Proc.devRef .tc main_call2_call0_v74 : DevRef τ sig).ty.Contents (Elt F) :=
  addi (addi (res_main_call2_call0_v61 V0) (broadcastInDim S16x16x100001 ![] bcast_S_S16x16x100001 (res_main_call2_call0_v1 V0))) (res_main_call2_call0_v73 V0)

set_option maxRecDepth 8192 in
/-- `main_call2_call0_v80`'s composed term of the arguments (named: it is used 3 times). -/
def res_main_call2_call0_v80 (V0 : Valuation τ sig (Elt F)) : (Proc.devRef .tc main_call2_call0_v80 : DevRef τ sig).ty.Contents (Elt F) :=
  xori (res_main_call2_call0_v74 V0) (ori (Host.shli (res_main_call2_call0_v73 V0) (broadcastInDim S16x16x100001 ![] bcast_S_S16x16x100001 (constantI S_ 32 13#32))) (Host.shrui (res_main_call2_call0_v73 V0) (broadcastInDim S16x16x100001 ![] bcast_S_S16x16x100001 (constantI S_ 32 19#32))))

set_option maxRecDepth 8192 in
/-- `main_call2_call0_v81`'s composed term of the arguments (named: it is used 2 times). -/
def res_main_call2_call0_v81 (V0 : Valuation τ sig (Elt F)) : (Proc.devRef .tc main_call2_call0_v81 : DevRef τ sig).ty.Contents (Elt F) :=
  addi (res_main_call2_call0_v74 V0) (res_main_call2_call0_v80 V0)

set_option maxRecDepth 8192 in
/-- `main_call2_call0_v87`'s composed term of the arguments (named: it is used 3 times). -/
def res_main_call2_call0_v87 (V0 : Valuation τ sig (Elt F)) : (Proc.devRef .tc main_call2_call0_v87 : DevRef τ sig).ty.Contents (Elt F) :=
  xori (res_main_call2_call0_v81 V0) (ori (Host.shli (res_main_call2_call0_v80 V0) (broadcastInDim S16x16x100001 ![] bcast_S_S16x16x100001 (constantI S_ 32 15#32))) (Host.shrui (res_main_call2_call0_v80 V0) (broadcastInDim S16x16x100001 ![] bcast_S_S16x16x100001 (constantI S_ 32 17#32))))

set_option maxRecDepth 8192 in
/-- `main_call2_call0_v88`'s composed term of the arguments (named: it is used 2 times). -/
def res_main_call2_call0_v88 (V0 : Valuation τ sig (Elt F)) : (Proc.devRef .tc main_call2_call0_v88 : DevRef τ sig).ty.Contents (Elt F) :=
  addi (res_main_call2_call0_v81 V0) (res_main_call2_call0_v87 V0)

set_option maxRecDepth 8192 in
/-- `main_call2_call0_v94`'s composed term of the arguments (named: it is used 3 times). -/
def res_main_call2_call0_v94 (V0 : Valuation τ sig (Elt F)) : (Proc.devRef .tc main_call2_call0_v94 : DevRef τ sig).ty.Contents (Elt F) :=
  xori (res_main_call2_call0_v88 V0) (ori (Host.shli (res_main_call2_call0_v87 V0) (broadcastInDim S16x16x100001 ![] bcast_S_S16x16x100001 (constantI S_ 32 26#32))) (Host.shrui (res_main_call2_call0_v87 V0) (broadcastInDim S16x16x100001 ![] bcast_S_S16x16x100001 (constantI S_ 32 6#32))))

set_option maxRecDepth 8192 in
/-- `main_call2_call0_v95`'s composed term of the arguments (named: it is used 2 times). -/
def res_main_call2_call0_v95 (V0 : Valuation τ sig (Elt F)) : (Proc.devRef .tc main_call2_call0_v95 : DevRef τ sig).ty.Contents (Elt F) :=
  addi (res_main_call2_call0_v88 V0) (res_main_call2_call0_v94 V0)

set_option maxRecDepth 8192 in
/-- `main_call2_call0_v107`'s composed term of the arguments (named: it is used 3 times). -/
def res_main_call2_call0_v107 (V0 : Valuation τ sig (Elt F)) : (Proc.devRef .tc main_call2_call0_v107 : DevRef τ sig).ty.Contents (Elt F) :=
  addi (addi (xori (res_main_call2_call0_v95 V0) (ori (Host.shli (res_main_call2_call0_v94 V0) (broadcastInDim S16x16x100001 ![] bcast_S_S16x16x100001 (constantI S_ 32 6#32))) (Host.shrui (res_main_call2_call0_v94 V0) (broadcastInDim S16x16x100001 ![] bcast_S_S16x16x100001 (constantI S_ 32 26#32))))) (broadcastInDim S16x16x100001 ![] bcast_S_S16x16x100001 (res_main_call2_v7 V0))) (broadcastInDim S16x16x100001 ![] bcast_S_S16x16x100001 (constantI S_ 32 3#32))

set_option maxRecDepth 8192 in
/-- `main_call2_call0_v108`'s composed term of the arguments (named: it is used 2 times). -/
def res_main_call2_call0_v108 (V0 : Valuation τ sig (Elt F)) : (Proc.devRef .tc main_call2_call0_v108 : DevRef τ sig).ty.Contents (Elt F) :=
  addi (addi (res_main_call2_call0_v95 V0) (broadcastInDim S16x16x100001 ![] bcast_S_S16x16x100001 (res_main_call2_v5 V0))) (res_main_call2_call0_v107 V0)

set_option maxRecDepth 8192 in
/-- `main_call2_call0_v114`'s composed term of the arguments (named: it is used 3 times). -/
def res_main_call2_call0_v114 (V0 : Valuation τ sig (Elt F)) : (Proc.devRef .tc main_call2_call0_v114 : DevRef τ sig).ty.Contents (Elt F) :=
  xori (res_main_call2_call0_v108 V0) (ori (Host.shli (res_main_call2_call0_v107 V0) (broadcastInDim S16x16x100001 ![] bcast_S_S16x16x100001 (constantI S_ 32 17#32))) (Host.shrui (res_main_call2_call0_v107 V0) (broadcastInDim S16x16x100001 ![] bcast_S_S16x16x100001 (constantI S_ 32 15#32))))

set_option maxRecDepth 8192 in
/-- `main_call2_call0_v115`'s composed term of the arguments (named: it is used 2 times). -/
def res_main_call2_call0_v115 (V0 : Valuation τ sig (Elt F)) : (Proc.devRef .tc main_call2_call0_v115 : DevRef τ sig).ty.Contents (Elt F) :=
  addi (res_main_call2_call0_v108 V0) (res_main_call2_call0_v114 V0)

set_option maxRecDepth 8192 in
/-- `main_call2_call0_v121`'s composed term of the arguments (named: it is used 3 times). -/
def res_main_call2_call0_v121 (V0 : Valuation τ sig (Elt F)) : (Proc.devRef .tc main_call2_call0_v121 : DevRef τ sig).ty.Contents (Elt F) :=
  xori (res_main_call2_call0_v115 V0) (ori (Host.shli (res_main_call2_call0_v114 V0) (broadcastInDim S16x16x100001 ![] bcast_S_S16x16x100001 (constantI S_ 32 29#32))) (Host.shrui (res_main_call2_call0_v114 V0) (broadcastInDim S16x16x100001 ![] bcast_S_S16x16x100001 (constantI S_ 32 3#32))))

set_option maxRecDepth 8192 in
/-- `main_call2_call0_v122`'s composed term of the arguments (named: it is used 2 times). -/
def res_main_call2_call0_v122 (V0 : Valuation τ sig (Elt F)) : (Proc.devRef .tc main_call2_call0_v122 : DevRef τ sig).ty.Contents (Elt F) :=
  addi (res_main_call2_call0_v115 V0) (res_main_call2_call0_v121 V0)

set_option maxRecDepth 8192 in
/-- `main_call2_call0_v128`'s composed term of the arguments (named: it is used 3 times). -/
def res_main_call2_call0_v128 (V0 : Valuation τ sig (Elt F)) : (Proc.devRef .tc main_call2_call0_v128 : DevRef τ sig).ty.Contents (Elt F) :=
  xori (res_main_call2_call0_v122 V0) (ori (Host.shli (res_main_call2_call0_v121 V0) (broadcastInDim S16x16x100001 ![] bcast_S_S16x16x100001 (constantI S_ 32 16#32))) (Host.shrui (res_main_call2_call0_v121 V0) (broadcastInDim S16x16x100001 ![] bcast_S_S16x16x100001 (constantI S_ 32 16#32))))

set_option maxRecDepth 8192 in
/-- `main_call2_call0_v129`'s composed term of the arguments (named: it is used 2 times). -/
def res_main_call2_call0_v129 (V0 : Valuation τ sig (Elt F)) : (Proc.devRef .tc main_call2_call0_v129 : DevRef τ sig).ty.Contents (Elt F) :=
  addi (res_main_call2_call0_v122 V0) (res_main_call2_call0_v128 V0)

set_option maxRecDepth 8192 in
/-- `main_call2_call0_v141`'s composed term of the arguments (named: it is used 3 times). -/
def res_main_call2_call0_v141 (V0 : Valuation τ sig (Elt F)) : (Proc.devRef .tc main_call2_call0_v141 : DevRef τ sig).ty.Contents (Elt F) :=
  addi (addi (xori (res_main_call2_call0_v129 V0) (ori (Host.shli (res_main_call2_call0_v128 V0) (broadcastInDim S16x16x100001 ![] bcast_S_S16x16x100001 (constantI S_ 32 24#32))) (Host.shrui (res_main_call2_call0_v128 V0) (broadcastInDim S16x16x100001 ![] bcast_S_S16x16x100001 (constantI S_ 32 8#32))))) (broadcastInDim S16x16x100001 ![] bcast_S_S16x16x100001 (res_main_call2_call0_v1 V0))) (broadcastInDim S16x16x100001 ![] bcast_S_S16x16x100001 (constantI S_ 32 4#32))

set_option maxRecDepth 8192 in
/-- `main_call2_call0_v142`'s composed term of the arguments (named: it is used 2 times). -/
def res_main_call2_call0_v142 (V0 : Valuation τ sig (Elt F)) : (Proc.devRef .tc main_call2_call0_v142 : DevRef τ sig).ty.Contents (Elt F) :=
  addi (addi (res_main_call2_call0_v129 V0) (broadcastInDim S16x16x100001 ![] bcast_S_S16x16x100001 (res_main_call2_v7 V0))) (res_main_call2_call0_v141 V0)

set_option maxRecDepth 8192 in
/-- `main_call2_call0_v148`'s composed term of the arguments (named: it is used 3 times). -/
def res_main_call2_call0_v148 (V0 : Valuation τ sig (Elt F)) : (Proc.devRef .tc main_call2_call0_v148 : DevRef τ sig).ty.Contents (Elt F) :=
  xori (res_main_call2_call0_v142 V0) (ori (Host.shli (res_main_call2_call0_v141 V0) (broadcastInDim S16x16x100001 ![] bcast_S_S16x16x100001 (constantI S_ 32 13#32))) (Host.shrui (res_main_call2_call0_v141 V0) (broadcastInDim S16x16x100001 ![] bcast_S_S16x16x100001 (constantI S_ 32 19#32))))

set_option maxRecDepth 8192 in
/-- `main_call2_call0_v149`'s composed term of the arguments (named: it is used 2 times). -/
def res_main_call2_call0_v149 (V0 : Valuation τ sig (Elt F)) : (Proc.devRef .tc main_call2_call0_v149 : DevRef τ sig).ty.Contents (Elt F) :=
  addi (res_main_call2_call0_v142 V0) (res_main_call2_call0_v148 V0)

set_option maxRecDepth 8192 in
/-- `main_call2_call0_v155`'s composed term of the arguments (named: it is used 3 times). -/
def res_main_call2_call0_v155 (V0 : Valuation τ sig (Elt F)) : (Proc.devRef .tc main_call2_call0_v155 : DevRef τ sig).ty.Contents (Elt F) :=
  xori (res_main_call2_call0_v149 V0) (ori (Host.shli (res_main_call2_call0_v148 V0) (broadcastInDim S16x16x100001 ![] bcast_S_S16x16x100001 (constantI S_ 32 15#32))) (Host.shrui (res_main_call2_call0_v148 V0) (broadcastInDim S16x16x100001 ![] bcast_S_S16x16x100001 (constantI S_ 32 17#32))))

set_option maxRecDepth 8192 in
/-- `main_call2_call0_v156`'s composed term of the arguments (named: it is used 2 times). -/
def res_main_call2_call0_v156 (V0 : Valuation τ sig (Elt F)) : (Proc.devRef .tc main_call2_call0_v156 : DevRef τ sig).ty.Contents (Elt F) :=
  addi (res_main_call2_call0_v149 V0) (res_main_call2_call0_v155 V0)

set_option maxRecDepth 8192 in
/-- `main_call2_call0_v162`'s composed term of the arguments (named: it is used 3 times). -/
def res_main_call2_call0_v162 (V0 : Valuation τ sig (Elt F)) : (Proc.devRef .tc main_call2_call0_v162 : DevRef τ sig).ty.Contents (Elt F) :=
  xori (res_main_call2_call0_v156 V0) (ori (Host.shli (res_main_call2_call0_v155 V0) (broadcastInDim S16x16x100001 ![] bcast_S_S16x16x100001 (constantI S_ 32 26#32))) (Host.shrui (res_main_call2_call0_v155 V0) (broadcastInDim S16x16x100001 ![] bcast_S_S16x16x100001 (constantI S_ 32 6#32))))

set_option maxRecDepth 8192 in
/-- `main_call2_call0_v163`'s composed term of the arguments (named: it is used 2 times). -/
def res_main_call2_call0_v163 (V0 : Valuation τ sig (Elt F)) : (Proc.devRef .tc main_call2_call0_v163 : DevRef τ sig).ty.Contents (Elt F) :=
  addi (res_main_call2_call0_v156 V0) (res_main_call2_call0_v162 V0)

set_option maxRecDepth 8192 in
/-- `main_v50`'s composed term of the arguments (named: it is used 2 times). -/
def res_main_v50 (V0 : Valuation τ sig (Elt F)) : (Proc.devRef .tc main_v50 : DevRef τ sig).ty.Contents (Elt F) :=
  Host.divf (addf (res_main_v11 V0) (mulf (broadcastInDim S16x16x100001 ![0, 1, 2] bcast_S1x1x1_S16x16x100001_0_1_2 (broadcastInDim S1x1x1 ![2] bcast_S1_S1x1x1_2 (V0 (Proc.devRef .tc main_arg3)))) (mulf (broadcastInDim S16x16x100001 ![0, 1, 2] bcast_S16x1x1_S16x16x100001_0_1_2 (broadcastInDim S16x1x1 ![0] bcast_S16_S16x1x1_0 (Host.divf (broadcastInDim S16 ![] bcast_S_S16 (constant S_ .f32 0x3F7FBE77#32)) (subf (broadcastInDim S16 ![] bcast_S_S16 (constant S_ .f32 0x3F800000#32)) (mulf (broadcastInDim S16 ![] bcast_S_S16 (constant S_ .f32 0x3F7FBE77#32)) (V0 (Proc.devRef .tc main_arg2))))))) (subf (res_main_v22 V0) (mulf (res_main_v11 V0) (broadcastInDim S16x16x100001 ![0, 1, 2] bcast_S16x16x1_S16x16x100001_0_1_2 (broadcastInDim S16x16x1 ![0, 1] bcast_S16x16_S16x16x1_0_1 (Host.reduceAdd (res_main_v22 V0) (constant S_ .f32 0x00000000#32) reducesTo_S16x16x100001_S16x16_d2 h_S_)))))))) (subf (broadcastInDim S16x16x100001 ![] bcast_S_S16x16x100001 (constant S_ .f32 0x358637BD#32)) (Host.log (addf (broadcastInDim S16x16x100001 ![] bcast_S_S16x16x100001 (constant S_ .f32 0x358637BD#32)) (mulf (broadcastInDim S16x16x100001 ![] bcast_S_S16x16x100001 (constant S_ .f32 0x3F7FFFEF#32)) (maximumf (broadcastInDim S16x16x100001 ![0, 1, 2] bcast_S1x1x1_S16x16x100001_0_1_2 (res_main_call2_v2 V0)) (addf (mulf (subf (bitcastToFloat (F := F) .f32 (ori (Host.shrui (xori (addi (res_main_call2_call0_v163 V0) (broadcastInDim S16x16x100001 ![] bcast_S_S16x16x100001 (res_main_call2_call0_v1 V0))) (addi (addi (xori (res_main_call2_call0_v163 V0) (ori (Host.shli (res_main_call2_call0_v162 V0) (broadcastInDim S16x16x100001 ![] bcast_S_S16x16x100001 (constantI S_ 32 6#32))) (Host.shrui (res_main_call2_call0_v162 V0) (broadcastInDim S16x16x100001 ![] bcast_S_S16x16x100001 (constantI S_ 32 26#32))))) (broadcastInDim S16x16x100001 ![] bcast_S_S16x16x100001 (res_main_call2_v5 V0))) (broadcastInDim S16x16x100001 ![] bcast_S_S16x16x100001 (constantI S_ 32 5#32)))) (broadcastInDim S16x16x100001 ![] bcast_S_S16x16x100001 (constantI S_ 32 9#32))) (broadcastInDim S16x16x100001 ![] bcast_S_S16x16x100001 (constantI S_ 32 1065353216#32)))) (broadcastInDim S16x16x100001 ![] bcast_S_S16x16x100001 (constant S_ .f32 0x3F800000#32))) (broadcastInDim S16x16x100001 ![0, 1, 2] bcast_S1x1x1_S16x16x100001_0_1_2 (subf (broadcastInDim S1x1x1 ![] bcast_S_S1x1x1 (id (constant S_ .f32 0x3F800000#32))) (res_main_call2_v2 V0)))) (broadcastInDim S16x16x100001 ![0, 1, 2] bcast_S1x1x1_S16x16x100001_0_1_2 (res_main_call2_v2 V0))))))))

set_option maxRecDepth 8192 in
/-- `main_call3_v0`'s composed term of the arguments (named: it is used 2 times). -/
def res_main_call3_v0 (V0 : Valuation τ sig (Elt F)) : (Proc.devRef .tc main_call3_v0 : DevRef τ sig).ty.Contents (Elt F) :=
  iotaInDim S16x16x100001 32 2

set_option maxRecDepth 8192 in
/-- `main_call3_cst`'s composed term of the arguments (named: it is used 2 times). -/
def res_main_call3_cst (V0 : Valuation τ sig (Elt F)) : (Proc.devRef .tc main_call3_cst : DevRef τ sig).ty.Contents (Elt F) :=
  constant S_ .f32 0xFF800000#32

set_option maxRecDepth 8192 in
/-- `main_call3_c`'s composed term of the arguments (named: it is used 2 times). -/
def res_main_call3_c (V0 : Valuation τ sig (Elt F)) : (Proc.devRef .tc main_call3_c : DevRef τ sig).ty.Contents (Elt F) :=
  constantI S_ 32 0#32

set_option maxRecDepth 8192 in
/-- `main_v51`'s composed term of the arguments (named: it is used 2 times). -/
def res_main_v51 (V0 : Valuation τ sig (Elt F)) : (Proc.devRef .tc main_v51 : DevRef τ sig).ty.Contents (Elt F) :=
  argmaxSnd (res_main_v50 V0) (res_main_call3_v0 V0) (res_main_call3_cst V0) (res_main_call3_c V0)

end Cert.ReferenceIdeal.Value

end

end
-- ==== Proof.RefVals1.lean ====
/- The buffers after the first operations. -/
module

public import proofs.«01_k».proof.Proof.Gen.ReferenceIdeal
public import Idealize.ShloMosaic.Lib.StableHlo.Run
public import Idealize.ShloMosaic.Lib.Pipeline.Frame
public import proofs.«01_k».proof.Proof.RefTerms

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]
/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_c, main_v1, main_v2, main_c_0, main_call0_v0, main_call0_v1, main_v3, main_cst, main_v4, main_v5, main_cst_1, main_v6, main_v7, main_cst_2, main_v8, main_v9, main_v10, main_call1_v0, main_call1_v1, main_call1_v2, main_call1_v3, main_call1_v4, main_v11, main_v12, main_c_3, main_v13, main_v14, main_v15, main_v16]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
set_option maxRecDepth 8192 in
set_option maxHeartbeats 2000000 in
theorem val0_1_main_v9 (V0 : Valuation τ sig (Elt F)) : val0_1 V0 (no_index (Proc.devRef .tc main_v9)) = Host.divf (broadcastInDim S16 ![] bcast_S_S16 (constant S_ .f32 0x3F7FBE77#32)) (subf (broadcastInDim S16 ![] bcast_S_S16 (constant S_ .f32 0x3F800000#32)) (mulf (broadcastInDim S16 ![] bcast_S_S16 (constant S_ .f32 0x3F7FBE77#32)) (V0 (Proc.devRef .tc main_arg2)))) := by
  unfold val0_1
  simp only [ops_part0_0, TRef.binary, TRef.nullary, TRef.ternary, TRef.unary, TRef.toBuf, TRef.ofBuf, cast_eq]
  after_results_simp
  simp only [val0_main_arg2] <;> rfl
set_option maxRecDepth 8192 in
set_option maxHeartbeats 2000000 in
theorem val0_1_main_v10 (V0 : Valuation τ sig (Elt F)) : val0_1 V0 (no_index (Proc.devRef .tc main_v10)) = Host.exp (V0 (Proc.devRef .tc main_arg0)) := by
  unfold val0_1
  simp only [ops_part0_0, TRef.binary, TRef.nullary, TRef.ternary, TRef.unary, TRef.toBuf, TRef.ofBuf, cast_eq]
  after_results_simp
  simp only [val0_main_arg0] <;> rfl
set_option maxRecDepth 8192 in
set_option maxHeartbeats 2000000 in
theorem val0_1_main_v11 (V0 : Valuation τ sig (Elt F)) : val0_1 V0 (no_index (Proc.devRef .tc main_v11)) = res_main_v11 V0 := by
  unfold val0_1
  simp only [ops_part0_0, TRef.binary, TRef.nullary, TRef.ternary, TRef.unary, TRef.toBuf, TRef.ofBuf, cast_eq]
  after_results_simp
  simp only [val0_main_arg1] <;> rfl
set_option maxRecDepth 8192 in
set_option maxHeartbeats 2000000 in
theorem val0_1_main_v12 (V0 : Valuation τ sig (Elt F)) : val0_1 V0 (no_index (Proc.devRef .tc main_v12)) = Host.negf (res_main_v11 V0) := by
  unfold val0_1
  simp only [ops_part0_0, TRef.binary, TRef.nullary, TRef.ternary, TRef.unary, TRef.toBuf, TRef.ofBuf, cast_eq]
  after_results_simp
  simp only [val0_main_arg1] <;> rfl
set_option maxRecDepth 8192 in
set_option maxHeartbeats 2000000 in
theorem val0_1_main_v16 (V0 : Valuation τ sig (Elt F)) : val0_1 V0 (no_index (Proc.devRef .tc main_v16)) = broadcastInDim S16x16x1 ![0, 1] bcast_S16x16_S16x16x1_0_1 (uitofp .f32 (cmpi .eq (res_main_v3 V0) (broadcastInDim S16x16 ![] bcast_S_S16x16 (constantI S_ 32 100000#32)))) := by
  unfold val0_1
  simp only [ops_part0_0, TRef.binary, TRef.nullary, TRef.ternary, TRef.unary, TRef.toBuf, TRef.ofBuf, cast_eq]
  after_results_simp
  simp only [val0_main_arg1] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v17, main_v18, main_v19, main_cst_4, main_v20, main_v21, main_v22, main_cst_5, main_v23, main_v24, main_v25, main_v26, main_v27, main_v28, main_v29, main_v30, main_v31, main_v32, main_v33, main_v34, main_c_6, main_c_7, main_v35, main_v36, main_v37, main_c_8, main_v38, main_v39, main_v40, main_v41]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
set_option maxRecDepth 8192 in
set_option maxHeartbeats 2000000 in
theorem val0_2_main_v30 (V0 : Valuation τ sig (Elt F)) : val0_2 V0 (no_index (Proc.devRef .tc main_v30)) = mulf (broadcastInDim S16x16x100001 ![0, 1, 2] bcast_S16x1x1_S16x16x100001_0_1_2 (broadcastInDim S16x1x1 ![0] bcast_S16_S16x1x1_0 (Host.divf (broadcastInDim S16 ![] bcast_S_S16 (constant S_ .f32 0x3F7FBE77#32)) (subf (broadcastInDim S16 ![] bcast_S_S16 (constant S_ .f32 0x3F800000#32)) (mulf (broadcastInDim S16 ![] bcast_S_S16 (constant S_ .f32 0x3F7FBE77#32)) (V0 (Proc.devRef .tc main_arg2))))))) (subf (res_main_v22 V0) (mulf (res_main_v11 V0) (broadcastInDim S16x16x100001 ![0, 1, 2] bcast_S16x16x1_S16x16x100001_0_1_2 (broadcastInDim S16x16x1 ![0, 1] bcast_S16x16_S16x16x1_0_1 (Host.reduceAdd (res_main_v22 V0) (constant S_ .f32 0x00000000#32) reducesTo_S16x16x100001_S16x16_d2 h_S_))))) := by
  unfold val0_2
  simp only [ops_part0_1]
  after_results_simp
  simp only [val0_1_main_v11, val0_1_main_v10, val0_1_main_v16, val0_1_main_v12, val0_1_main_v9] <;> rfl
set_option maxRecDepth 8192 in
set_option maxHeartbeats 2000000 in
theorem val0_2_main_v34 (V0 : Valuation τ sig (Elt F)) : val0_2 V0 (no_index (Proc.devRef .tc main_v34)) = addf (res_main_v11 V0) (mulf (broadcastInDim S16x16x100001 ![0, 1, 2] bcast_S1x1x1_S16x16x100001_0_1_2 (broadcastInDim S1x1x1 ![2] bcast_S1_S1x1x1_2 (V0 (Proc.devRef .tc main_arg3)))) (mulf (broadcastInDim S16x16x100001 ![0, 1, 2] bcast_S16x1x1_S16x16x100001_0_1_2 (broadcastInDim S16x1x1 ![0] bcast_S16_S16x1x1_0 (Host.divf (broadcastInDim S16 ![] bcast_S_S16 (constant S_ .f32 0x3F7FBE77#32)) (subf (broadcastInDim S16 ![] bcast_S_S16 (constant S_ .f32 0x3F800000#32)) (mulf (broadcastInDim S16 ![] bcast_S_S16 (constant S_ .f32 0x3F7FBE77#32)) (V0 (Proc.devRef .tc main_arg2))))))) (subf (res_main_v22 V0) (mulf (res_main_v11 V0) (broadcastInDim S16x16x100001 ![0, 1, 2] bcast_S16x16x1_S16x16x100001_0_1_2 (broadcastInDim S16x16x1 ![0, 1] bcast_S16x16_S16x16x1_0_1 (Host.reduceAdd (res_main_v22 V0) (constant S_ .f32 0x00000000#32) reducesTo_S16x16x100001_S16x16_d2 h_S_))))))) := by
  unfold val0_2
  simp only [ops_part0_1]
  after_results_simp
  simp only [val0_1_main_v10, val0_1_main_v16, val0_1_main_v12, val0_1_main_v9, val0_1_main_arg3, val0_1_main_v11] <;> rfl
set_option maxRecDepth 8192 in
set_option maxHeartbeats 2000000 in
theorem val0_2_main_v41 (V0 : Valuation τ sig (Elt F)) : val0_2 V0 (no_index (Proc.devRef .tc main_v41)) = res_main_v41 V0 := by
  unfold val0_2
  simp only [ops_part0_1]
  after_results_simp
  all_goals rfl

/-- The device's buffer contents after @main's first 90 operations. -/
def val0_3 (V0 : Valuation τ sig (Elt F)) : Valuation τ sig (Elt F) := after ops_part0_2 (val0_2 V0)
/-- The buffers that window `ops_part0_2`'s operations write. -/
abbrev ops_part0_2_W : List (Ref sig .tc) := [main_cst_9, main_cst_10, main_call2_v0, main_call2_v1, main_call2_v2, main_call2_v3, main_call2_v4, main_call2_v5, main_call2_v6, main_call2_v7, main_call2_v8, main_call2_v9, main_call2_v10, main_call2_c, main_call2_v11, main_call2_v12, main_call2_c_0, main_call2_v13, main_call2_v14, main_call2_c_1, main_call2_v15, main_call2_v16, main_call2_v17, main_call2_v18, main_call2_c_2, main_call2_v19, main_call2_v20, main_call2_v21, main_call2_v22, main_call2_call0_v0]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_2` does not write keeps its contents through it. -/
theorem val0_3_keep (V0 : Valuation τ sig (Elt F)) (r : Ref sig .tc) (h : r ∉ ops_part0_2_W) :
    val0_3 V0 (Proc.devRef .tc r) = val0_2 V0 (Proc.devRef .tc r) :=
  after_of_writes_sub ops_part0_2 _ ops_part0_2_writes h
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
theorem val0_3_main_arg1 (V0 : Valuation τ sig (Elt F)) : val0_3 V0 (no_index (Proc.devRef .tc main_arg1)) = V0 (Proc.devRef .tc main_arg1) :=
  (val0_3_keep V0 main_arg1 (by decide)).trans (val0_2_main_arg1 V0)
theorem val0_3_main_arg2 (V0 : Valuation τ sig (Elt F)) : val0_3 V0 (no_index (Proc.devRef .tc main_arg2)) = V0 (Proc.devRef .tc main_arg2) :=
  (val0_3_keep V0 main_arg2 (by decide)).trans (val0_2_main_arg2 V0)
theorem val0_3_main_arg3 (V0 : Valuation τ sig (Elt F)) : val0_3 V0 (no_index (Proc.devRef .tc main_arg3)) = V0 (Proc.devRef .tc main_arg3) :=
  (val0_3_keep V0 main_arg3 (by decide)).trans (val0_2_main_arg3 V0)
theorem val0_3_main_v30 (V0 : Valuation τ sig (Elt F)) : val0_3 V0 (no_index (Proc.devRef .tc main_v30)) = mulf (broadcastInDim S16x16x100001 ![0, 1, 2] bcast_S16x1x1_S16x16x100001_0_1_2 (broadcastInDim S16x1x1 ![0] bcast_S16_S16x1x1_0 (Host.divf (broadcastInDim S16 ![] bcast_S_S16 (constant S_ .f32 0x3F7FBE77#32)) (subf (broadcastInDim S16 ![] bcast_S_S16 (constant S_ .f32 0x3F800000#32)) (mulf (broadcastInDim S16 ![] bcast_S_S16 (constant S_ .f32 0x3F7FBE77#32)) (V0 (Proc.devRef .tc main_arg2))))))) (subf (res_main_v22 V0) (mulf (res_main_v11 V0) (broadcastInDim S16x16x100001 ![0, 1, 2] bcast_S16x16x1_S16x16x100001_0_1_2 (broadcastInDim S16x16x1 ![0, 1] bcast_S16x16_S16x16x1_0_1 (Host.reduceAdd (res_main_v22 V0) (constant S_ .f32 0x00000000#32) reducesTo_S16x16x100001_S16x16_d2 h_S_))))) :=
  (val0_3_keep V0 main_v30 (by decide)).trans (val0_2_main_v30 V0)
theorem val0_3_main_v34 (V0 : Valuation τ sig (Elt F)) : val0_3 V0 (no_index (Proc.devRef .tc main_v34)) = addf (res_main_v11 V0) (mulf (broadcastInDim S16x16x100001 ![0, 1, 2] bcast_S1x1x1_S16x16x100001_0_1_2 (broadcastInDim S1x1x1 ![2] bcast_S1_S1x1x1_2 (V0 (Proc.devRef .tc main_arg3)))) (mulf (broadcastInDim S16x16x100001 ![0, 1, 2] bcast_S16x1x1_S16x16x100001_0_1_2 (broadcastInDim S16x1x1 ![0] bcast_S16_S16x1x1_0 (Host.divf (broadcastInDim S16 ![] bcast_S_S16 (constant S_ .f32 0x3F7FBE77#32)) (subf (broadcastInDim S16 ![] bcast_S_S16 (constant S_ .f32 0x3F800000#32)) (mulf (broadcastInDim S16 ![] bcast_S_S16 (constant S_ .f32 0x3F7FBE77#32)) (V0 (Proc.devRef .tc main_arg2))))))) (subf (res_main_v22 V0) (mulf (res_main_v11 V0) (broadcastInDim S16x16x100001 ![0, 1, 2] bcast_S16x16x1_S16x16x100001_0_1_2 (broadcastInDim S16x16x1 ![0, 1] bcast_S16x16_S16x16x1_0_1 (Host.reduceAdd (res_main_v22 V0) (constant S_ .f32 0x00000000#32) reducesTo_S16x16x100001_S16x16_d2 h_S_))))))) :=
  (val0_3_keep V0 main_v34 (by decide)).trans (val0_2_main_v34 V0)
set_option maxRecDepth 8192 in
set_option maxHeartbeats 2000000 in
theorem val0_3_main_call2_v2 (V0 : Valuation τ sig (Elt F)) : val0_3 V0 (no_index (Proc.devRef .tc main_call2_v2)) = res_main_call2_v2 V0 := by
  unfold val0_3
  simp only [ops_part0_2, TRef.binary, TRef.nullary, TRef.reshape, TRef.unary, TRef.toBuf, TRef.ofBuf, cast_eq]
  after_results_simp
  all_goals rfl
set_option maxRecDepth 8192 in
set_option maxHeartbeats 2000000 in
theorem val0_3_main_call2_v3 (V0 : Valuation τ sig (Elt F)) : val0_3 V0 (no_index (Proc.devRef .tc main_call2_v3)) = broadcastInDim S1x1x1 ![] bcast_S_S1x1x1 (id (constant S_ .f32 0x3F800000#32)) := by
  unfold val0_3
  simp only [ops_part0_2, TRef.binary, TRef.nullary, TRef.reshape, TRef.unary, TRef.toBuf, TRef.ofBuf, cast_eq]
  after_results_simp
  all_goals rfl
set_option maxRecDepth 8192 in
set_option maxHeartbeats 2000000 in
theorem val0_3_main_call2_v5 (V0 : Valuation τ sig (Elt F)) : val0_3 V0 (no_index (Proc.devRef .tc main_call2_v5)) = res_main_call2_v5 V0 := by
  unfold val0_3
  simp only [ops_part0_2, TRef.binary, TRef.nullary, TRef.reshape, TRef.unary, TRef.toBuf, TRef.ofBuf, cast_eq]
  after_results_simp
  simp only [val0_2_main_v41] <;> rfl
set_option maxRecDepth 8192 in
set_option maxHeartbeats 2000000 in
theorem val0_3_main_call2_v7 (V0 : Valuation τ sig (Elt F)) : val0_3 V0 (no_index (Proc.devRef .tc main_call2_v7)) = res_main_call2_v7 V0 := by
  unfold val0_3
  simp only [ops_part0_2, TRef.binary, TRef.nullary, TRef.reshape, TRef.unary, TRef.toBuf, TRef.ofBuf, cast_eq]
  after_results_simp
  simp only [val0_2_main_v41] <;> rfl
set_option maxRecDepth 8192 in
set_option maxHeartbeats 2000000 in
theorem val0_3_main_call2_v21 (V0 : Valuation τ sig (Elt F)) : val0_3 V0 (no_index (Proc.devRef .tc main_call2_v21)) = trunci 32 (res_main_call2_v18 V0) natLt_32_64 := by
  unfold val0_3
  simp only [ops_part0_2, TRef.binary, TRef.nullary, TRef.reshape, TRef.unary, TRef.toBuf, TRef.ofBuf, cast_eq]
  after_results_simp
  all_goals rfl
set_option maxRecDepth 8192 in
set_option maxHeartbeats 2000000 in
theorem val0_3_main_call2_v22 (V0 : Valuation τ sig (Elt F)) : val0_3 V0 (no_index (Proc.devRef .tc main_call2_v22)) = trunci 32 (Host.shrui (res_main_call2_v18 V0) (broadcastInDim S16x16x100001 ![] bcast_S_S16x16x100001 (constantI S_ 64 32#64))) natLt_32_64 := by
  unfold val0_3
  simp only [ops_part0_2, TRef.binary, TRef.nullary, TRef.reshape, TRef.unary, TRef.toBuf, TRef.ofBuf, cast_eq]
  after_results_simp
  all_goals rfl
set_option maxRecDepth 8192 in
set_option maxHeartbeats 2000000 in
theorem val0_3_main_call2_call0_v0 (V0 : Valuation τ sig (Elt F)) : val0_3 V0 (no_index (Proc.devRef .tc main_call2_call0_v0)) = xori (res_main_call2_v5 V0) (res_main_call2_v7 V0) := by
  unfold val0_3
  simp only [ops_part0_2, TRef.binary, TRef.nullary, TRef.reshape, TRef.unary, TRef.toBuf, TRef.ofBuf, cast_eq]
  after_results_simp
  simp only [val0_2_main_v41] <;> rfl

/-- The device's buffer contents after @main's first 120 operations. -/
def val0_4 (V0 : Valuation τ sig (Elt F)) : Valuation τ sig (Elt F) := after ops_part0_3 (val0_3 V0)
/-- The buffers that window `ops_part0_3`'s operations write. -/
abbrev ops_part0_3_W : List (Ref sig .tc) := [main_call2_call0_c, main_call2_call0_v1, main_call2_call0_v2, main_call2_call0_v3, main_call2_call0_v4, main_call2_call0_v5, main_call2_call0_v6, main_call2_call0_c_0, main_call2_call0_v7, main_call2_call0_v8, main_call2_call0_c_1, main_call2_call0_v9, main_call2_call0_v10, main_call2_call0_v11, main_call2_call0_v12, main_call2_call0_v13, main_call2_call0_c_2, main_call2_call0_v14, main_call2_call0_v15, main_call2_call0_c_3, main_call2_call0_v16, main_call2_call0_v17, main_call2_call0_v18, main_call2_call0_v19, main_call2_call0_v20, main_call2_call0_c_4, main_call2_call0_v21, main_call2_call0_v22, main_call2_call0_c_5, main_call2_call0_v23]
set_option maxRecDepth 8192 in
theorem ops_part0_3_writes : (ops_part0_3 : List (HloOp τ sig (Elt F))).Forall fun op => op.writes ⊆ (ops_part0_3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_3` does not write keeps its contents through it. -/
theorem val0_4_keep (V0 : Valuation τ sig (Elt F)) (r : Ref sig .tc) (h : r ∉ ops_part0_3_W) :
    val0_4 V0 (Proc.devRef .tc r) = val0_3 V0 (Proc.devRef .tc r) :=
  after_of_writes_sub ops_part0_3 _ ops_part0_3_writes h
theorem val0_4_main_arg0 (V0 : Valuation τ sig (Elt F)) : val0_4 V0 (no_index (Proc.devRef .tc main_arg0)) = V0 (Proc.devRef .tc main_arg0) :=
  (val0_4_keep V0 main_arg0 (by decide)).trans (val0_3_main_arg0 V0)
theorem val0_4_main_arg1 (V0 : Valuation τ sig (Elt F)) : val0_4 V0 (no_index (Proc.devRef .tc main_arg1)) = V0 (Proc.devRef .tc main_arg1) :=
  (val0_4_keep V0 main_arg1 (by decide)).trans (val0_3_main_arg1 V0)
theorem val0_4_main_arg2 (V0 : Valuation τ sig (Elt F)) : val0_4 V0 (no_index (Proc.devRef .tc main_arg2)) = V0 (Proc.devRef .tc main_arg2) :=
  (val0_4_keep V0 main_arg2 (by decide)).trans (val0_3_main_arg2 V0)
theorem val0_4_main_arg3 (V0 : Valuation τ sig (Elt F)) : val0_4 V0 (no_index (Proc.devRef .tc main_arg3)) = V0 (Proc.devRef .tc main_arg3) :=
  (val0_4_keep V0 main_arg3 (by decide)).trans (val0_3_main_arg3 V0)
theorem val0_4_main_v30 (V0 : Valuation τ sig (Elt F)) : val0_4 V0 (no_index (Proc.devRef .tc main_v30)) = mulf (broadcastInDim S16x16x100001 ![0, 1, 2] bcast_S16x1x1_S16x16x100001_0_1_2 (broadcastInDim S16x1x1 ![0] bcast_S16_S16x1x1_0 (Host.divf (broadcastInDim S16 ![] bcast_S_S16 (constant S_ .f32 0x3F7FBE77#32)) (subf (broadcastInDim S16 ![] bcast_S_S16 (constant S_ .f32 0x3F800000#32)) (mulf (broadcastInDim S16 ![] bcast_S_S16 (constant S_ .f32 0x3F7FBE77#32)) (V0 (Proc.devRef .tc main_arg2))))))) (subf (res_main_v22 V0) (mulf (res_main_v11 V0) (broadcastInDim S16x16x100001 ![0, 1, 2] bcast_S16x16x1_S16x16x100001_0_1_2 (broadcastInDim S16x16x1 ![0, 1] bcast_S16x16_S16x16x1_0_1 (Host.reduceAdd (res_main_v22 V0) (constant S_ .f32 0x00000000#32) reducesTo_S16x16x100001_S16x16_d2 h_S_))))) :=
  (val0_4_keep V0 main_v30 (by decide)).trans (val0_3_main_v30 V0)
theorem val0_4_main_v34 (V0 : Valuation τ sig (Elt F)) : val0_4 V0 (no_index (Proc.devRef .tc main_v34)) = addf (res_main_v11 V0) (mulf (broadcastInDim S16x16x100001 ![0, 1, 2] bcast_S1x1x1_S16x16x100001_0_1_2 (broadcastInDim S1x1x1 ![2] bcast_S1_S1x1x1_2 (V0 (Proc.devRef .tc main_arg3)))) (mulf (broadcastInDim S16x16x100001 ![0, 1, 2] bcast_S16x1x1_S16x16x100001_0_1_2 (broadcastInDim S16x1x1 ![0] bcast_S16_S16x1x1_0 (Host.divf (broadcastInDim S16 ![] bcast_S_S16 (constant S_ .f32 0x3F7FBE77#32)) (subf (broadcastInDim S16 ![] bcast_S_S16 (constant S_ .f32 0x3F800000#32)) (mulf (broadcastInDim S16 ![] bcast_S_S16 (constant S_ .f32 0x3F7FBE77#32)) (V0 (Proc.devRef .tc main_arg2))))))) (subf (res_main_v22 V0) (mulf (res_main_v11 V0) (broadcastInDim S16x16x100001 ![0, 1, 2] bcast_S16x16x1_S16x16x100001_0_1_2 (broadcastInDim S16x16x1 ![0, 1] bcast_S16x16_S16x16x1_0_1 (Host.reduceAdd (res_main_v22 V0) (constant S_ .f32 0x00000000#32) reducesTo_S16x16x100001_S16x16_d2 h_S_))))))) :=
  (val0_4_keep V0 main_v34 (by decide)).trans (val0_3_main_v34 V0)
theorem val0_4_main_call2_v2 (V0 : Valuation τ sig (Elt F)) : val0_4 V0 (no_index (Proc.devRef .tc main_call2_v2)) = res_main_call2_v2 V0 :=
  (val0_4_keep V0 main_call2_v2 (by decide)).trans (val0_3_main_call2_v2 V0)
theorem val0_4_main_call2_v3 (V0 : Valuation τ sig (Elt F)) : val0_4 V0 (no_index (Proc.devRef .tc main_call2_v3)) = broadcastInDim S1x1x1 ![] bcast_S_S1x1x1 (id (constant S_ .f32 0x3F800000#32)) :=
  (val0_4_keep V0 main_call2_v3 (by decide)).trans (val0_3_main_call2_v3 V0)
theorem val0_4_main_call2_v5 (V0 : Valuation τ sig (Elt F)) : val0_4 V0 (no_index (Proc.devRef .tc main_call2_v5)) = res_main_call2_v5 V0 :=
  (val0_4_keep V0 main_call2_v5 (by decide)).trans (val0_3_main_call2_v5 V0)
theorem val0_4_main_call2_v7 (V0 : Valuation τ sig (Elt F)) : val0_4 V0 (no_index (Proc.devRef .tc main_call2_v7)) = res_main_call2_v7 V0 :=
  (val0_4_keep V0 main_call2_v7 (by decide)).trans (val0_3_main_call2_v7 V0)
set_option maxRecDepth 8192 in
set_option maxHeartbeats 2000000 in
theorem val0_4_main_call2_call0_v1 (V0 : Valuation τ sig (Elt F)) : val0_4 V0 (no_index (Proc.devRef .tc main_call2_call0_v1)) = res_main_call2_call0_v1 V0 := by
  unfold val0_4
  simp only [ops_part0_3, TRef.binary, TRef.nullary, TRef.unary, TRef.toBuf, TRef.ofBuf, cast_eq]
  after_results_simp
  simp only [val0_3_main_call2_call0_v0] <;> rfl
set_option maxRecDepth 8192 in
set_option maxHeartbeats 2000000 in
theorem val0_4_main_call2_call0_v19 (V0 : Valuation τ sig (Elt F)) : val0_4 V0 (no_index (Proc.devRef .tc main_call2_call0_v19)) = res_main_call2_call0_v19 V0 := by
  unfold val0_4
  simp only [ops_part0_3, TRef.binary, TRef.nullary, TRef.unary, TRef.toBuf, TRef.ofBuf, cast_eq]
  after_results_simp
  simp only [val0_3_main_call2_v7, val0_3_main_call2_v21, val0_3_main_call2_v5, val0_3_main_call2_v22] <;> rfl
set_option maxRecDepth 8192 in
set_option maxHeartbeats 2000000 in
theorem val0_4_main_call2_call0_v20 (V0 : Valuation τ sig (Elt F)) : val0_4 V0 (no_index (Proc.devRef .tc main_call2_call0_v20)) = res_main_call2_call0_v20 V0 := by
  unfold val0_4
  simp only [ops_part0_3, TRef.binary, TRef.nullary, TRef.unary, TRef.toBuf, TRef.ofBuf, cast_eq]
  after_results_simp
  simp only [val0_3_main_call2_v7, val0_3_main_call2_v21, val0_3_main_call2_v5, val0_3_main_call2_v22] <;> rfl
set_option maxRecDepth 8192 in
set_option maxHeartbeats 2000000 in
theorem val0_4_main_call2_call0_v22 (V0 : Valuation τ sig (Elt F)) : val0_4 V0 (no_index (Proc.devRef .tc main_call2_call0_v22)) = Host.shli (res_main_call2_call0_v19 V0) (broadcastInDim S16x16x100001 ![] bcast_S_S16x16x100001 (constantI S_ 32 26#32)) := by
  unfold val0_4
  simp only [ops_part0_3, TRef.binary, TRef.nullary, TRef.unary, TRef.toBuf, TRef.ofBuf, cast_eq]
  after_results_simp
  simp only [val0_3_main_call2_v7, val0_3_main_call2_v21, val0_3_main_call2_v5, val0_3_main_call2_v22] <;> rfl
set_option maxRecDepth 8192 in
set_option maxHeartbeats 2000000 in
theorem val0_4_main_call2_call0_v23 (V0 : Valuation τ sig (Elt F)) : val0_4 V0 (no_index (Proc.devRef .tc main_call2_call0_v23)) = broadcastInDim S16x16x100001 ![] bcast_S_S16x16x100001 (constantI S_ 32 6#32) := by
  unfold val0_4
  simp only [ops_part0_3, TRef.binary, TRef.nullary, TRef.unary, TRef.toBuf, TRef.ofBuf, cast_eq]
  after_results_simp
  all_goals rfl

/-- The device's buffer contents after @main's first 150 operations. -/
def val0_5 (V0 : Valuation τ sig (Elt F)) : Valuation τ sig (Elt F) := after ops_part0_4 (val0_4 V0)
/-- The buffers that window `ops_part0_4`'s operations write. -/
abbrev ops_part0_4_W : List (Ref sig .tc) := [main_call2_call0_v24, main_call2_call0_v25, main_call2_call0_v26, main_call2_call0_v27, main_call2_call0_c_6, main_call2_call0_v28, main_call2_call0_v29, main_call2_call0_c_7, main_call2_call0_v30, main_call2_call0_v31, main_call2_call0_v32, main_call2_call0_v33, main_call2_call0_v34, main_call2_call0_v35, main_call2_call0_v36, main_call2_call0_v37, main_call2_call0_c_8, main_call2_call0_v38, main_call2_call0_v39, main_call2_call0_v40, main_call2_call0_c_9, main_call2_call0_v41, main_call2_call0_v42, main_call2_call0_c_10, main_call2_call0_v43, main_call2_call0_v44, main_call2_call0_v45, main_call2_call0_v46, main_call2_call0_v47, main_call2_call0_c_11]
set_option maxRecDepth 8192 in
theorem ops_part0_4_writes : (ops_part0_4 : List (HloOp τ sig (Elt F))).Forall fun op => op.writes ⊆ (ops_part0_4_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_4` does not write keeps its contents through it. -/
theorem val0_5_keep (V0 : Valuation τ sig (Elt F)) (r : Ref sig .tc) (h : r ∉ ops_part0_4_W) :
    val0_5 V0 (Proc.devRef .tc r) = val0_4 V0 (Proc.devRef .tc r) :=
  after_of_writes_sub ops_part0_4 _ ops_part0_4_writes h
theorem val0_5_main_arg0 (V0 : Valuation τ sig (Elt F)) : val0_5 V0 (no_index (Proc.devRef .tc main_arg0)) = V0 (Proc.devRef .tc main_arg0) :=
  (val0_5_keep V0 main_arg0 (by decide)).trans (val0_4_main_arg0 V0)
theorem val0_5_main_arg1 (V0 : Valuation τ sig (Elt F)) : val0_5 V0 (no_index (Proc.devRef .tc main_arg1)) = V0 (Proc.devRef .tc main_arg1) :=
  (val0_5_keep V0 main_arg1 (by decide)).trans (val0_4_main_arg1 V0)
theorem val0_5_main_arg2 (V0 : Valuation τ sig (Elt F)) : val0_5 V0 (no_index (Proc.devRef .tc main_arg2)) = V0 (Proc.devRef .tc main_arg2) :=
  (val0_5_keep V0 main_arg2 (by decide)).trans (val0_4_main_arg2 V0)
theorem val0_5_main_arg3 (V0 : Valuation τ sig (Elt F)) : val0_5 V0 (no_index (Proc.devRef .tc main_arg3)) = V0 (Proc.devRef .tc main_arg3) :=
  (val0_5_keep V0 main_arg3 (by decide)).trans (val0_4_main_arg3 V0)
theorem val0_5_main_v30 (V0 : Valuation τ sig (Elt F)) : val0_5 V0 (no_index (Proc.devRef .tc main_v30)) = mulf (broadcastInDim S16x16x100001 ![0, 1, 2] bcast_S16x1x1_S16x16x100001_0_1_2 (broadcastInDim S16x1x1 ![0] bcast_S16_S16x1x1_0 (Host.divf (broadcastInDim S16 ![] bcast_S_S16 (constant S_ .f32 0x3F7FBE77#32)) (subf (broadcastInDim S16 ![] bcast_S_S16 (constant S_ .f32 0x3F800000#32)) (mulf (broadcastInDim S16 ![] bcast_S_S16 (constant S_ .f32 0x3F7FBE77#32)) (V0 (Proc.devRef .tc main_arg2))))))) (subf (res_main_v22 V0) (mulf (res_main_v11 V0) (broadcastInDim S16x16x100001 ![0, 1, 2] bcast_S16x16x1_S16x16x100001_0_1_2 (broadcastInDim S16x16x1 ![0, 1] bcast_S16x16_S16x16x1_0_1 (Host.reduceAdd (res_main_v22 V0) (constant S_ .f32 0x00000000#32) reducesTo_S16x16x100001_S16x16_d2 h_S_))))) :=
  (val0_5_keep V0 main_v30 (by decide)).trans (val0_4_main_v30 V0)
theorem val0_5_main_v34 (V0 : Valuation τ sig (Elt F)) : val0_5 V0 (no_index (Proc.devRef .tc main_v34)) = addf (res_main_v11 V0) (mulf (broadcastInDim S16x16x100001 ![0, 1, 2] bcast_S1x1x1_S16x16x100001_0_1_2 (broadcastInDim S1x1x1 ![2] bcast_S1_S1x1x1_2 (V0 (Proc.devRef .tc main_arg3)))) (mulf (broadcastInDim S16x16x100001 ![0, 1, 2] bcast_S16x1x1_S16x16x100001_0_1_2 (broadcastInDim S16x1x1 ![0] bcast_S16_S16x1x1_0 (Host.divf (broadcastInDim S16 ![] bcast_S_S16 (constant S_ .f32 0x3F7FBE77#32)) (subf (broadcastInDim S16 ![] bcast_S_S16 (constant S_ .f32 0x3F800000#32)) (mulf (broadcastInDim S16 ![] bcast_S_S16 (constant S_ .f32 0x3F7FBE77#32)) (V0 (Proc.devRef .tc main_arg2))))))) (subf (res_main_v22 V0) (mulf (res_main_v11 V0) (broadcastInDim S16x16x100001 ![0, 1, 2] bcast_S16x16x1_S16x16x100001_0_1_2 (broadcastInDim S16x16x1 ![0, 1] bcast_S16x16_S16x16x1_0_1 (Host.reduceAdd (res_main_v22 V0) (constant S_ .f32 0x00000000#32) reducesTo_S16x16x100001_S16x16_d2 h_S_))))))) :=
  (val0_5_keep V0 main_v34 (by decide)).trans (val0_4_main_v34 V0)
theorem val0_5_main_call2_v2 (V0 : Valuation τ sig (Elt F)) : val0_5 V0 (no_index (Proc.devRef .tc main_call2_v2)) = res_main_call2_v2 V0 :=
  (val0_5_keep V0 main_call2_v2 (by decide)).trans (val0_4_main_call2_v2 V0)
theorem val0_5_main_call2_v3 (V0 : Valuation τ sig (Elt F)) : val0_5 V0 (no_index (Proc.devRef .tc main_call2_v3)) = broadcastInDim S1x1x1 ![] bcast_S_S1x1x1 (id (constant S_ .f32 0x3F800000#32)) :=
  (val0_5_keep V0 main_call2_v3 (by decide)).trans (val0_4_main_call2_v3 V0)
theorem val0_5_main_call2_v5 (V0 : Valuation τ sig (Elt F)) : val0_5 V0 (no_index (Proc.devRef .tc main_call2_v5)) = res_main_call2_v5 V0 :=
  (val0_5_keep V0 main_call2_v5 (by decide)).trans (val0_4_main_call2_v5 V0)
theorem val0_5_main_call2_v7 (V0 : Valuation τ sig (Elt F)) : val0_5 V0 (no_index (Proc.devRef .tc main_call2_v7)) = res_main_call2_v7 V0 :=
  (val0_5_keep V0 main_call2_v7 (by decide)).trans (val0_4_main_call2_v7 V0)
theorem val0_5_main_call2_call0_v1 (V0 : Valuation τ sig (Elt F)) : val0_5 V0 (no_index (Proc.devRef .tc main_call2_call0_v1)) = res_main_call2_call0_v1 V0 :=
  (val0_5_keep V0 main_call2_call0_v1 (by decide)).trans (val0_4_main_call2_call0_v1 V0)
set_option maxRecDepth 8192 in
set_option maxHeartbeats 2000000 in
theorem val0_5_main_call2_call0_v46 (V0 : Valuation τ sig (Elt F)) : val0_5 V0 (no_index (Proc.devRef .tc main_call2_call0_v46)) = res_main_call2_call0_v46 V0 := by
  unfold val0_5
  simp only [ops_part0_4, TRef.binary, TRef.nullary, TRef.unary, TRef.toBuf, TRef.ofBuf, cast_eq]
  after_results_simp
  simp only [val0_4_main_call2_call0_v1, val0_4_main_call2_call0_v23, val0_4_main_call2_call0_v19, val0_4_main_call2_call0_v22, val0_4_main_call2_call0_v20, val0_4_main_call2_v7] <;> rfl
set_option maxRecDepth 8192 in
set_option maxHeartbeats 2000000 in
theorem val0_5_main_call2_call0_v47 (V0 : Valuation τ sig (Elt F)) : val0_5 V0 (no_index (Proc.devRef .tc main_call2_call0_v47)) = res_main_call2_call0_v47 V0 := by
  unfold val0_5
  simp only [ops_part0_4, TRef.binary, TRef.nullary, TRef.unary, TRef.toBuf, TRef.ofBuf, cast_eq]
  after_results_simp
  simp only [val0_4_main_call2_call0_v1, val0_4_main_call2_call0_v23, val0_4_main_call2_call0_v19, val0_4_main_call2_call0_v22, val0_4_main_call2_call0_v20, val0_4_main_call2_v7] <;> rfl
set_option maxRecDepth 8192 in
set_option maxHeartbeats 2000000 in
theorem val0_5_main_call2_call0_c_11 (V0 : Valuation τ sig (Elt F)) : val0_5 V0 (no_index (Proc.devRef .tc main_call2_call0_c_11)) = constantI S_ 32 29#32 := by
  unfold val0_5
  simp only [ops_part0_4, TRef.binary, TRef.nullary, TRef.unary, TRef.toBuf, TRef.ofBuf, cast_eq]
  after_results_simp
  all_goals rfl

end Cert.ReferenceIdeal.Value

end

end
-- ==== Proof.RefVals2.lean ====
/- The buffers after the first operations, continued. -/
module

public import proofs.«01_k».proof.Proof.Gen.ReferenceIdeal
public import Idealize.ShloMosaic.Lib.StableHlo.Run
public import Idealize.ShloMosaic.Lib.Pipeline.Frame
public import proofs.«01_k».proof.Proof.RefVals1

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]
/-- The device's buffer contents after @main's first 180 operations. -/
def val0_6 (V0 : Valuation τ sig (Elt F)) : Valuation τ sig (Elt F) := after ops_part0_5 (val0_5 V0)
/-- The buffers that window `ops_part0_5`'s operations write. -/
abbrev ops_part0_5_W : List (Ref sig .tc) := [main_call2_call0_v48, main_call2_call0_v49, main_call2_call0_c_12, main_call2_call0_v50, main_call2_call0_v51, main_call2_call0_v52, main_call2_call0_v53, main_call2_call0_v54, main_call2_call0_c_13, main_call2_call0_v55, main_call2_call0_v56, main_call2_call0_c_14, main_call2_call0_v57, main_call2_call0_v58, main_call2_call0_v59, main_call2_call0_v60, main_call2_call0_v61, main_call2_call0_c_15, main_call2_call0_v62, main_call2_call0_v63, main_call2_call0_c_16, main_call2_call0_v64, main_call2_call0_v65, main_call2_call0_v66, main_call2_call0_v67, main_call2_call0_v68, main_call2_call0_v69, main_call2_call0_v70, main_call2_call0_v71, main_call2_call0_c_17]
set_option maxRecDepth 8192 in
theorem ops_part0_5_writes : (ops_part0_5 : List (HloOp τ sig (Elt F))).Forall fun op => op.writes ⊆ (ops_part0_5_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_5` does not write keeps its contents through it. -/
theorem val0_6_keep (V0 : Valuation τ sig (Elt F)) (r : Ref sig .tc) (h : r ∉ ops_part0_5_W) :
    val0_6 V0 (Proc.devRef .tc r) = val0_5 V0 (Proc.devRef .tc r) :=
  after_of_writes_sub ops_part0_5 _ ops_part0_5_writes h
theorem val0_6_main_arg0 (V0 : Valuation τ sig (Elt F)) : val0_6 V0 (no_index (Proc.devRef .tc main_arg0)) = V0 (Proc.devRef .tc main_arg0) :=
  (val0_6_keep V0 main_arg0 (by decide)).trans (val0_5_main_arg0 V0)
theorem val0_6_main_arg1 (V0 : Valuation τ sig (Elt F)) : val0_6 V0 (no_index (Proc.devRef .tc main_arg1)) = V0 (Proc.devRef .tc main_arg1) :=
  (val0_6_keep V0 main_arg1 (by decide)).trans (val0_5_main_arg1 V0)
theorem val0_6_main_arg2 (V0 : Valuation τ sig (Elt F)) : val0_6 V0 (no_index (Proc.devRef .tc main_arg2)) = V0 (Proc.devRef .tc main_arg2) :=
  (val0_6_keep V0 main_arg2 (by decide)).trans (val0_5_main_arg2 V0)
theorem val0_6_main_arg3 (V0 : Valuation τ sig (Elt F)) : val0_6 V0 (no_index (Proc.devRef .tc main_arg3)) = V0 (Proc.devRef .tc main_arg3) :=
  (val0_6_keep V0 main_arg3 (by decide)).trans (val0_5_main_arg3 V0)
theorem val0_6_main_v30 (V0 : Valuation τ sig (Elt F)) : val0_6 V0 (no_index (Proc.devRef .tc main_v30)) = mulf (broadcastInDim S16x16x100001 ![0, 1, 2] bcast_S16x1x1_S16x16x100001_0_1_2 (broadcastInDim S16x1x1 ![0] bcast_S16_S16x1x1_0 (Host.divf (broadcastInDim S16 ![] bcast_S_S16 (constant S_ .f32 0x3F7FBE77#32)) (subf (broadcastInDim S16 ![] bcast_S_S16 (constant S_ .f32 0x3F800000#32)) (mulf (broadcastInDim S16 ![] bcast_S_S16 (constant S_ .f32 0x3F7FBE77#32)) (V0 (Proc.devRef .tc main_arg2))))))) (subf (res_main_v22 V0) (mulf (res_main_v11 V0) (broadcastInDim S16x16x100001 ![0, 1, 2] bcast_S16x16x1_S16x16x100001_0_1_2 (broadcastInDim S16x16x1 ![0, 1] bcast_S16x16_S16x16x1_0_1 (Host.reduceAdd (res_main_v22 V0) (constant S_ .f32 0x00000000#32) reducesTo_S16x16x100001_S16x16_d2 h_S_))))) :=
  (val0_6_keep V0 main_v30 (by decide)).trans (val0_5_main_v30 V0)
theorem val0_6_main_v34 (V0 : Valuation τ sig (Elt F)) : val0_6 V0 (no_index (Proc.devRef .tc main_v34)) = addf (res_main_v11 V0) (mulf (broadcastInDim S16x16x100001 ![0, 1, 2] bcast_S1x1x1_S16x16x100001_0_1_2 (broadcastInDim S1x1x1 ![2] bcast_S1_S1x1x1_2 (V0 (Proc.devRef .tc main_arg3)))) (mulf (broadcastInDim S16x16x100001 ![0, 1, 2] bcast_S16x1x1_S16x16x100001_0_1_2 (broadcastInDim S16x1x1 ![0] bcast_S16_S16x1x1_0 (Host.divf (broadcastInDim S16 ![] bcast_S_S16 (constant S_ .f32 0x3F7FBE77#32)) (subf (broadcastInDim S16 ![] bcast_S_S16 (constant S_ .f32 0x3F800000#32)) (mulf (broadcastInDim S16 ![] bcast_S_S16 (constant S_ .f32 0x3F7FBE77#32)) (V0 (Proc.devRef .tc main_arg2))))))) (subf (res_main_v22 V0) (mulf (res_main_v11 V0) (broadcastInDim S16x16x100001 ![0, 1, 2] bcast_S16x16x1_S16x16x100001_0_1_2 (broadcastInDim S16x16x1 ![0, 1] bcast_S16x16_S16x16x1_0_1 (Host.reduceAdd (res_main_v22 V0) (constant S_ .f32 0x00000000#32) reducesTo_S16x16x100001_S16x16_d2 h_S_))))))) :=
  (val0_6_keep V0 main_v34 (by decide)).trans (val0_5_main_v34 V0)
theorem val0_6_main_call2_v2 (V0 : Valuation τ sig (Elt F)) : val0_6 V0 (no_index (Proc.devRef .tc main_call2_v2)) = res_main_call2_v2 V0 :=
  (val0_6_keep V0 main_call2_v2 (by decide)).trans (val0_5_main_call2_v2 V0)
theorem val0_6_main_call2_v3 (V0 : Valuation τ sig (Elt F)) : val0_6 V0 (no_index (Proc.devRef .tc main_call2_v3)) = broadcastInDim S1x1x1 ![] bcast_S_S1x1x1 (id (constant S_ .f32 0x3F800000#32)) :=
  (val0_6_keep V0 main_call2_v3 (by decide)).trans (val0_5_main_call2_v3 V0)
theorem val0_6_main_call2_v5 (V0 : Valuation τ sig (Elt F)) : val0_6 V0 (no_index (Proc.devRef .tc main_call2_v5)) = res_main_call2_v5 V0 :=
  (val0_6_keep V0 main_call2_v5 (by decide)).trans (val0_5_main_call2_v5 V0)
theorem val0_6_main_call2_v7 (V0 : Valuation τ sig (Elt F)) : val0_6 V0 (no_index (Proc.devRef .tc main_call2_v7)) = res_main_call2_v7 V0 :=
  (val0_6_keep V0 main_call2_v7 (by decide)).trans (val0_5_main_call2_v7 V0)
theorem val0_6_main_call2_call0_v1 (V0 : Valuation τ sig (Elt F)) : val0_6 V0 (no_index (Proc.devRef .tc main_call2_call0_v1)) = res_main_call2_call0_v1 V0 :=
  (val0_6_keep V0 main_call2_call0_v1 (by decide)).trans (val0_5_main_call2_call0_v1 V0)
set_option maxRecDepth 8192 in
set_option maxHeartbeats 2000000 in
theorem val0_6_main_call2_call0_v69 (V0 : Valuation τ sig (Elt F)) : val0_6 V0 (no_index (Proc.devRef .tc main_call2_call0_v69)) = addi (res_main_call2_call0_v61 V0) (broadcastInDim S16x16x100001 ![] bcast_S_S16x16x100001 (res_main_call2_call0_v1 V0)) := by
  unfold val0_6
  simp only [ops_part0_5, TRef.binary, TRef.nullary, TRef.unary, TRef.toBuf, TRef.ofBuf, cast_eq]
  after_results_simp
  simp only [val0_5_main_call2_call0_v1, val0_5_main_call2_call0_v46, val0_5_main_call2_call0_c_11, val0_5_main_call2_call0_v47] <;> rfl
set_option maxRecDepth 8192 in
set_option maxHeartbeats 2000000 in
theorem val0_6_main_call2_call0_v71 (V0 : Valuation τ sig (Elt F)) : val0_6 V0 (no_index (Proc.devRef .tc main_call2_call0_v71)) = addi (xori (res_main_call2_call0_v61 V0) (ori (Host.shli (res_main_call2_call0_v60 V0) (broadcastInDim S16x16x100001 ![] bcast_S_S16x16x100001 (constantI S_ 32 24#32))) (Host.shrui (res_main_call2_call0_v60 V0) (broadcastInDim S16x16x100001 ![] bcast_S_S16x16x100001 (constantI S_ 32 8#32))))) (broadcastInDim S16x16x100001 ![] bcast_S_S16x16x100001 (res_main_call2_v5 V0)) := by
  unfold val0_6
  simp only [ops_part0_5, TRef.binary, TRef.nullary, TRef.unary, TRef.toBuf, TRef.ofBuf, cast_eq]
  after_results_simp
  simp only [val0_5_main_call2_v5, val0_5_main_call2_call0_v46, val0_5_main_call2_call0_c_11, val0_5_main_call2_call0_v47] <;> rfl
set_option maxRecDepth 8192 in
set_option maxHeartbeats 2000000 in
theorem val0_6_main_call2_call0_c_17 (V0 : Valuation τ sig (Elt F)) : val0_6 V0 (no_index (Proc.devRef .tc main_call2_call0_c_17)) = constantI S_ 32 2#32 := by
  unfold val0_6
  simp only [ops_part0_5, TRef.binary, TRef.nullary, TRef.unary, TRef.toBuf, TRef.ofBuf, cast_eq]
  after_results_simp
  all_goals rfl

/-- The device's buffer contents after @main's first 210 operations. -/
def val0_7 (V0 : Valuation τ sig (Elt F)) : Valuation τ sig (Elt F) := after ops_part0_6 (val0_6 V0)
/-- The buffers that window `ops_part0_6`'s operations write. -/
abbrev ops_part0_6_W : List (Ref sig .tc) := [main_call2_call0_v72, main_call2_call0_v73, main_call2_call0_v74, main_call2_call0_c_18, main_call2_call0_v75, main_call2_call0_v76, main_call2_call0_c_19, main_call2_call0_v77, main_call2_call0_v78, main_call2_call0_v79, main_call2_call0_v80, main_call2_call0_v81, main_call2_call0_c_20, main_call2_call0_v82, main_call2_call0_v83, main_call2_call0_c_21, main_call2_call0_v84, main_call2_call0_v85, main_call2_call0_v86, main_call2_call0_v87, main_call2_call0_v88, main_call2_call0_c_22, main_call2_call0_v89, main_call2_call0_v90, main_call2_call0_c_23, main_call2_call0_v91, main_call2_call0_v92, main_call2_call0_v93, main_call2_call0_v94, main_call2_call0_v95]
set_option maxRecDepth 8192 in
theorem ops_part0_6_writes : (ops_part0_6 : List (HloOp τ sig (Elt F))).Forall fun op => op.writes ⊆ (ops_part0_6_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_6` does not write keeps its contents through it. -/
theorem val0_7_keep (V0 : Valuation τ sig (Elt F)) (r : Ref sig .tc) (h : r ∉ ops_part0_6_W) :
    val0_7 V0 (Proc.devRef .tc r) = val0_6 V0 (Proc.devRef .tc r) :=
  after_of_writes_sub ops_part0_6 _ ops_part0_6_writes h
theorem val0_7_main_arg0 (V0 : Valuation τ sig (Elt F)) : val0_7 V0 (no_index (Proc.devRef .tc main_arg0)) = V0 (Proc.devRef .tc main_arg0) :=
  (val0_7_keep V0 main_arg0 (by decide)).trans (val0_6_main_arg0 V0)
theorem val0_7_main_arg1 (V0 : Valuation τ sig (Elt F)) : val0_7 V0 (no_index (Proc.devRef .tc main_arg1)) = V0 (Proc.devRef .tc main_arg1) :=
  (val0_7_keep V0 main_arg1 (by decide)).trans (val0_6_main_arg1 V0)
theorem val0_7_main_arg2 (V0 : Valuation τ sig (Elt F)) : val0_7 V0 (no_index (Proc.devRef .tc main_arg2)) = V0 (Proc.devRef .tc main_arg2) :=
  (val0_7_keep V0 main_arg2 (by decide)).trans (val0_6_main_arg2 V0)
theorem val0_7_main_arg3 (V0 : Valuation τ sig (Elt F)) : val0_7 V0 (no_index (Proc.devRef .tc main_arg3)) = V0 (Proc.devRef .tc main_arg3) :=
  (val0_7_keep V0 main_arg3 (by decide)).trans (val0_6_main_arg3 V0)
theorem val0_7_main_v30 (V0 : Valuation τ sig (Elt F)) : val0_7 V0 (no_index (Proc.devRef .tc main_v30)) = mulf (broadcastInDim S16x16x100001 ![0, 1, 2] bcast_S16x1x1_S16x16x100001_0_1_2 (broadcastInDim S16x1x1 ![0] bcast_S16_S16x1x1_0 (Host.divf (broadcastInDim S16 ![] bcast_S_S16 (constant S_ .f32 0x3F7FBE77#32)) (subf (broadcastInDim S16 ![] bcast_S_S16 (constant S_ .f32 0x3F800000#32)) (mulf (broadcastInDim S16 ![] bcast_S_S16 (constant S_ .f32 0x3F7FBE77#32)) (V0 (Proc.devRef .tc main_arg2))))))) (subf (res_main_v22 V0) (mulf (res_main_v11 V0) (broadcastInDim S16x16x100001 ![0, 1, 2] bcast_S16x16x1_S16x16x100001_0_1_2 (broadcastInDim S16x16x1 ![0, 1] bcast_S16x16_S16x16x1_0_1 (Host.reduceAdd (res_main_v22 V0) (constant S_ .f32 0x00000000#32) reducesTo_S16x16x100001_S16x16_d2 h_S_))))) :=
  (val0_7_keep V0 main_v30 (by decide)).trans (val0_6_main_v30 V0)
theorem val0_7_main_v34 (V0 : Valuation τ sig (Elt F)) : val0_7 V0 (no_index (Proc.devRef .tc main_v34)) = addf (res_main_v11 V0) (mulf (broadcastInDim S16x16x100001 ![0, 1, 2] bcast_S1x1x1_S16x16x100001_0_1_2 (broadcastInDim S1x1x1 ![2] bcast_S1_S1x1x1_2 (V0 (Proc.devRef .tc main_arg3)))) (mulf (broadcastInDim S16x16x100001 ![0, 1, 2] bcast_S16x1x1_S16x16x100001_0_1_2 (broadcastInDim S16x1x1 ![0] bcast_S16_S16x1x1_0 (Host.divf (broadcastInDim S16 ![] bcast_S_S16 (constant S_ .f32 0x3F7FBE77#32)) (subf (broadcastInDim S16 ![] bcast_S_S16 (constant S_ .f32 0x3F800000#32)) (mulf (broadcastInDim S16 ![] bcast_S_S16 (constant S_ .f32 0x3F7FBE77#32)) (V0 (Proc.devRef .tc main_arg2))))))) (subf (res_main_v22 V0) (mulf (res_main_v11 V0) (broadcastInDim S16x16x100001 ![0, 1, 2] bcast_S16x16x1_S16x16x100001_0_1_2 (broadcastInDim S16x16x1 ![0, 1] bcast_S16x16_S16x16x1_0_1 (Host.reduceAdd (res_main_v22 V0) (constant S_ .f32 0x00000000#32) reducesTo_S16x16x100001_S16x16_d2 h_S_))))))) :=
  (val0_7_keep V0 main_v34 (by decide)).trans (val0_6_main_v34 V0)
theorem val0_7_main_call2_v2 (V0 : Valuation τ sig (Elt F)) : val0_7 V0 (no_index (Proc.devRef .tc main_call2_v2)) = res_main_call2_v2 V0 :=
  (val0_7_keep V0 main_call2_v2 (by decide)).trans (val0_6_main_call2_v2 V0)
theorem val0_7_main_call2_v3 (V0 : Valuation τ sig (Elt F)) : val0_7 V0 (no_index (Proc.devRef .tc main_call2_v3)) = broadcastInDim S1x1x1 ![] bcast_S_S1x1x1 (id (constant S_ .f32 0x3F800000#32)) :=
  (val0_7_keep V0 main_call2_v3 (by decide)).trans (val0_6_main_call2_v3 V0)
theorem val0_7_main_call2_v5 (V0 : Valuation τ sig (Elt F)) : val0_7 V0 (no_index (Proc.devRef .tc main_call2_v5)) = res_main_call2_v5 V0 :=
  (val0_7_keep V0 main_call2_v5 (by decide)).trans (val0_6_main_call2_v5 V0)
theorem val0_7_main_call2_v7 (V0 : Valuation τ sig (Elt F)) : val0_7 V0 (no_index (Proc.devRef .tc main_call2_v7)) = res_main_call2_v7 V0 :=
  (val0_7_keep V0 main_call2_v7 (by decide)).trans (val0_6_main_call2_v7 V0)
theorem val0_7_main_call2_call0_v1 (V0 : Valuation τ sig (Elt F)) : val0_7 V0 (no_index (Proc.devRef .tc main_call2_call0_v1)) = res_main_call2_call0_v1 V0 :=
  (val0_7_keep V0 main_call2_call0_v1 (by decide)).trans (val0_6_main_call2_call0_v1 V0)
set_option maxRecDepth 8192 in
set_option maxHeartbeats 2000000 in
theorem val0_7_main_call2_call0_v94 (V0 : Valuation τ sig (Elt F)) : val0_7 V0 (no_index (Proc.devRef .tc main_call2_call0_v94)) = res_main_call2_call0_v94 V0 := by
  unfold val0_7
  simp only [ops_part0_6, TRef.binary, TRef.nullary, TRef.unary, TRef.toBuf, TRef.ofBuf, cast_eq]
  after_results_simp
  simp only [val0_6_main_call2_call0_c_17, val0_6_main_call2_call0_v71, val0_6_main_call2_call0_v69] <;> rfl
set_option maxRecDepth 8192 in
set_option maxHeartbeats 2000000 in
theorem val0_7_main_call2_call0_v95 (V0 : Valuation τ sig (Elt F)) : val0_7 V0 (no_index (Proc.devRef .tc main_call2_call0_v95)) = res_main_call2_call0_v95 V0 := by
  unfold val0_7
  simp only [ops_part0_6, TRef.binary, TRef.nullary, TRef.unary, TRef.toBuf, TRef.ofBuf, cast_eq]
  after_results_simp
  simp only [val0_6_main_call2_call0_c_17, val0_6_main_call2_call0_v71, val0_6_main_call2_call0_v69] <;> rfl

/-- The device's buffer contents after @main's first 240 operations. -/
def val0_8 (V0 : Valuation τ sig (Elt F)) : Valuation τ sig (Elt F) := after ops_part0_7 (val0_7 V0)
/-- The buffers that window `ops_part0_7`'s operations write. -/
abbrev ops_part0_7_W : List (Ref sig .tc) := [main_call2_call0_c_24, main_call2_call0_v96, main_call2_call0_v97, main_call2_call0_c_25, main_call2_call0_v98, main_call2_call0_v99, main_call2_call0_v100, main_call2_call0_v101, main_call2_call0_v102, main_call2_call0_v103, main_call2_call0_v104, main_call2_call0_v105, main_call2_call0_c_26, main_call2_call0_v106, main_call2_call0_v107, main_call2_call0_v108, main_call2_call0_c_27, main_call2_call0_v109, main_call2_call0_v110, main_call2_call0_c_28, main_call2_call0_v111, main_call2_call0_v112, main_call2_call0_v113, main_call2_call0_v114, main_call2_call0_v115, main_call2_call0_c_29, main_call2_call0_v116, main_call2_call0_v117, main_call2_call0_c_30, main_call2_call0_v118]
set_option maxRecDepth 8192 in
theorem ops_part0_7_writes : (ops_part0_7 : List (HloOp τ sig (Elt F))).Forall fun op => op.writes ⊆ (ops_part0_7_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_7` does not write keeps its contents through it. -/
theorem val0_8_keep (V0 : Valuation τ sig (Elt F)) (r : Ref sig .tc) (h : r ∉ ops_part0_7_W) :
    val0_8 V0 (Proc.devRef .tc r) = val0_7 V0 (Proc.devRef .tc r) :=
  after_of_writes_sub ops_part0_7 _ ops_part0_7_writes h
theorem val0_8_main_arg0 (V0 : Valuation τ sig (Elt F)) : val0_8 V0 (no_index (Proc.devRef .tc main_arg0)) = V0 (Proc.devRef .tc main_arg0) :=
  (val0_8_keep V0 main_arg0 (by decide)).trans (val0_7_main_arg0 V0)
theorem val0_8_main_arg1 (V0 : Valuation τ sig (Elt F)) : val0_8 V0 (no_index (Proc.devRef .tc main_arg1)) = V0 (Proc.devRef .tc main_arg1) :=
  (val0_8_keep V0 main_arg1 (by decide)).trans (val0_7_main_arg1 V0)
theorem val0_8_main_arg2 (V0 : Valuation τ sig (Elt F)) : val0_8 V0 (no_index (Proc.devRef .tc main_arg2)) = V0 (Proc.devRef .tc main_arg2) :=
  (val0_8_keep V0 main_arg2 (by decide)).trans (val0_7_main_arg2 V0)
theorem val0_8_main_arg3 (V0 : Valuation τ sig (Elt F)) : val0_8 V0 (no_index (Proc.devRef .tc main_arg3)) = V0 (Proc.devRef .tc main_arg3) :=
  (val0_8_keep V0 main_arg3 (by decide)).trans (val0_7_main_arg3 V0)
theorem val0_8_main_v30 (V0 : Valuation τ sig (Elt F)) : val0_8 V0 (no_index (Proc.devRef .tc main_v30)) = mulf (broadcastInDim S16x16x100001 ![0, 1, 2] bcast_S16x1x1_S16x16x100001_0_1_2 (broadcastInDim S16x1x1 ![0] bcast_S16_S16x1x1_0 (Host.divf (broadcastInDim S16 ![] bcast_S_S16 (constant S_ .f32 0x3F7FBE77#32)) (subf (broadcastInDim S16 ![] bcast_S_S16 (constant S_ .f32 0x3F800000#32)) (mulf (broadcastInDim S16 ![] bcast_S_S16 (constant S_ .f32 0x3F7FBE77#32)) (V0 (Proc.devRef .tc main_arg2))))))) (subf (res_main_v22 V0) (mulf (res_main_v11 V0) (broadcastInDim S16x16x100001 ![0, 1, 2] bcast_S16x16x1_S16x16x100001_0_1_2 (broadcastInDim S16x16x1 ![0, 1] bcast_S16x16_S16x16x1_0_1 (Host.reduceAdd (res_main_v22 V0) (constant S_ .f32 0x00000000#32) reducesTo_S16x16x100001_S16x16_d2 h_S_))))) :=
  (val0_8_keep V0 main_v30 (by decide)).trans (val0_7_main_v30 V0)
theorem val0_8_main_v34 (V0 : Valuation τ sig (Elt F)) : val0_8 V0 (no_index (Proc.devRef .tc main_v34)) = addf (res_main_v11 V0) (mulf (broadcastInDim S16x16x100001 ![0, 1, 2] bcast_S1x1x1_S16x16x100001_0_1_2 (broadcastInDim S1x1x1 ![2] bcast_S1_S1x1x1_2 (V0 (Proc.devRef .tc main_arg3)))) (mulf (broadcastInDim S16x16x100001 ![0, 1, 2] bcast_S16x1x1_S16x16x100001_0_1_2 (broadcastInDim S16x1x1 ![0] bcast_S16_S16x1x1_0 (Host.divf (broadcastInDim S16 ![] bcast_S_S16 (constant S_ .f32 0x3F7FBE77#32)) (subf (broadcastInDim S16 ![] bcast_S_S16 (constant S_ .f32 0x3F800000#32)) (mulf (broadcastInDim S16 ![] bcast_S_S16 (constant S_ .f32 0x3F7FBE77#32)) (V0 (Proc.devRef .tc main_arg2))))))) (subf (res_main_v22 V0) (mulf (res_main_v11 V0) (broadcastInDim S16x16x100001 ![0, 1, 2] bcast_S16x16x1_S16x16x100001_0_1_2 (broadcastInDim S16x16x1 ![0, 1] bcast_S16x16_S16x16x1_0_1 (Host.reduceAdd (res_main_v22 V0) (constant S_ .f32 0x00000000#32) reducesTo_S16x16x100001_S16x16_d2 h_S_))))))) :=
  (val0_8_keep V0 main_v34 (by decide)).trans (val0_7_main_v34 V0)
theorem val0_8_main_call2_v2 (V0 : Valuation τ sig (Elt F)) : val0_8 V0 (no_index (Proc.devRef .tc main_call2_v2)) = res_main_call2_v2 V0 :=
  (val0_8_keep V0 main_call2_v2 (by decide)).trans (val0_7_main_call2_v2 V0)
theorem val0_8_main_call2_v3 (V0 : Valuation τ sig (Elt F)) : val0_8 V0 (no_index (Proc.devRef .tc main_call2_v3)) = broadcastInDim S1x1x1 ![] bcast_S_S1x1x1 (id (constant S_ .f32 0x3F800000#32)) :=
  (val0_8_keep V0 main_call2_v3 (by decide)).trans (val0_7_main_call2_v3 V0)
theorem val0_8_main_call2_v5 (V0 : Valuation τ sig (Elt F)) : val0_8 V0 (no_index (Proc.devRef .tc main_call2_v5)) = res_main_call2_v5 V0 :=
  (val0_8_keep V0 main_call2_v5 (by decide)).trans (val0_7_main_call2_v5 V0)
theorem val0_8_main_call2_v7 (V0 : Valuation τ sig (Elt F)) : val0_8 V0 (no_index (Proc.devRef .tc main_call2_v7)) = res_main_call2_v7 V0 :=
  (val0_8_keep V0 main_call2_v7 (by decide)).trans (val0_7_main_call2_v7 V0)
theorem val0_8_main_call2_call0_v1 (V0 : Valuation τ sig (Elt F)) : val0_8 V0 (no_index (Proc.devRef .tc main_call2_call0_v1)) = res_main_call2_call0_v1 V0 :=
  (val0_8_keep V0 main_call2_call0_v1 (by decide)).trans (val0_7_main_call2_call0_v1 V0)
set_option maxRecDepth 8192 in
set_option maxHeartbeats 2000000 in
theorem val0_8_main_call2_call0_v114 (V0 : Valuation τ sig (Elt F)) : val0_8 V0 (no_index (Proc.devRef .tc main_call2_call0_v114)) = res_main_call2_call0_v114 V0 := by
  unfold val0_8
  simp only [ops_part0_7, TRef.binary, TRef.nullary, TRef.unary, TRef.toBuf, TRef.ofBuf, cast_eq]
  after_results_simp
  simp only [val0_7_main_call2_v7, val0_7_main_call2_call0_v94, val0_7_main_call2_call0_v95, val0_7_main_call2_v5] <;> rfl
set_option maxRecDepth 8192 in
set_option maxHeartbeats 2000000 in
theorem val0_8_main_call2_call0_v115 (V0 : Valuation τ sig (Elt F)) : val0_8 V0 (no_index (Proc.devRef .tc main_call2_call0_v115)) = res_main_call2_call0_v115 V0 := by
  unfold val0_8
  simp only [ops_part0_7, TRef.binary, TRef.nullary, TRef.unary, TRef.toBuf, TRef.ofBuf, cast_eq]
  after_results_simp
  simp only [val0_7_main_call2_v7, val0_7_main_call2_call0_v94, val0_7_main_call2_call0_v95, val0_7_main_call2_v5] <;> rfl
set_option maxRecDepth 8192 in
set_option maxHeartbeats 2000000 in
theorem val0_8_main_call2_call0_v117 (V0 : Valuation τ sig (Elt F)) : val0_8 V0 (no_index (Proc.devRef .tc main_call2_call0_v117)) = Host.shli (res_main_call2_call0_v114 V0) (broadcastInDim S16x16x100001 ![] bcast_S_S16x16x100001 (constantI S_ 32 29#32)) := by
  unfold val0_8
  simp only [ops_part0_7, TRef.binary, TRef.nullary, TRef.unary, TRef.toBuf, TRef.ofBuf, cast_eq]
  after_results_simp
  simp only [val0_7_main_call2_v7, val0_7_main_call2_call0_v94, val0_7_main_call2_call0_v95, val0_7_main_call2_v5] <;> rfl
set_option maxRecDepth 8192 in
set_option maxHeartbeats 2000000 in
theorem val0_8_main_call2_call0_v118 (V0 : Valuation τ sig (Elt F)) : val0_8 V0 (no_index (Proc.devRef .tc main_call2_call0_v118)) = broadcastInDim S16x16x100001 ![] bcast_S_S16x16x100001 (constantI S_ 32 3#32) := by
  unfold val0_8
  simp only [ops_part0_7, TRef.binary, TRef.nullary, TRef.unary, TRef.toBuf, TRef.ofBuf, cast_eq]
  after_results_simp
  all_goals rfl

end Cert.ReferenceIdeal.Value

end

end
-- ==== Proof.RefVals3.lean ====
/- The buffers after the last operations. -/
module

public import proofs.«01_k».proof.Proof.Gen.ReferenceIdeal
public import Idealize.ShloMosaic.Lib.StableHlo.Run
public import Idealize.ShloMosaic.Lib.Pipeline.Frame
public import proofs.«01_k».proof.Proof.RefVals2

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]
/-- The device's buffer contents after @main's first 270 operations. -/
def val0_9 (V0 : Valuation τ sig (Elt F)) : Valuation τ sig (Elt F) := after ops_part0_8 (val0_8 V0)
/-- The buffers that window `ops_part0_8`'s operations write. -/
abbrev ops_part0_8_W : List (Ref sig .tc) := [main_call2_call0_v119, main_call2_call0_v120, main_call2_call0_v121, main_call2_call0_v122, main_call2_call0_c_31, main_call2_call0_v123, main_call2_call0_v124, main_call2_call0_c_32, main_call2_call0_v125, main_call2_call0_v126, main_call2_call0_v127, main_call2_call0_v128, main_call2_call0_v129, main_call2_call0_c_33, main_call2_call0_v130, main_call2_call0_v131, main_call2_call0_c_34, main_call2_call0_v132, main_call2_call0_v133, main_call2_call0_v134, main_call2_call0_v135, main_call2_call0_v136, main_call2_call0_v137, main_call2_call0_v138, main_call2_call0_v139, main_call2_call0_c_35, main_call2_call0_v140, main_call2_call0_v141, main_call2_call0_v142, main_call2_call0_c_36]
set_option maxRecDepth 8192 in
theorem ops_part0_8_writes : (ops_part0_8 : List (HloOp τ sig (Elt F))).Forall fun op => op.writes ⊆ (ops_part0_8_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_8` does not write keeps its contents through it. -/
theorem val0_9_keep (V0 : Valuation τ sig (Elt F)) (r : Ref sig .tc) (h : r ∉ ops_part0_8_W) :
    val0_9 V0 (Proc.devRef .tc r) = val0_8 V0 (Proc.devRef .tc r) :=
  after_of_writes_sub ops_part0_8 _ ops_part0_8_writes h
theorem val0_9_main_arg0 (V0 : Valuation τ sig (Elt F)) : val0_9 V0 (no_index (Proc.devRef .tc main_arg0)) = V0 (Proc.devRef .tc main_arg0) :=
  (val0_9_keep V0 main_arg0 (by decide)).trans (val0_8_main_arg0 V0)
theorem val0_9_main_arg1 (V0 : Valuation τ sig (Elt F)) : val0_9 V0 (no_index (Proc.devRef .tc main_arg1)) = V0 (Proc.devRef .tc main_arg1) :=
  (val0_9_keep V0 main_arg1 (by decide)).trans (val0_8_main_arg1 V0)
theorem val0_9_main_arg2 (V0 : Valuation τ sig (Elt F)) : val0_9 V0 (no_index (Proc.devRef .tc main_arg2)) = V0 (Proc.devRef .tc main_arg2) :=
  (val0_9_keep V0 main_arg2 (by decide)).trans (val0_8_main_arg2 V0)
theorem val0_9_main_arg3 (V0 : Valuation τ sig (Elt F)) : val0_9 V0 (no_index (Proc.devRef .tc main_arg3)) = V0 (Proc.devRef .tc main_arg3) :=
  (val0_9_keep V0 main_arg3 (by decide)).trans (val0_8_main_arg3 V0)
theorem val0_9_main_v30 (V0 : Valuation τ sig (Elt F)) : val0_9 V0 (no_index (Proc.devRef .tc main_v30)) = mulf (broadcastInDim S16x16x100001 ![0, 1, 2] bcast_S16x1x1_S16x16x100001_0_1_2 (broadcastInDim S16x1x1 ![0] bcast_S16_S16x1x1_0 (Host.divf (broadcastInDim S16 ![] bcast_S_S16 (constant S_ .f32 0x3F7FBE77#32)) (subf (broadcastInDim S16 ![] bcast_S_S16 (constant S_ .f32 0x3F800000#32)) (mulf (broadcastInDim S16 ![] bcast_S_S16 (constant S_ .f32 0x3F7FBE77#32)) (V0 (Proc.devRef .tc main_arg2))))))) (subf (res_main_v22 V0) (mulf (res_main_v11 V0) (broadcastInDim S16x16x100001 ![0, 1, 2] bcast_S16x16x1_S16x16x100001_0_1_2 (broadcastInDim S16x16x1 ![0, 1] bcast_S16x16_S16x16x1_0_1 (Host.reduceAdd (res_main_v22 V0) (constant S_ .f32 0x00000000#32) reducesTo_S16x16x100001_S16x16_d2 h_S_))))) :=
  (val0_9_keep V0 main_v30 (by decide)).trans (val0_8_main_v30 V0)
theorem val0_9_main_v34 (V0 : Valuation τ sig (Elt F)) : val0_9 V0 (no_index (Proc.devRef .tc main_v34)) = addf (res_main_v11 V0) (mulf (broadcastInDim S16x16x100001 ![0, 1, 2] bcast_S1x1x1_S16x16x100001_0_1_2 (broadcastInDim S1x1x1 ![2] bcast_S1_S1x1x1_2 (V0 (Proc.devRef .tc main_arg3)))) (mulf (broadcastInDim S16x16x100001 ![0, 1, 2] bcast_S16x1x1_S16x16x100001_0_1_2 (broadcastInDim S16x1x1 ![0] bcast_S16_S16x1x1_0 (Host.divf (broadcastInDim S16 ![] bcast_S_S16 (constant S_ .f32 0x3F7FBE77#32)) (subf (broadcastInDim S16 ![] bcast_S_S16 (constant S_ .f32 0x3F800000#32)) (mulf (broadcastInDim S16 ![] bcast_S_S16 (constant S_ .f32 0x3F7FBE77#32)) (V0 (Proc.devRef .tc main_arg2))))))) (subf (res_main_v22 V0) (mulf (res_main_v11 V0) (broadcastInDim S16x16x100001 ![0, 1, 2] bcast_S16x16x1_S16x16x100001_0_1_2 (broadcastInDim S16x16x1 ![0, 1] bcast_S16x16_S16x16x1_0_1 (Host.reduceAdd (res_main_v22 V0) (constant S_ .f32 0x00000000#32) reducesTo_S16x16x100001_S16x16_d2 h_S_))))))) :=
  (val0_9_keep V0 main_v34 (by decide)).trans (val0_8_main_v34 V0)
theorem val0_9_main_call2_v2 (V0 : Valuation τ sig (Elt F)) : val0_9 V0 (no_index (Proc.devRef .tc main_call2_v2)) = res_main_call2_v2 V0 :=
  (val0_9_keep V0 main_call2_v2 (by decide)).trans (val0_8_main_call2_v2 V0)
theorem val0_9_main_call2_v3 (V0 : Valuation τ sig (Elt F)) : val0_9 V0 (no_index (Proc.devRef .tc main_call2_v3)) = broadcastInDim S1x1x1 ![] bcast_S_S1x1x1 (id (constant S_ .f32 0x3F800000#32)) :=
  (val0_9_keep V0 main_call2_v3 (by decide)).trans (val0_8_main_call2_v3 V0)
theorem val0_9_main_call2_v5 (V0 : Valuation τ sig (Elt F)) : val0_9 V0 (no_index (Proc.devRef .tc main_call2_v5)) = res_main_call2_v5 V0 :=
  (val0_9_keep V0 main_call2_v5 (by decide)).trans (val0_8_main_call2_v5 V0)
theorem val0_9_main_call2_call0_v1 (V0 : Valuation τ sig (Elt F)) : val0_9 V0 (no_index (Proc.devRef .tc main_call2_call0_v1)) = res_main_call2_call0_v1 V0 :=
  (val0_9_keep V0 main_call2_call0_v1 (by decide)).trans (val0_8_main_call2_call0_v1 V0)
set_option maxRecDepth 8192 in
set_option maxHeartbeats 2000000 in
theorem val0_9_main_call2_call0_v141 (V0 : Valuation τ sig (Elt F)) : val0_9 V0 (no_index (Proc.devRef .tc main_call2_call0_v141)) = res_main_call2_call0_v141 V0 := by
  unfold val0_9
  simp only [ops_part0_8, TRef.binary, TRef.nullary, TRef.unary, TRef.toBuf, TRef.ofBuf, cast_eq]
  after_results_simp
  simp only [val0_8_main_call2_call0_v1, val0_8_main_call2_call0_v118, val0_8_main_call2_call0_v114, val0_8_main_call2_call0_v117, val0_8_main_call2_call0_v115] <;> rfl
set_option maxRecDepth 8192 in
set_option maxHeartbeats 2000000 in
theorem val0_9_main_call2_call0_v142 (V0 : Valuation τ sig (Elt F)) : val0_9 V0 (no_index (Proc.devRef .tc main_call2_call0_v142)) = res_main_call2_call0_v142 V0 := by
  unfold val0_9
  simp only [ops_part0_8, TRef.binary, TRef.nullary, TRef.unary, TRef.toBuf, TRef.ofBuf, cast_eq]
  after_results_simp
  simp only [val0_8_main_call2_call0_v1, val0_8_main_call2_call0_v118, val0_8_main_call2_call0_v114, val0_8_main_call2_call0_v117, val0_8_main_call2_call0_v115, val0_8_main_call2_v7] <;> rfl
set_option maxRecDepth 8192 in
set_option maxHeartbeats 2000000 in
theorem val0_9_main_call2_call0_c_36 (V0 : Valuation τ sig (Elt F)) : val0_9 V0 (no_index (Proc.devRef .tc main_call2_call0_c_36)) = constantI S_ 32 13#32 := by
  unfold val0_9
  simp only [ops_part0_8, TRef.binary, TRef.nullary, TRef.unary, TRef.toBuf, TRef.ofBuf, cast_eq]
  after_results_simp
  all_goals rfl

/-- The device's buffer contents after @main's first 300 operations. -/
def val0_10 (V0 : Valuation τ sig (Elt F)) : Valuation τ sig (Elt F) := after ops_part0_9 (val0_9 V0)
/-- The buffers that window `ops_part0_9`'s operations write. -/
abbrev ops_part0_9_W : List (Ref sig .tc) := [main_call2_call0_v143, main_call2_call0_v144, main_call2_call0_c_37, main_call2_call0_v145, main_call2_call0_v146, main_call2_call0_v147, main_call2_call0_v148, main_call2_call0_v149, main_call2_call0_c_38, main_call2_call0_v150, main_call2_call0_v151, main_call2_call0_c_39, main_call2_call0_v152, main_call2_call0_v153, main_call2_call0_v154, main_call2_call0_v155, main_call2_call0_v156, main_call2_call0_c_40, main_call2_call0_v157, main_call2_call0_v158, main_call2_call0_c_41, main_call2_call0_v159, main_call2_call0_v160, main_call2_call0_v161, main_call2_call0_v162, main_call2_call0_v163, main_call2_call0_c_42, main_call2_call0_v164, main_call2_call0_v165, main_call2_call0_c_43]
set_option maxRecDepth 8192 in
theorem ops_part0_9_writes : (ops_part0_9 : List (HloOp τ sig (Elt F))).Forall fun op => op.writes ⊆ (ops_part0_9_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_9` does not write keeps its contents through it. -/
theorem val0_10_keep (V0 : Valuation τ sig (Elt F)) (r : Ref sig .tc) (h : r ∉ ops_part0_9_W) :
    val0_10 V0 (Proc.devRef .tc r) = val0_9 V0 (Proc.devRef .tc r) :=
  after_of_writes_sub ops_part0_9 _ ops_part0_9_writes h
theorem val0_10_main_arg0 (V0 : Valuation τ sig (Elt F)) : val0_10 V0 (no_index (Proc.devRef .tc main_arg0)) = V0 (Proc.devRef .tc main_arg0) :=
  (val0_10_keep V0 main_arg0 (by decide)).trans (val0_9_main_arg0 V0)
theorem val0_10_main_arg1 (V0 : Valuation τ sig (Elt F)) : val0_10 V0 (no_index (Proc.devRef .tc main_arg1)) = V0 (Proc.devRef .tc main_arg1) :=
  (val0_10_keep V0 main_arg1 (by decide)).trans (val0_9_main_arg1 V0)
theorem val0_10_main_arg2 (V0 : Valuation τ sig (Elt F)) : val0_10 V0 (no_index (Proc.devRef .tc main_arg2)) = V0 (Proc.devRef .tc main_arg2) :=
  (val0_10_keep V0 main_arg2 (by decide)).trans (val0_9_main_arg2 V0)
theorem val0_10_main_arg3 (V0 : Valuation τ sig (Elt F)) : val0_10 V0 (no_index (Proc.devRef .tc main_arg3)) = V0 (Proc.devRef .tc main_arg3) :=
  (val0_10_keep V0 main_arg3 (by decide)).trans (val0_9_main_arg3 V0)
theorem val0_10_main_v30 (V0 : Valuation τ sig (Elt F)) : val0_10 V0 (no_index (Proc.devRef .tc main_v30)) = mulf (broadcastInDim S16x16x100001 ![0, 1, 2] bcast_S16x1x1_S16x16x100001_0_1_2 (broadcastInDim S16x1x1 ![0] bcast_S16_S16x1x1_0 (Host.divf (broadcastInDim S16 ![] bcast_S_S16 (constant S_ .f32 0x3F7FBE77#32)) (subf (broadcastInDim S16 ![] bcast_S_S16 (constant S_ .f32 0x3F800000#32)) (mulf (broadcastInDim S16 ![] bcast_S_S16 (constant S_ .f32 0x3F7FBE77#32)) (V0 (Proc.devRef .tc main_arg2))))))) (subf (res_main_v22 V0) (mulf (res_main_v11 V0) (broadcastInDim S16x16x100001 ![0, 1, 2] bcast_S16x16x1_S16x16x100001_0_1_2 (broadcastInDim S16x16x1 ![0, 1] bcast_S16x16_S16x16x1_0_1 (Host.reduceAdd (res_main_v22 V0) (constant S_ .f32 0x00000000#32) reducesTo_S16x16x100001_S16x16_d2 h_S_))))) :=
  (val0_10_keep V0 main_v30 (by decide)).trans (val0_9_main_v30 V0)
theorem val0_10_main_v34 (V0 : Valuation τ sig (Elt F)) : val0_10 V0 (no_index (Proc.devRef .tc main_v34)) = addf (res_main_v11 V0) (mulf (broadcastInDim S16x16x100001 ![0, 1, 2] bcast_S1x1x1_S16x16x100001_0_1_2 (broadcastInDim S1x1x1 ![2] bcast_S1_S1x1x1_2 (V0 (Proc.devRef .tc main_arg3)))) (mulf (broadcastInDim S16x16x100001 ![0, 1, 2] bcast_S16x1x1_S16x16x100001_0_1_2 (broadcastInDim S16x1x1 ![0] bcast_S16_S16x1x1_0 (Host.divf (broadcastInDim S16 ![] bcast_S_S16 (constant S_ .f32 0x3F7FBE77#32)) (subf (broadcastInDim S16 ![] bcast_S_S16 (constant S_ .f32 0x3F800000#32)) (mulf (broadcastInDim S16 ![] bcast_S_S16 (constant S_ .f32 0x3F7FBE77#32)) (V0 (Proc.devRef .tc main_arg2))))))) (subf (res_main_v22 V0) (mulf (res_main_v11 V0) (broadcastInDim S16x16x100001 ![0, 1, 2] bcast_S16x16x1_S16x16x100001_0_1_2 (broadcastInDim S16x16x1 ![0, 1] bcast_S16x16_S16x16x1_0_1 (Host.reduceAdd (res_main_v22 V0) (constant S_ .f32 0x00000000#32) reducesTo_S16x16x100001_S16x16_d2 h_S_))))))) :=
  (val0_10_keep V0 main_v34 (by decide)).trans (val0_9_main_v34 V0)
theorem val0_10_main_call2_v2 (V0 : Valuation τ sig (Elt F)) : val0_10 V0 (no_index (Proc.devRef .tc main_call2_v2)) = res_main_call2_v2 V0 :=
  (val0_10_keep V0 main_call2_v2 (by decide)).trans (val0_9_main_call2_v2 V0)
theorem val0_10_main_call2_v3 (V0 : Valuation τ sig (Elt F)) : val0_10 V0 (no_index (Proc.devRef .tc main_call2_v3)) = broadcastInDim S1x1x1 ![] bcast_S_S1x1x1 (id (constant S_ .f32 0x3F800000#32)) :=
  (val0_10_keep V0 main_call2_v3 (by decide)).trans (val0_9_main_call2_v3 V0)
theorem val0_10_main_call2_v5 (V0 : Valuation τ sig (Elt F)) : val0_10 V0 (no_index (Proc.devRef .tc main_call2_v5)) = res_main_call2_v5 V0 :=
  (val0_10_keep V0 main_call2_v5 (by decide)).trans (val0_9_main_call2_v5 V0)
theorem val0_10_main_call2_call0_v1 (V0 : Valuation τ sig (Elt F)) : val0_10 V0 (no_index (Proc.devRef .tc main_call2_call0_v1)) = res_main_call2_call0_v1 V0 :=
  (val0_10_keep V0 main_call2_call0_v1 (by decide)).trans (val0_9_main_call2_call0_v1 V0)
set_option maxRecDepth 8192 in
set_option maxHeartbeats 2000000 in
theorem val0_10_main_call2_call0_v162 (V0 : Valuation τ sig (Elt F)) : val0_10 V0 (no_index (Proc.devRef .tc main_call2_call0_v162)) = res_main_call2_call0_v162 V0 := by
  unfold val0_10
  simp only [ops_part0_9, TRef.binary, TRef.nullary, TRef.unary, TRef.toBuf, TRef.ofBuf, cast_eq]
  after_results_simp
  simp only [val0_9_main_call2_call0_v141, val0_9_main_call2_call0_c_36, val0_9_main_call2_call0_v142] <;> rfl
set_option maxRecDepth 8192 in
set_option maxHeartbeats 2000000 in
theorem val0_10_main_call2_call0_v163 (V0 : Valuation τ sig (Elt F)) : val0_10 V0 (no_index (Proc.devRef .tc main_call2_call0_v163)) = res_main_call2_call0_v163 V0 := by
  unfold val0_10
  simp only [ops_part0_9, TRef.binary, TRef.nullary, TRef.unary, TRef.toBuf, TRef.ofBuf, cast_eq]
  after_results_simp
  simp only [val0_9_main_call2_call0_v141, val0_9_main_call2_call0_c_36, val0_9_main_call2_call0_v142] <;> rfl
set_option maxRecDepth 8192 in
set_option maxHeartbeats 2000000 in
theorem val0_10_main_call2_call0_v165 (V0 : Valuation τ sig (Elt F)) : val0_10 V0 (no_index (Proc.devRef .tc main_call2_call0_v165)) = Host.shli (res_main_call2_call0_v162 V0) (broadcastInDim S16x16x100001 ![] bcast_S_S16x16x100001 (constantI S_ 32 6#32)) := by
  unfold val0_10
  simp only [ops_part0_9, TRef.binary, TRef.nullary, TRef.unary, TRef.toBuf, TRef.ofBuf, cast_eq]
  after_results_simp
  simp only [val0_9_main_call2_call0_v141, val0_9_main_call2_call0_c_36, val0_9_main_call2_call0_v142] <;> rfl
set_option maxRecDepth 8192 in
set_option maxHeartbeats 2000000 in
theorem val0_10_main_call2_call0_c_43 (V0 : Valuation τ sig (Elt F)) : val0_10 V0 (no_index (Proc.devRef .tc main_call2_call0_c_43)) = constantI S_ 32 26#32 := by
  unfold val0_10
  simp only [ops_part0_9, TRef.binary, TRef.nullary, TRef.unary, TRef.toBuf, TRef.ofBuf, cast_eq]
  after_results_simp
  all_goals rfl

/-- The device's buffer contents after @main's first 330 operations. -/
def val0_11 (V0 : Valuation τ sig (Elt F)) : Valuation τ sig (Elt F) := after ops_part0_10 (val0_10 V0)
/-- The buffers that window `ops_part0_10`'s operations write. -/
abbrev ops_part0_10_W : List (Ref sig .tc) := [main_call2_call0_v166, main_call2_call0_v167, main_call2_call0_v168, main_call2_call0_v169, main_call2_call0_v170, main_call2_v23_0, main_call2_call0_v172, main_call2_call0_v173, main_call2_call0_c_44, main_call2_call0_v174, main_call2_v23_1, main_call2_v24, main_call2_c_3, main_call2_v25, main_call2_v26, main_call2_c_4, main_call2_v27, main_call2_v28, main_call2_v29, main_call2_cst, main_call2_v30, main_call2_v31, main_call2_v32, main_call2_v33, main_call2_v34, main_call2_v35, main_call2_v36, main_call2_v37, main_v42, main_cst_11]
set_option maxRecDepth 8192 in
theorem ops_part0_10_writes : (ops_part0_10 : List (HloOp τ sig (Elt F))).Forall fun op => op.writes ⊆ (ops_part0_10_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_10` does not write keeps its contents through it. -/
theorem val0_11_keep (V0 : Valuation τ sig (Elt F)) (r : Ref sig .tc) (h : r ∉ ops_part0_10_W) :
    val0_11 V0 (Proc.devRef .tc r) = val0_10 V0 (Proc.devRef .tc r) :=
  after_of_writes_sub ops_part0_10 _ ops_part0_10_writes h
theorem val0_11_main_arg0 (V0 : Valuation τ sig (Elt F)) : val0_11 V0 (no_index (Proc.devRef .tc main_arg0)) = V0 (Proc.devRef .tc main_arg0) :=
  (val0_11_keep V0 main_arg0 (by decide)).trans (val0_10_main_arg0 V0)
theorem val0_11_main_arg1 (V0 : Valuation τ sig (Elt F)) : val0_11 V0 (no_index (Proc.devRef .tc main_arg1)) = V0 (Proc.devRef .tc main_arg1) :=
  (val0_11_keep V0 main_arg1 (by decide)).trans (val0_10_main_arg1 V0)
theorem val0_11_main_arg2 (V0 : Valuation τ sig (Elt F)) : val0_11 V0 (no_index (Proc.devRef .tc main_arg2)) = V0 (Proc.devRef .tc main_arg2) :=
  (val0_11_keep V0 main_arg2 (by decide)).trans (val0_10_main_arg2 V0)
theorem val0_11_main_arg3 (V0 : Valuation τ sig (Elt F)) : val0_11 V0 (no_index (Proc.devRef .tc main_arg3)) = V0 (Proc.devRef .tc main_arg3) :=
  (val0_11_keep V0 main_arg3 (by decide)).trans (val0_10_main_arg3 V0)
theorem val0_11_main_v30 (V0 : Valuation τ sig (Elt F)) : val0_11 V0 (no_index (Proc.devRef .tc main_v30)) = mulf (broadcastInDim S16x16x100001 ![0, 1, 2] bcast_S16x1x1_S16x16x100001_0_1_2 (broadcastInDim S16x1x1 ![0] bcast_S16_S16x1x1_0 (Host.divf (broadcastInDim S16 ![] bcast_S_S16 (constant S_ .f32 0x3F7FBE77#32)) (subf (broadcastInDim S16 ![] bcast_S_S16 (constant S_ .f32 0x3F800000#32)) (mulf (broadcastInDim S16 ![] bcast_S_S16 (constant S_ .f32 0x3F7FBE77#32)) (V0 (Proc.devRef .tc main_arg2))))))) (subf (res_main_v22 V0) (mulf (res_main_v11 V0) (broadcastInDim S16x16x100001 ![0, 1, 2] bcast_S16x16x1_S16x16x100001_0_1_2 (broadcastInDim S16x16x1 ![0, 1] bcast_S16x16_S16x16x1_0_1 (Host.reduceAdd (res_main_v22 V0) (constant S_ .f32 0x00000000#32) reducesTo_S16x16x100001_S16x16_d2 h_S_))))) :=
  (val0_11_keep V0 main_v30 (by decide)).trans (val0_10_main_v30 V0)
theorem val0_11_main_v34 (V0 : Valuation τ sig (Elt F)) : val0_11 V0 (no_index (Proc.devRef .tc main_v34)) = addf (res_main_v11 V0) (mulf (broadcastInDim S16x16x100001 ![0, 1, 2] bcast_S1x1x1_S16x16x100001_0_1_2 (broadcastInDim S1x1x1 ![2] bcast_S1_S1x1x1_2 (V0 (Proc.devRef .tc main_arg3)))) (mulf (broadcastInDim S16x16x100001 ![0, 1, 2] bcast_S16x1x1_S16x16x100001_0_1_2 (broadcastInDim S16x1x1 ![0] bcast_S16_S16x1x1_0 (Host.divf (broadcastInDim S16 ![] bcast_S_S16 (constant S_ .f32 0x3F7FBE77#32)) (subf (broadcastInDim S16 ![] bcast_S_S16 (constant S_ .f32 0x3F800000#32)) (mulf (broadcastInDim S16 ![] bcast_S_S16 (constant S_ .f32 0x3F7FBE77#32)) (V0 (Proc.devRef .tc main_arg2))))))) (subf (res_main_v22 V0) (mulf (res_main_v11 V0) (broadcastInDim S16x16x100001 ![0, 1, 2] bcast_S16x16x1_S16x16x100001_0_1_2 (broadcastInDim S16x16x1 ![0, 1] bcast_S16x16_S16x16x1_0_1 (Host.reduceAdd (res_main_v22 V0) (constant S_ .f32 0x00000000#32) reducesTo_S16x16x100001_S16x16_d2 h_S_))))))) :=
  (val0_11_keep V0 main_v34 (by decide)).trans (val0_10_main_v34 V0)
set_option maxRecDepth 8192 in
set_option maxHeartbeats 2000000 in
theorem val0_11_main_v42 (V0 : Valuation τ sig (Elt F)) : val0_11 V0 (no_index (Proc.devRef .tc main_v42)) = maximumf (broadcastInDim S16x16x100001 ![0, 1, 2] bcast_S1x1x1_S16x16x100001_0_1_2 (res_main_call2_v2 V0)) (addf (mulf (subf (bitcastToFloat (F := F) .f32 (ori (Host.shrui (xori (addi (res_main_call2_call0_v163 V0) (broadcastInDim S16x16x100001 ![] bcast_S_S16x16x100001 (res_main_call2_call0_v1 V0))) (addi (addi (xori (res_main_call2_call0_v163 V0) (ori (Host.shli (res_main_call2_call0_v162 V0) (broadcastInDim S16x16x100001 ![] bcast_S_S16x16x100001 (constantI S_ 32 6#32))) (Host.shrui (res_main_call2_call0_v162 V0) (broadcastInDim S16x16x100001 ![] bcast_S_S16x16x100001 (constantI S_ 32 26#32))))) (broadcastInDim S16x16x100001 ![] bcast_S_S16x16x100001 (res_main_call2_v5 V0))) (broadcastInDim S16x16x100001 ![] bcast_S_S16x16x100001 (constantI S_ 32 5#32)))) (broadcastInDim S16x16x100001 ![] bcast_S_S16x16x100001 (constantI S_ 32 9#32))) (broadcastInDim S16x16x100001 ![] bcast_S_S16x16x100001 (constantI S_ 32 1065353216#32)))) (broadcastInDim S16x16x100001 ![] bcast_S_S16x16x100001 (constant S_ .f32 0x3F800000#32))) (broadcastInDim S16x16x100001 ![0, 1, 2] bcast_S1x1x1_S16x16x100001_0_1_2 (subf (broadcastInDim S1x1x1 ![] bcast_S_S1x1x1 (id (constant S_ .f32 0x3F800000#32))) (res_main_call2_v2 V0)))) (broadcastInDim S16x16x100001 ![0, 1, 2] bcast_S1x1x1_S16x16x100001_0_1_2 (res_main_call2_v2 V0))) := by
  unfold val0_11
  simp only [ops_part0_10, TRef.binary, TRef.nullary, TRef.unary, TRef.toBuf, TRef.ofBuf, cast_eq]
  after_results_simp
  simp only [val0_10_main_call2_v2, val0_10_main_call2_v3, val0_10_main_call2_v5, val0_10_main_call2_call0_c_43, val0_10_main_call2_call0_v162, val0_10_main_call2_call0_v165, val0_10_main_call2_call0_v163, val0_10_main_call2_call0_v1] <;> rfl
set_option maxRecDepth 8192 in
set_option maxHeartbeats 2000000 in
theorem val0_11_main_cst_11 (V0 : Valuation τ sig (Elt F)) : val0_11 V0 (no_index (Proc.devRef .tc main_cst_11)) = constant S_ .f32 0x3F7FFFEF#32 := by
  unfold val0_11
  simp only [ops_part0_10, TRef.binary, TRef.nullary, TRef.unary, TRef.toBuf, TRef.ofBuf, cast_eq]
  after_results_simp
  all_goals rfl

/-- The device's buffer contents after @main's first 1 window. -/
def val1 (V0 : Valuation τ sig (Elt F)) : Valuation τ sig (Elt F) := after ops_part0_11 (val0_11 V0)
/-- The buffers that window `ops_part0_11`'s operations write. -/
abbrev ops_part0_11_W : List (Ref sig .tc) := [main_v43, main_v44, main_cst_12]
set_option maxRecDepth 8192 in
theorem ops_part0_11_writes : (ops_part0_11 : List (HloOp τ sig (Elt F))).Forall fun op => op.writes ⊆ (ops_part0_11_W.map (Proc.devRef (τ := τ) .tc)).toFinset := by
  simp only [List.Forall]
  refine ⟨?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_11` does not write keeps its contents through it. -/
theorem val1_keep (V0 : Valuation τ sig (Elt F)) (r : Ref sig .tc) (h : r ∉ ops_part0_11_W) :
    val1 V0 (Proc.devRef .tc r) = val0_11 V0 (Proc.devRef .tc r) :=
  after_of_writes_sub ops_part0_11 _ ops_part0_11_writes h
theorem val1_main_arg0 (V0 : Valuation τ sig (Elt F)) : val1 V0 (no_index (Proc.devRef .tc main_arg0)) = V0 (Proc.devRef .tc main_arg0) :=
  (val1_keep V0 main_arg0 (by decide)).trans (val0_11_main_arg0 V0)
theorem val1_main_arg1 (V0 : Valuation τ sig (Elt F)) : val1 V0 (no_index (Proc.devRef .tc main_arg1)) = V0 (Proc.devRef .tc main_arg1) :=
  (val1_keep V0 main_arg1 (by decide)).trans (val0_11_main_arg1 V0)
theorem val1_main_arg2 (V0 : Valuation τ sig (Elt F)) : val1 V0 (no_index (Proc.devRef .tc main_arg2)) = V0 (Proc.devRef .tc main_arg2) :=
  (val1_keep V0 main_arg2 (by decide)).trans (val0_11_main_arg2 V0)
theorem val1_main_arg3 (V0 : Valuation τ sig (Elt F)) : val1 V0 (no_index (Proc.devRef .tc main_arg3)) = V0 (Proc.devRef .tc main_arg3) :=
  (val1_keep V0 main_arg3 (by decide)).trans (val0_11_main_arg3 V0)
theorem val1_main_v30 (V0 : Valuation τ sig (Elt F)) : val1 V0 (no_index (Proc.devRef .tc main_v30)) = mulf (broadcastInDim S16x16x100001 ![0, 1, 2] bcast_S16x1x1_S16x16x100001_0_1_2 (broadcastInDim S16x1x1 ![0] bcast_S16_S16x1x1_0 (Host.divf (broadcastInDim S16 ![] bcast_S_S16 (constant S_ .f32 0x3F7FBE77#32)) (subf (broadcastInDim S16 ![] bcast_S_S16 (constant S_ .f32 0x3F800000#32)) (mulf (broadcastInDim S16 ![] bcast_S_S16 (constant S_ .f32 0x3F7FBE77#32)) (V0 (Proc.devRef .tc main_arg2))))))) (subf (res_main_v22 V0) (mulf (res_main_v11 V0) (broadcastInDim S16x16x100001 ![0, 1, 2] bcast_S16x16x1_S16x16x100001_0_1_2 (broadcastInDim S16x16x1 ![0, 1] bcast_S16x16_S16x16x1_0_1 (Host.reduceAdd (res_main_v22 V0) (constant S_ .f32 0x00000000#32) reducesTo_S16x16x100001_S16x16_d2 h_S_))))) :=
  (val1_keep V0 main_v30 (by decide)).trans (val0_11_main_v30 V0)
theorem val1_main_v34 (V0 : Valuation τ sig (Elt F)) : val1 V0 (no_index (Proc.devRef .tc main_v34)) = addf (res_main_v11 V0) (mulf (broadcastInDim S16x16x100001 ![0, 1, 2] bcast_S1x1x1_S16x16x100001_0_1_2 (broadcastInDim S1x1x1 ![2] bcast_S1_S1x1x1_2 (V0 (Proc.devRef .tc main_arg3)))) (mulf (broadcastInDim S16x16x100001 ![0, 1, 2] bcast_S16x1x1_S16x16x100001_0_1_2 (broadcastInDim S16x1x1 ![0] bcast_S16_S16x1x1_0 (Host.divf (broadcastInDim S16 ![] bcast_S_S16 (constant S_ .f32 0x3F7FBE77#32)) (subf (broadcastInDim S16 ![] bcast_S_S16 (constant S_ .f32 0x3F800000#32)) (mulf (broadcastInDim S16 ![] bcast_S_S16 (constant S_ .f32 0x3F7FBE77#32)) (V0 (Proc.devRef .tc main_arg2))))))) (subf (res_main_v22 V0) (mulf (res_main_v11 V0) (broadcastInDim S16x16x100001 ![0, 1, 2] bcast_S16x16x1_S16x16x100001_0_1_2 (broadcastInDim S16x16x1 ![0, 1] bcast_S16x16_S16x16x1_0_1 (Host.reduceAdd (res_main_v22 V0) (constant S_ .f32 0x00000000#32) reducesTo_S16x16x100001_S16x16_d2 h_S_))))))) :=
  (val1_keep V0 main_v34 (by decide)).trans (val0_11_main_v34 V0)
set_option maxRecDepth 8192 in
theorem val1_main_v44 (V0 : Valuation τ sig (Elt F)) : val1 V0 (no_index (Proc.devRef .tc main_v44)) = mulf (broadcastInDim S16x16x100001 ![] bcast_S_S16x16x100001 (constant S_ .f32 0x3F7FFFEF#32)) (maximumf (broadcastInDim S16x16x100001 ![0, 1, 2] bcast_S1x1x1_S16x16x100001_0_1_2 (res_main_call2_v2 V0)) (addf (mulf (subf (bitcastToFloat (F := F) .f32 (ori (Host.shrui (xori (addi (res_main_call2_call0_v163 V0) (broadcastInDim S16x16x100001 ![] bcast_S_S16x16x100001 (res_main_call2_call0_v1 V0))) (addi (addi (xori (res_main_call2_call0_v163 V0) (ori (Host.shli (res_main_call2_call0_v162 V0) (broadcastInDim S16x16x100001 ![] bcast_S_S16x16x100001 (constantI S_ 32 6#32))) (Host.shrui (res_main_call2_call0_v162 V0) (broadcastInDim S16x16x100001 ![] bcast_S_S16x16x100001 (constantI S_ 32 26#32))))) (broadcastInDim S16x16x100001 ![] bcast_S_S16x16x100001 (res_main_call2_v5 V0))) (broadcastInDim S16x16x100001 ![] bcast_S_S16x16x100001 (constantI S_ 32 5#32)))) (broadcastInDim S16x16x100001 ![] bcast_S_S16x16x100001 (constantI S_ 32 9#32))) (broadcastInDim S16x16x100001 ![] bcast_S_S16x16x100001 (constantI S_ 32 1065353216#32)))) (broadcastInDim S16x16x100001 ![] bcast_S_S16x16x100001 (constant S_ .f32 0x3F800000#32))) (broadcastInDim S16x16x100001 ![0, 1, 2] bcast_S1x1x1_S16x16x100001_0_1_2 (subf (broadcastInDim S1x1x1 ![] bcast_S_S1x1x1 (id (constant S_ .f32 0x3F800000#32))) (res_main_call2_v2 V0)))) (broadcastInDim S16x16x100001 ![0, 1, 2] bcast_S1x1x1_S16x16x100001_0_1_2 (res_main_call2_v2 V0)))) := by
  unfold val1
  simp only [ops_part0_11]
  after_results_simp
  simp only [val0_11_main_v42, val0_11_main_cst_11] <;> rfl
set_option maxRecDepth 8192 in
theorem val1_main_cst_12 (V0 : Valuation τ sig (Elt F)) : val1 V0 (no_index (Proc.devRef .tc main_cst_12)) = constant S_ .f32 0x358637BD#32 := by
  unfold val1
  simp only [ops_part0_11]
  after_results_simp
  all_goals rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_v45, main_v46, main_v47, main_cst_13, main_v48, main_v49, main_v50, main_call3_v0, main_call3_cst, main_call3_c, main_call3_v1_0, main_v51, main_c_14, main_v52, main_v53, main_c_15, main_call4_v0, main_call4_v1, main_v54]
set_option maxRecDepth 8192 in
theorem ops_part1_writes : (ops_part1 : List (HloOp τ sig (Elt F))).Forall fun op => op.writes ⊆ (ops_part1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_v30 (V0 : Valuation τ sig (Elt F)) : val2 V0 (no_index (Proc.devRef .tc main_v30)) = mulf (broadcastInDim S16x16x100001 ![0, 1, 2] bcast_S16x1x1_S16x16x100001_0_1_2 (broadcastInDim S16x1x1 ![0] bcast_S16_S16x1x1_0 (Host.divf (broadcastInDim S16 ![] bcast_S_S16 (constant S_ .f32 0x3F7FBE77#32)) (subf (broadcastInDim S16 ![] bcast_S_S16 (constant S_ .f32 0x3F800000#32)) (mulf (broadcastInDim S16 ![] bcast_S_S16 (constant S_ .f32 0x3F7FBE77#32)) (V0 (Proc.devRef .tc main_arg2))))))) (subf (res_main_v22 V0) (mulf (res_main_v11 V0) (broadcastInDim S16x16x100001 ![0, 1, 2] bcast_S16x16x1_S16x16x100001_0_1_2 (broadcastInDim S16x16x1 ![0, 1] bcast_S16x16_S16x16x1_0_1 (Host.reduceAdd (res_main_v22 V0) (constant S_ .f32 0x00000000#32) reducesTo_S16x16x100001_S16x16_d2 h_S_))))) :=
  (val2_keep V0 main_v30 (by decide)).trans (val1_main_v30 V0)
set_option maxRecDepth 8192 in
set_option maxHeartbeats 1900000 in
theorem val2_main_v54 (V0 : Valuation τ sig (Elt F)) : val2 V0 (no_index (Proc.devRef .tc main_v54)) = select (cmpi .eq (res_main_v51 V0) (broadcastInDim S16x16 ![] bcast_S_S16x16 (constantI S_ 32 100000#32))) (broadcastInDim S16x16 ![] bcast_S_S16x16 (id (constantI S_ 32 4294967295#32))) (res_main_v51 V0) := by
  unfold val2
  simp only [ops_part1, TRef.nullary, TRef.quaternary, TRef.ternary, TRef.unary, TRef.toBuf, TRef.ofBuf, cast_eq]
  after_results_simp
  simp only [val1_main_v44, val1_main_cst_12, val1_main_v34] <;> rfl

end Cert.ReferenceIdeal.Value

end

end
-- ==== Proof.RefRun.lean ====
/- The run of the reference: its results as terms of the arguments. -/
module

public import proofs.«01_k».proof.Proof.Gen.ReferenceIdeal
public import Idealize.ShloMosaic.Lib.StableHlo.Run
public import Idealize.ShloMosaic.Lib.Pipeline.Frame
public import proofs.«01_k».proof.Proof.RefMain
public import proofs.«01_k».proof.Proof.RefVals3

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]
theorem after_ops (V0 : Valuation τ sig (Elt F)) : after ops V0 = val2 V0 := by
  simp only [ops, ops_part0, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v54) = select (cmpi .eq (res_main_v51 (launchContents m c)) (broadcastInDim S16x16 ![] bcast_S_S16x16 (constantI S_ 32 100000#32))) (broadcastInDim S16x16 ![] bcast_S_S16x16 (id (constantI S_ 32 4294967295#32))) (res_main_v51 (launchContents m c))
      ∧ r.2.mem ((c.tc : Thread nD τ).loc main_v30) = mulf (broadcastInDim S16x16x100001 ![0, 1, 2] bcast_S16x1x1_S16x16x100001_0_1_2 (broadcastInDim S16x1x1 ![0] bcast_S16_S16x1x1_0 (Host.divf (broadcastInDim S16 ![] bcast_S_S16 (constant S_ .f32 0x3F7FBE77#32)) (subf (broadcastInDim S16 ![] bcast_S_S16 (constant S_ .f32 0x3F800000#32)) (mulf (broadcastInDim S16 ![] bcast_S_S16 (constant S_ .f32 0x3F7FBE77#32)) ((launchContents m c) (Proc.devRef .tc main_arg2))))))) (subf (res_main_v22 (launchContents m c)) (mulf (res_main_v11 (launchContents m c)) (broadcastInDim S16x16x100001 ![0, 1, 2] bcast_S16x16x1_S16x16x100001_0_1_2 (broadcastInDim S16x16x1 ![0, 1] bcast_S16x16_S16x16x1_0_1 (Host.reduceAdd (res_main_v22 (launchContents m c)) (constant S_ .f32 0x00000000#32) reducesTo_S16x16x100001_S16x16_d2 h_S_)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v54).trans ((congrFun (after_ops (launchContents m c)) (Proc.devRef .tc main_v54)).trans (val2_main_v54 (launchContents m c))),
      (h c main_v30).trans ((congrFun (after_ops (launchContents m c)) (Proc.devRef .tc main_v30)).trans (val2_main_v30 (launchContents m c))),
      (h c main_arg0).trans ((congrFun (after_ops (launchContents m c)) (Proc.devRef .tc main_arg0)).trans (val2_main_arg0 (launchContents m c))),
      (h c main_arg1).trans ((congrFun (after_ops (launchContents m c)) (Proc.devRef .tc main_arg1)).trans (val2_main_arg1 (launchContents m c))),
      (h c main_arg2).trans ((congrFun (after_ops (launchContents m c)) (Proc.devRef .tc main_arg2)).trans (val2_main_arg2 (launchContents m c))),
      (h c main_arg3).trans ((congrFun (after_ops (launchContents m c)) (Proc.devRef .tc main_arg3)).trans (val2_main_arg3 (launchContents m c)))⟩)
    (run_seq scopedRefs_eq scopedSems_eq defs main (fun _ => ops) main_eq (fun _ => ops_sub) m ρ fun _ => ops_fresh)

end Cert.ReferenceIdeal.Value

end

end
-- ==== Proof.Words.lean ====
/- The random words of the two programs: the keyed mixing of a counter, on two machine words. -/
module

public import Idealize.ShloMosaic.PureOps

@[expose] public section

namespace Cert.Words

/-- One round of the mixing: the first word takes the sum, the second is rotated (left by `a`, right by `b`, together
    the word's width) and combined with the sum. -/
def rnd (a b : BitVec 32) (p : BitVec 32 × BitVec 32) : BitVec 32 × BitVec 32 :=
  (p.1 + p.2, (p.1 + p.2) ^^^ ((p.2 <<< a) ||| (p.2 >>> b)))

/-- A key added to the two words, with the number of the group of rounds. -/
def inj (k0 k1 n : BitVec 32) (p : BitVec 32 × BitVec 32) : BitVec 32 × BitVec 32 := (p.1 + k0, p.2 + k1 + n)

/-- The odd groups of four rounds. -/
def mixA (p : BitVec 32 × BitVec 32) : BitVec 32 × BitVec 32 := rnd 6 26 (rnd 26 6 (rnd 15 17 (rnd 13 19 p)))

/-- The even groups of four rounds. -/
def mixB (p : BitVec 32 × BitVec 32) : BitVec 32 × BitVec 32 := rnd 24 8 (rnd 16 16 (rnd 29 3 (rnd 17 15 p)))

/-- The state after the first four of the five groups of rounds, for the key pair 0, 1. -/
def mid (p : BitVec 32 × BitVec 32) : BitVec 32 × BitVec 32 :=
  inj 1 466688987 4 (mixB (inj 0 1 3 (mixA (inj 466688987 0 2 (mixB (inj 1 466688987 1 (mixA p)))))))

/-- The last group of rounds and the combination of the two words. -/
def fin (p : BitVec 32 × BitVec 32) : BitVec 32 :=
  (inj 466688987 0 5 (mixA p)).1 ^^^ (inj 466688987 0 5 (mixA p)).2

/-- The random word of counter `n`. -/
def word (n : BitVec 32) : BitVec 32 := fin (mid (0, n + 1))

/-- The word of a number in [1, 2) whose fraction is the upper bits of the random word. -/
def frac (n : BitVec 32) : BitVec 32 := (word n >>> 9#32) ||| 1065353216#32

/-- The counter of row `r` of the flattened rows and entry `v`. -/
def cnt (r v : ℕ) : BitVec 32 := BitVec.ofNat 32 (r * 100001 + v)

end Cert.Words

end
-- ==== Proof.KerDraw.lean ====
/- The random draws of one block of the kernel, at an index. -/
module

public import proofs.«01_k».proof.Proof.KerBody
public import proofs.«01_k».proof.Proof.Words
public import Idealize.ShloMosaic.PureOps.Ideal.Laws

@[expose] public section

set_option maxRecDepth 16384

noncomputable section

namespace Cert.KernelIdeal.Run

open Cert.KernelIdeal Cert.KernelIdeal.Gen Idealize.ShloMosaic Cert.Words

/-- The first group of rounds and its key. -/
theorem pays_1 (v46 v49 : IVec S8x100001 32) (j : S8x100001.Idx) :
    (k0_pay18 v46 v49 j + 1, k0_pay19 v46 v49 j) = inj 1 466688987 1 (mixA (v49 j, k0_pay11 v46 j)) := by
  have h1 : (k0_pay12 v46 v49 j, k0_pay13 v46 v49 j) = rnd 13 19 (v49 j, k0_pay11 v46 j) := rfl
  have h2 : (k0_pay14 v46 v49 j, k0_pay15 v46 v49 j) = rnd 15 17 (k0_pay12 v46 v49 j, k0_pay13 v46 v49 j) := rfl
  have h3 : (k0_pay16 v46 v49 j, k0_pay17 v46 v49 j) = rnd 26 6 (k0_pay14 v46 v49 j, k0_pay15 v46 v49 j) := rfl
  have h4 : (k0_pay18 v46 v49 j + 1, k0_pay19 v46 v49 j)
      = inj 1 466688987 1 (rnd 6 26 (k0_pay16 v46 v49 j, k0_pay17 v46 v49 j)) := rfl
  rw [h4, h3, h2, h1, mixA]

/-- The second group of rounds and its key. -/
theorem pays_2 (v46 v49 : IVec S8x100001 32) (j : S8x100001.Idx) :
    (k0_pay27 (k0_pay21 v46 v49) (k0_pay22 v46 v49) k0_pay23 j + 466688987,
        k0_pay28 (k0_pay21 v46 v49) (k0_pay22 v46 v49) k0_pay23 j)
      = inj 466688987 0 2 (mixB (k0_pay18 v46 v49 j + 1, k0_pay19 v46 v49 j)) := by
  have h1 : (k0_pay20 v46 v49 j, k0_pay21 v46 v49 j) = rnd 17 15 (k0_pay18 v46 v49 j + 1, k0_pay19 v46 v49 j) := rfl
  have h2 : (k0_pay22 v46 v49 j, k0_pay24 (k0_pay21 v46 v49) (k0_pay22 v46 v49) k0_pay23 j)
      = rnd 29 3 (k0_pay20 v46 v49 j, k0_pay21 v46 v49 j) := rfl
  generalize k0_pay21 v46 v49 = v92 at *
  generalize k0_pay22 v46 v49 = v93 at *
  have h3 : (k0_pay25 v92 v93 k0_pay23 j, k0_pay26 v92 v93 k0_pay23 j)
      = rnd 16 16 (v93 j, k0_pay24 v92 v93 k0_pay23 j) := rfl
  have h4 : (k0_pay27 v92 v93 k0_pay23 j + 466688987, k0_pay28 v92 v93 k0_pay23 j)
      = inj 466688987 0 2 (rnd 24 8 (k0_pay25 v92 v93 k0_pay23 j, k0_pay26 v92 v93 k0_pay23 j)) := rfl
  rw [h4, h3, h2, h1, mixB]

/-- The third group of rounds and its key. -/
theorem pays_3 (v92 v93 v94 : IVec S8x100001 32) (j : S8x100001.Idx) :
    (k0_pay35 (k0_pay33 v92 v93 v94) (k0_pay34 v92 v93 v94) j + 0, k0_pay36 (k0_pay33 v92 v93 v94) (k0_pay34 v92 v93 v94) j)
      = inj 0 1 3 (mixA (k0_pay27 v92 v93 v94 j + 466688987, k0_pay28 v92 v93 v94 j)) := by
  have h1 : (k0_pay29 v92 v93 v94 j, k0_pay30 v92 v93 v94 j)
      = rnd 13 19 (k0_pay27 v92 v93 v94 j + 466688987, k0_pay28 v92 v93 v94 j) := rfl
  have h2 : (k0_pay31 v92 v93 v94 j, k0_pay32 v92 v93 v94 j) = rnd 15 17 (k0_pay29 v92 v93 v94 j, k0_pay30 v92 v93 v94 j) := rfl
  have h3 : (k0_pay33 v92 v93 v94 j, k0_pay34 v92 v93 v94 j) = rnd 26 6 (k0_pay31 v92 v93 v94 j, k0_pay32 v92 v93 v94 j) := rfl
  generalize k0_pay33 v92 v93 v94 = v134 at *
  generalize k0_pay34 v92 v93 v94 = v140 at *
  have h4 : (k0_pay35 v134 v140 j + 0, k0_pay36 v134 v140 j) = inj 0 1 3 (rnd 6 26 (v134 j, v140 j)) := rfl
  rw [h4, h3, h2, h1, mixA]

/-- The fourth group of rounds and its key. -/
theorem pays_4 (v134 v140 : IVec S8x100001 32) (j : S8x100001.Idx) :
    (k0_pay44 v134 v140 j, k0_pay45 v134 v140 j + 4)
      = inj 1 466688987 4 (mixB (k0_pay35 v134 v140 j + 0, k0_pay36 v134 v140 j)) := by
  have h1 : (k0_pay37 v134 v140 j, k0_pay38 v134 v140 j) = rnd 17 15 (k0_pay35 v134 v140 j + 0, k0_pay36 v134 v140 j) := rfl
  have h2 : (k0_pay39 v134 v140 j, k0_pay40 v134 v140 j) = rnd 29 3 (k0_pay37 v134 v140 j, k0_pay38 v134 v140 j) := rfl
  have h3 : (k0_pay41 v134 v140 j, k0_pay42 v134 v140 j) = rnd 16 16 (k0_pay39 v134 v140 j, k0_pay40 v134 v140 j) := rfl
  have h4 : (k0_pay44 v134 v140 j, k0_pay45 v134 v140 j + 4)
      = inj 1 466688987 4 (rnd 24 8 (k0_pay41 v134 v140 j, k0_pay42 v134 v140 j)) := rfl
  rw [h4, h3, h2, h1, mixB]

/-- One round over blocks of words. -/
def vrnd (a b : BitVec 32) (p : IVec S8x100001 32 × IVec S8x100001 32) : IVec S8x100001 32 × IVec S8x100001 32 :=
  (addi p.1 p.2, xori (addi p.1 p.2) (ori (shli p.2 (broadcast S8x100001 a)) (shrui p.2 (broadcast S8x100001 b))))

/-- The last group of rounds over blocks of words. -/
def vmix (v183 v185 : IVec S8x100001 32) : IVec S8x100001 32 × IVec S8x100001 32 :=
  vrnd 6 26 (vrnd 26 6 (vrnd 15 17 (vrnd 13 19 (v183, addi v185 (broadcast S8x100001 4#32)))))

/-- The random words of a block. -/
def lastWord (v183 v185 : IVec S8x100001 32) : IVec S8x100001 32 :=
  xori (addi (vmix v183 v185).1 (broadcast S8x100001 466688987#32))
    (addi (addi (vmix v183 v185).2 (broadcast S8x100001 0#32)) (broadcast S8x100001 5#32))

/-- The numbers drawn, from the random words. -/
theorem pays_5 (v183 v185 : IVec S8x100001 32) :
    k0_pay46 (F := Ideal) v183 v185
      = subf (bitcastToFloat .f32 (ori (shrui (lastWord v183 v185) (broadcast S8x100001 9#32)) (broadcast S8x100001 1065353216#32)))
          (broadcast S8x100001 (Scalar.ofBits .f32 0x3F800000#32)) := rfl

/-- A random word of a block. -/
theorem lastWord_apply (v183 v185 : IVec S8x100001 32) (j : S8x100001.Idx) :
    lastWord v183 v185 j = fin (v183 j, v185 j + 4) := by
  have r (a b : BitVec 32) (ha : a.toNat < 32) (hb : b.toNat < 32) (p : IVec S8x100001 32 × IVec S8x100001 32) :
      ((vrnd a b p).1 j, (vrnd a b p).2 j) = rnd a b (p.1 j, p.2 j) := by
    have s1 : IntOp.shli .vector (p.2 j) a = p.2 j <<< a := if_pos ha
    have s2 : IntOp.shrui .vector (p.2 j) b = p.2 j >>> b := if_pos hb
    rw [rnd, ← s1, ← s2]
    rfl
  have h : ((vmix v183 v185).1 j, (vmix v183 v185).2 j) = mixA (v183 j, v185 j + 4) := by
    rw [vmix, r _ _ (by decide) (by decide), r _ _ (by decide) (by decide), r _ _ (by decide) (by decide), r _ _ (by decide) (by decide)]
    rfl
  rw [fin, ← h]
  rfl

/-- The iotas of a block at an index. -/
theorem iota0_apply (h : S8x100001.Iotas .tc 32 [0]) (j : S8x100001.Idx) :
    iota .tc S8x100001 32 [0] h j = BitVec.ofNat 32 (j 0).val := by
  simp [iota]
theorem iota1_apply (h : S8x100001.Iotas .tc 32 [1]) (j : S8x100001.Idx) :
    iota .tc S8x100001 32 [1] h j = BitVec.ofNat 32 (j 1).val := by
  simp [iota]

/-- The counters of a block. -/
theorem counter (n : ℕ) (j : S8x100001.Idx) :
    k0_pay11 (k0_pay9 (BitVec.ofNat 32 n)) j = cnt (n * 8 + (j 0).val) (j 1).val + 1 := by
  have e : k0_pay11 (k0_pay9 (BitVec.ofNat 32 n)) j
      = (BitVec.ofNat 32 n * 8#32 + iota .tc S8x100001 32 [0] iota_S8x100001_d0_w32 j) * 100001#32
        + iota .tc S8x100001 32 [1] iota_S8x100001_d1_w32 j + 1#32 := rfl
  rw [e, iota0_apply, iota1_apply, cnt, BitVec.ofNat_add, BitVec.ofNat_mul, BitVec.ofNat_add, BitVec.ofNat_mul]
  rfl

/-- The draw of an element: the fraction of its counter's word, less one. -/
theorem draws_apply (i : grid0.Coords) (j : S8x100001.Idx) :
    draws0 (F := Ideal) i j
      = Ideal.ofBits .f32 (frac (cnt ((i 0).val * 8 + (j 0).val) (j 1).val)) - Ideal.ofBits .f32 0x3F800000#32 := by
  have e (x : IVec S8x100001 32) : subf (F := Ideal) (bitcastToFloat .f32 x) (broadcast S8x100001 (Scalar.ofBits .f32 0x3F800000#32)) j
      = Ideal.ofBits .f32 (x j) - Ideal.ofBits .f32 0x3F800000#32 := rfl
  have w (x : IVec S8x100001 32) : ori (shrui x (broadcast S8x100001 9#32)) (broadcast S8x100001 1065353216#32) j
      = (x j >>> 9#32) ||| 1065353216#32 := rfl
  unfold draws0
  dsimp only
  rw [pays_5, e, w, lastWord_apply, pays_4, pays_3, pays_2, pays_1, counter, frac, word, mid]
  have z : (k0_pay10 j : BitVec 32) = 0 := rfl
  rw [z]

end Cert.KernelIdeal.Run

end

end
-- ==== Proof.Noise.lean ====
/- The noise of an entry: the draw of its random word, and that the noise is a positive number. -/
module

public import proofs.«01_k».proof.Proof.Words
public import Idealize.ShloMosaic.PureOps.Ideal.Laws

@[expose] public section

noncomputable section

namespace Cert.Noise

open Idealize.ShloMosaic Cert.Words

/-- The draw of counter `n`: the number of its word, in [1, 2), less one. -/
def draw (n : BitVec 32) : EReal := Ideal.ofBits .f32 (frac n) - Ideal.ofBits .f32 0x3F800000#32

/-- The noise of a draw. -/
def noise (n : BitVec 32) : EReal :=
  Ideal.ofBits .f32 0x358637BD#32
    - Ideal.log (Ideal.ofBits .f32 0x358637BD#32 + Ideal.ofBits .f32 0x3F7FFFEF#32 * max (draw n) 0)

/-- The number of a word with no sign and an exponent field strictly between the least and the largest. -/
theorem ofBits_normal (b : BitVec 32) (ex fr : ℕ) (h1 : b.extractLsb' 31 1 = 0#1) (h2 : (b.extractLsb' 23 8).toNat = ex)
    (h3 : (b.extractLsb' 0 23).toNat = fr) (l : ex ≠ 0) (u : ex ≠ 255) :
    Ideal.ofBits .f32 b = ((((2 ^ 23 + fr : ℕ) : ℝ) * (2 : ℝ) ^ ((ex : ℤ) - 127 - 23) : ℝ) : EReal) := by
  show Ideal.ieee 8 23 b = _
  unfold Ideal.ieee
  simp only [show 8 + 23 = 31 from rfl, h1, h2, h3]
  rw [if_neg (by norm_num; exact u), if_neg l]
  norm_num

/-- The word 1. -/
theorem ofBits_one : Ideal.ofBits .f32 0x3F800000#32 = ((1 : ℝ) : EReal) := by
  rw [ofBits_normal 0x3F800000#32 127 0 (by decide) (by decide) (by decide) (by decide) (by decide)]
  norm_num

/-- The word near a millionth. -/
theorem ofBits_small : Ideal.ofBits .f32 0x358637BD#32 = (((8796093 : ℝ) * 2 ^ (-43 : ℤ) : ℝ) : EReal) := by
  rw [ofBits_normal 0x358637BD#32 107 407485 (by decide) (by decide) (by decide) (by decide) (by decide)]
  norm_num

/-- The word near one. -/
theorem ofBits_near : Ideal.ofBits .f32 0x3F7FFFEF#32 = (((16777199 : ℝ) * 2 ^ (-24 : ℤ) : ℝ) : EReal) := by
  rw [ofBits_normal 0x3F7FFFEF#32 126 8388591 (by decide) (by decide) (by decide) (by decide) (by decide)]
  norm_num

/-- A word under the bits of one is a number in [1, 2). -/
theorem ofBits_frac (w : BitVec 32) :
    ∃ r : ℝ, 1 ≤ r ∧ r < 2 ∧ Ideal.ofBits .f32 ((w >>> 9#32) ||| 1065353216#32) = (r : EReal) := by
  set b : BitVec 32 := (w >>> 9#32) ||| 1065353216#32 with hb
  have h1 : b.extractLsb' 31 1 = 0#1 := by
    apply BitVec.eq_of_getLsbD_eq
    intro i hi
    interval_cases i
    simp [hb]
  have h2 : b.extractLsb' 23 8 = 127#8 := by
    apply BitVec.eq_of_getLsbD_eq
    intro i hi
    interval_cases i <;> simp [hb]
  have h3 := (b.extractLsb' 0 23).isLt
  refine ⟨((2 ^ 23 + (b.extractLsb' 0 23).toNat : ℕ) : ℝ) * (2 : ℝ) ^ (-23 : ℤ), ?_, ?_, ?_⟩
  · push_cast
    have : (0 : ℝ) ≤ ((b.extractLsb' 0 23).toNat : ℝ) := Nat.cast_nonneg _
    norm_num
    linarith
  · generalize (b.extractLsb' 0 23).toNat = x at h3
    have h : (x : ℝ) < 2 ^ 23 := by exact_mod_cast h3
    have e : (2 : ℝ) ^ (-23 : ℤ) = 1 / 2 ^ 23 := by norm_num
    rw [e, mul_one_div, div_lt_iff₀ (by positivity)]
    push_cast
    linarith
  · rw [ofBits_normal b 127 _ h1 (by rw [h2]; decide) rfl (by decide) (by decide)]
    norm_num

/-- The draw is a number from 0 to below 1. -/
theorem draw_mem (n : BitVec 32) : ∃ r : ℝ, 0 ≤ r ∧ r < 1 ∧ draw n = (r : EReal) := by
  obtain ⟨r, h1, h2, h⟩ := ofBits_frac (word n)
  refine ⟨r - 1, by linarith, by linarith, ?_⟩
  rw [draw, frac, h, ofBits_one, EReal.coe_sub]

/-- The noise is a positive number. -/
theorem noise_pos (n : BitVec 32) : ∃ r : ℝ, 0 < r ∧ noise n = (r : EReal) := by
  obtain ⟨u, h0, h1, h⟩ := draw_mem n
  have hm : max (draw n) 0 = (u : EReal) := by
    rw [h]; exact max_eq_left (by exact_mod_cast h0)
  set a : ℝ := (8796093 : ℝ) * 2 ^ (-43 : ℤ) with ha
  set c : ℝ := (16777199 : ℝ) * 2 ^ (-24 : ℤ) with hc
  have a0 : 0 < a := by rw [ha]; positivity
  have c0 : 0 < c := by rw [hc]; positivity
  have ac : a + c < 1 := by rw [ha, hc]; norm_num
  have p0 : 0 < a + c * u := by positivity
  have p1 : a + c * u < 1 := by nlinarith
  refine ⟨a - Real.log (a + c * u), ?_, ?_⟩
  · have := Real.log_neg p0 p1
    linarith
  · rw [noise, hm, ofBits_small, ofBits_near, ← EReal.coe_mul, ← EReal.coe_add, Ideal.log_coe, if_neg (not_le.mpr p0),
      EReal.coe_sub]

end Cert.Noise

end

end
-- ==== Proof.Argmax.lean ====
/- The first largest entry of a row: what names it, and the two ways of computing it. -/
module

public import proofs.«01_k».proof.ReferenceIdeal
public import Idealize.ShloMosaic.Lib.SortNet.Extract
public import Idealize.ShloMosaic.PureOps.Ideal.Laws

@[expose] public section

noncomputable section

namespace Cert.Argmax

open Idealize.ShloMosaic Idealize.ShloMosaic.SortNet

/-- The word `w` names the first entry at which `q` is largest. -/
def IsPick (q : Fin 100001 → EReal) (w : BitVec 32) : Prop :=
  ∃ k : Fin 100001, w = BitVec.ofNat 32 k.val ∧ ∀ j, q j ≤ q k ∧ (q j = q k → k ≤ j)

/-- One word does. -/
theorem IsPick.unique {q : Fin 100001 → EReal} {w w' : BitVec 32} (h : IsPick q w) (h' : IsPick q w') : w = w' := by
  obtain ⟨k, rfl, hk⟩ := h
  obtain ⟨k', rfl, hk'⟩ := h'
  have e : q k = q k' := le_antisymm (hk' k).1 (hk k').1
  rw [le_antisymm ((hk k').2 e.symm) ((hk' k).2 e)]

/-- A row with one positive entry and zeros elsewhere is largest there. -/
theorem isPick_single (q : Fin 100001 → EReal) (k : Fin 100001) (hk : 0 < q k) (h0 : ∀ j, j ≠ k → q j = 0) :
    IsPick q (BitVec.ofNat 32 k.val) := by
  refine ⟨k, rfl, fun j => ?_⟩
  by_cases h : j = k
  · subst h; exact ⟨le_rfl, fun _ => le_rfl⟩
  · rw [h0 j h]
    exact ⟨hk.le, fun e => absurd e hk.ne⟩

/-- The integer of a small word. -/
theorem toInt_small (n : ℕ) (hn : n < 2147483648) : (BitVec.ofNat 32 n).toInt = n := by
  rw [BitVec.toInt_ofNat']
  norm_num [Int.bmod]
  omega

/-- A fold of the signed minimum over a set is at most the start and every word met, and is one of them. -/
theorem fold_minsi_spec {ι : Type} [DecidableEq ι] (g : ι → BitVec 32) (s : Finset ι) (init : BitVec 32) :
    (∀ i ∈ s, (s.fold IntOp.minsi init g).toInt ≤ (g i).toInt) ∧
      (s.fold IntOp.minsi init g = init ∨ ∃ i ∈ s, s.fold IntOp.minsi init g = g i) := by
  refine Finset.induction_on s ⟨fun i hi => absurd hi (Finset.notMem_empty i), Or.inl (by rw [Finset.fold_empty])⟩ ?_
  intro a s ha ih
  rw [Finset.fold_insert ha]
  refine ⟨fun i hi => ?_, ?_⟩
  · rw [toInt_minsi]
    rcases Finset.mem_insert.mp hi with rfl | h
    · exact min_le_left _ _
    · exact le_trans (min_le_right _ _) (ih.1 i h)
  · have hc : IntOp.minsi (g a) (s.fold IntOp.minsi init g) = g a ∨
        IntOp.minsi (g a) (s.fold IntOp.minsi init g) = s.fold IntOp.minsi init g := by
      show (if _ then _ else _) = _ ∨ (if _ then _ else _) = _
      split
      · exact Or.inl rfl
      · exact Or.inr rfl
    rcases hc with h | h
    · exact Or.inr ⟨a, Finset.mem_insert_self _ _, h⟩
    · rcases ih.2 with h' | ⟨i, hi, h'⟩
      · exact Or.inl (h.trans h')
      · exact Or.inr ⟨i, Finset.mem_insert_of_mem hi, h.trans h'⟩

/-- A fold of the maximum from the least value is at least every value met, and is one of them. -/
theorem fold_max_spec {ι : Type} [DecidableEq ι] (g : ι → EReal) (s : Finset ι) :
    (∀ i ∈ s, g i ≤ s.fold max ⊥ g) ∧ (s.Nonempty → ∃ i ∈ s, s.fold max ⊥ g = g i) := by
  refine ⟨fun i hi => (Finset.le_fold_max _).mpr (Or.inr ⟨i, hi, le_rfl⟩), fun hs => ?_⟩
  obtain ⟨i, hi, h⟩ := Finset.exists_mem_eq_sup' hs g
  refine ⟨i, hi, le_antisymm ((Finset.fold_max_le _).mpr ⟨bot_le, fun x hx => ?_⟩)
    ((Finset.le_fold_max _).mpr (Or.inr ⟨i, hi, le_rfl⟩))⟩
  rw [← h]
  exact Finset.le_sup' g hx

/-- The least position at which the row meets its maximum names the first largest entry. -/
theorem isPick_min (q : Fin 100001 → EReal) (f : Fin 100001 → BitVec 32)
    (hf : ∀ k, f k = if q k = Finset.univ.fold max ⊥ q then BitVec.ofNat 32 k.val else 100001#32) :
    IsPick q (Finset.univ.fold IntOp.minsi 2147483647#32 f) := by
  obtain ⟨hM, hM'⟩ := fold_max_spec q Finset.univ
  obtain ⟨k0, -, hk0⟩ := hM' ⟨0, Finset.mem_univ _⟩
  obtain ⟨hm, hm'⟩ := fold_minsi_spec f Finset.univ 2147483647#32
  generalize Finset.univ.fold max ⊥ q = M at hM hk0 hf
  generalize Finset.univ.fold IntOp.minsi 2147483647#32 f = r at hm hm'
  have at_ (j : Fin 100001) (hj : q j = M) : r.toInt ≤ j.val := by
    have h := hm j (Finset.mem_univ _)
    rwa [hf, if_pos hj, toInt_small _ (by have := j.isLt; omega)] at h
  have h0 := at_ k0 hk0.symm
  have hl := k0.isLt
  rcases hm' with rfl | ⟨k, -, rfl⟩
  · have : (2147483647#32).toInt = 2147483647 := by decide
    omega
  · by_cases hk : q k = M
    · refine ⟨k, by rw [hf, if_pos hk], fun j => ⟨hk ▸ hM j (Finset.mem_univ _), fun e => ?_⟩⟩
      have h := at_ j (e.trans hk)
      rw [hf, if_pos hk, toInt_small _ (by have := k.isLt; omega)] at h
      exact Fin.le_def.mpr (by omega)
    · rw [hf, if_neg hk] at h0
      have : (100001#32).toInt = 100001 := by decide
      omega

/-- The pair `p` is no later than `q` in the order of a search for the first largest value: its value is larger, or the
    values are equal and its index is not larger. -/
def Before (p q : EReal × BitVec 32) : Prop := q.1 < p.1 ∨ (q.1 = p.1 ∧ p.2.toInt ≤ q.2.toInt)

/-- The order is transitive. -/
theorem Before.trans {p q r : EReal × BitVec 32} (h : Before p q) (h' : Before q r) : Before p r := by
  rcases h with h | ⟨h, h1⟩ <;> rcases h' with h' | ⟨h', h1'⟩
  · exact Or.inl (h'.trans h)
  · exact Or.inl (h'.trans_lt h)
  · exact Or.inl (h'.trans_eq h)
  · exact Or.inr ⟨h'.trans h, h1.trans h1'⟩

/-- One step of the reference's search keeps the earlier of two pairs. -/
theorem step_spec (a b : EReal × BitVec 32) :
    (Cert.ReferenceIdeal.reducer_argmax_f32_i32 (F := Ideal) a b = a ∨ Cert.ReferenceIdeal.reducer_argmax_f32_i32 (F := Ideal) a b = b)
    ∧ Before (Cert.ReferenceIdeal.reducer_argmax_f32_i32 (F := Ideal) a b) a
    ∧ Before (Cert.ReferenceIdeal.reducer_argmax_f32_i32 (F := Ideal) a b) b := by
  obtain ⟨a1, a2⟩ := a
  obtain ⟨b1, b2⟩ := b
  have e : Cert.ReferenceIdeal.reducer_argmax_f32_i32 (F := Ideal) (a1, a2) (b1, b2)
      = (Scalar.select (BitVec.ofBool (decide (b1 < a1)) ||| BitVec.ofBool (decide (a1 ≠ a1))) a1 b1,
        Scalar.select ((BitVec.ofBool (decide (b1 < a1)) ||| BitVec.ofBool (decide (a1 ≠ a1)))
          ||| (BitVec.ofBool (decide (a1 = b1)) &&& BitVec.ofBool (a2.slt b2))) a2 b2) := rfl
  rw [e]
  have hd : decide (a1 ≠ a1) = false := by simp
  rw [hd]
  rcases lt_trichotomy b1 a1 with h | h | h
  · rw [decide_eq_true h]
    have x1 (c : BitVec 1) : (BitVec.ofBool true ||| BitVec.ofBool false) ||| c = 1 := by
      obtain rfl | rfl := BitVec.eq_zero_or_eq_one c <;> decide
    rw [x1, show (BitVec.ofBool true ||| BitVec.ofBool false) = 1#1 by decide]
    exact ⟨Or.inl rfl, Or.inr ⟨rfl, le_rfl⟩, Or.inl h⟩
  · subst h
    rw [show decide (b1 < b1) = false by simp, show decide (b1 = b1) = true by simp]
    by_cases hs : a2.toInt < b2.toInt
    · rw [show a2.slt b2 = true from decide_eq_true hs]
      exact ⟨Or.inl rfl, Or.inr ⟨rfl, le_rfl⟩, Or.inr ⟨rfl, hs.le⟩⟩
    · rw [show a2.slt b2 = false from decide_eq_false hs]
      exact ⟨Or.inr rfl, Or.inr ⟨rfl, not_lt.mp hs⟩, Or.inr ⟨rfl, le_rfl⟩⟩
  · rw [show decide (b1 < a1) = false by simpa using h.le, show decide (a1 = b1) = false by simpa using h.ne]
    have x1 (c : BitVec 1) : (BitVec.ofBool false ||| BitVec.ofBool false) ||| (BitVec.ofBool false &&& c) = 0 := by
      obtain rfl | rfl := BitVec.eq_zero_or_eq_one c <;> decide
    rw [x1, show (BitVec.ofBool false ||| BitVec.ofBool false) = 0#1 by decide]
    exact ⟨Or.inr rfl, Or.inl h, Or.inr ⟨rfl, le_rfl⟩⟩

/-- The search over a list ends with one of its pairs, or the start, that is no later than any of them. -/
theorem foldl_spec (l : List (EReal × BitVec 32)) (z : EReal × BitVec 32) :
    (l.foldl (Cert.ReferenceIdeal.reducer_argmax_f32_i32 (F := Ideal)) z = z ∨ l.foldl (Cert.ReferenceIdeal.reducer_argmax_f32_i32 (F := Ideal)) z ∈ l)
    ∧ Before (l.foldl (Cert.ReferenceIdeal.reducer_argmax_f32_i32 (F := Ideal)) z) z
    ∧ ∀ p ∈ l, Before (l.foldl (Cert.ReferenceIdeal.reducer_argmax_f32_i32 (F := Ideal)) z) p := by
  induction l generalizing z with
  | nil => exact ⟨Or.inl rfl, Or.inr ⟨rfl, le_rfl⟩, fun _ h => absurd h List.not_mem_nil⟩
  | cons a l ih =>
    rw [List.foldl_cons]
    obtain ⟨s0, s1, s2⟩ := step_spec z a
    obtain ⟨h0, h1, h2⟩ := ih (Cert.ReferenceIdeal.reducer_argmax_f32_i32 (F := Ideal) z a)
    refine ⟨?_, h1.trans s1, fun p hp => ?_⟩
    · rcases h0 with h0 | h0
      · rcases s0 with s0 | s0
        · exact Or.inl (h0.trans s0)
        · exact Or.inr (by rw [h0, s0]; exact List.mem_cons_self)
      · exact Or.inr (List.mem_cons_of_mem _ h0)
    · rcases List.mem_cons.mp hp with rfl | h
      · exact h1.trans s2
      · exact h2 p h

/-- The search from the least value and index zero over the pairs of a row names its first largest entry. -/
theorem isPick_foldl (q : Fin 100001 → EReal) (l : List (EReal × BitVec 32))
    (hl : ∀ p, p ∈ l ↔ ∃ k : Fin 100001, p = (q k, BitVec.ofNat 32 k.val)) :
    IsPick q (l.foldl (Cert.ReferenceIdeal.reducer_argmax_f32_i32 (F := Ideal)) (⊥, 0#32)).2 := by
  obtain ⟨h0, -, h2⟩ := foldl_spec l (⊥, 0#32)
  generalize l.foldl (Cert.ReferenceIdeal.reducer_argmax_f32_i32 (F := Ideal)) (⊥, 0#32) = p at h0 h2
  have hq (j : Fin 100001) := h2 _ ((hl _).mpr ⟨j, rfl⟩)
  have hk : ∃ k : Fin 100001, p = (q k, BitVec.ofNat 32 k.val) := by
    rcases h0 with rfl | h0
    · refine ⟨0, ?_⟩
      rcases hq 0 with h | ⟨h, -⟩
      · exact absurd h not_lt_bot
      · have h : q 0 = ⊥ := h
        rw [h]; rfl
    · exact (hl p).mp h0
  obtain ⟨k, rfl⟩ := hk
  refine ⟨k, rfl, fun j => ?_⟩
  have hj := hq j
  have s1 := toInt_small k.val (by have := k.isLt; omega)
  have s2 := toInt_small j.val (by have := j.isLt; omega)
  unfold Before at hj
  dsimp only at hj
  rw [s1, s2] at hj
  rcases hj with h | ⟨h, h'⟩
  · exact ⟨h.le, fun e => absurd e h.ne⟩
  · exact ⟨h.le, fun _ => Fin.le_def.mpr (by omega)⟩

end Cert.Argmax

end

end
-- ==== Proof.Step.lean ====
/- The mathematics of one row of the step: rates and weights, as the reference writes them and cut by the mask. -/
module

public import proofs.«01_k».proof.Proof.Noise
public import proofs.«01_k».proof.Proof.Argmax

@[expose] public section

noncomputable section

namespace Cert.Step

open Idealize.ShloMosaic Cert.Words Cert.Noise Cert.Argmax

/-- A choice by an equality of words. -/
theorem select_eq {α : Type} {w : ℕ} (a b : BitVec w) (x y : α) :
    Scalar.select (IntOp.cmpi .eq a b) x y = if a = b then x else y := by
  have e : IntOp.cmpi .eq a b = BitVec.ofBool (decide (a = b)) := by
    show BitVec.ofBool (a == b) = _
    congr 1
  unfold Scalar.select
  rw [e]
  by_cases h : a = b
  · rw [decide_eq_true h, if_pos h]; rfl
  · rw [decide_eq_false h, if_neg h]; rfl

/-- The number of an equality of words. -/
theorem uitofp_eq {w : ℕ} (a b : BitVec w) :
    FloatOps.uitofp (F := Ideal) .f32 (IntOp.cmpi .eq a b) = if a = b then (1 : EReal) else 0 := by
  have e : IntOp.cmpi .eq a b = BitVec.ofBool (decide (a = b)) := by
    show BitVec.ofBool (a == b) = _
    congr 1
  rw [e]
  show (((BitVec.ofBool (decide (a = b))).toNat : ℝ) : EReal) = _
  by_cases h : a = b
  · rw [decide_eq_true h, if_pos h, show (BitVec.ofBool true).toNat = 1 from rfl, Nat.cast_one, EReal.coe_one]
  · rw [decide_eq_false h, if_neg h, show (BitVec.ofBool false).toNat = 0 from rfl, Nat.cast_zero, EReal.coe_zero]

/-- A choice by an equality of numbers. -/
theorem select_oeq {α : Type} (a b : EReal) (x y : α) :
    Scalar.select (Ideal.cmp .oeq a b) x y = if a = b then x else y := by
  unfold Scalar.select
  show (if BitVec.ofBool (decide (a = b)) = 1 then x else y) = _
  by_cases h : a = b
  · rw [decide_eq_true h, if_pos h]; rfl
  · rw [decide_eq_false h, if_neg h]; rfl

/-- A token of the input, the mask renamed to the last entry. -/
def tok (x : BitVec 32) : BitVec 32 := if x = 4294967295#32 then 100000#32 else x

/-- A token of the result, the last entry renamed to the mask. -/
def untok (x : BitVec 32) : BitVec 32 := if x = 100000#32 then 4294967295#32 else x

/-- The noise level at time `t`. -/
def level (t : EReal) : EReal :=
  Ideal.div (Ideal.ofBits .f32 0x3F7FBE77#32) (1 - Ideal.ofBits .f32 0x3F7FBE77#32 * t)

/-- The rates of a row with token `x`, noise level `s` and scores `sc`: zeros unless the row is masked. -/
def rate (x : BitVec 32) (s : EReal) (sc : Fin 100001 → EReal) (v : Fin 100001) : EReal :=
  if x = 100000#32 then
    s * (if v.val = 100000 then 0 - ∑ k : Fin 100001, (if k.val = 100000 then 0 else sc k) else sc v)
  else 0

/-- The weights of row `r`, with step size `st`. -/
def weight (r : ℕ) (x : BitVec 32) (s st : EReal) (sc : Fin 100001 → EReal) (v : Fin 100001) : EReal :=
  Ideal.div (if v.val = 100000 then 1 + st * rate x s sc v else st * rate x s sc v) (noise (cnt r v.val))

/-- One at the token of the row and zero elsewhere. -/
def hot (x : BitVec 32) (v : Fin 100001) : EReal := if x = BitVec.ofNat 32 v.val then 1 else 0

/-- One on a masked row and zero on another. -/
def msk (x : BitVec 32) : EReal := if x = 100000#32 then 1 else 0

/-- The reference's rates before the token's own entry is set. -/
def flow (x : BitVec 32) (sc : Fin 100001 → EReal) (v : Fin 100001) : EReal :=
  ((-hot x v + msk x) * sc v) * (1 - hot x v)

/-- The reference's rates. -/
def rateR (x : BitVec 32) (s : EReal) (sc : Fin 100001 → EReal) (v : Fin 100001) : EReal :=
  s * (flow x sc v - hot x v * ∑ k : Fin 100001, flow x sc k)

/-- The reference's weights. -/
def weightR (r : ℕ) (x : BitVec 32) (s st : EReal) (sc : Fin 100001 → EReal) (v : Fin 100001) : EReal :=
  Ideal.div (hot x v + st * rateR x s sc v) (noise (cnt r v.val))

/-- Entries are told apart by their words. -/
theorem ofNat_inj (j k : Fin 100001) (h : BitVec.ofNat 32 j.val = BitVec.ofNat 32 k.val) : j = k := by
  have e := congrArg BitVec.toNat h
  rw [BitVec.toNat_ofNat, BitVec.toNat_ofNat, Nat.mod_eq_of_lt (by have := j.isLt; omega), Nat.mod_eq_of_lt (by have := k.isLt; omega)] at e
  exact Fin.ext e

/-- The last entry by its word. -/
theorem last_iff (v : Fin 100001) : 100000#32 = BitVec.ofNat 32 v.val ↔ v.val = 100000 := by
  constructor
  · intro h
    have := ofNat_inj ⟨100000, by norm_num⟩ v h
    rw [← this]
  · intro h; rw [h]

/-- The one of a masked row. -/
theorem hot_masked (v : Fin 100001) : hot 100000#32 v = if v.val = 100000 then 1 else 0 := by
  unfold hot
  by_cases h : v.val = 100000
  · rw [if_pos ((last_iff v).mpr h), if_pos h]
  · rw [if_neg (fun e => h ((last_iff v).mp e)), if_neg h]

/-- The flow of a masked row: the scores, and zero at the last entry. -/
theorem flow_masked (sc : Fin 100001 → EReal) (v : Fin 100001) :
    flow 100000#32 sc v = if v.val = 100000 then 0 else sc v := by
  have one : (-1 + 1 : EReal) = 0 := by
    rw [← EReal.coe_one, ← EReal.coe_neg, ← EReal.coe_add, neg_add_cancel, EReal.coe_zero]
  unfold flow
  rw [hot_masked, msk, if_pos rfl]
  by_cases h : v.val = 100000
  · rw [if_pos h, if_pos h, one, zero_mul, zero_mul]
  · rw [if_neg h, if_neg h, neg_zero, zero_add, one_mul, sub_zero, mul_one]

/-- The flow of another row is zero. -/
theorem flow_unmasked (x : BitVec 32) (hx : x ≠ 100000#32) (sc : Fin 100001 → EReal) (v : Fin 100001) :
    flow x sc v = 0 := by
  have one : (1 - 1 : EReal) = 0 := by
    rw [← EReal.coe_one, ← EReal.coe_sub, sub_self, EReal.coe_zero]
  unfold flow hot msk
  rw [if_neg hx]
  split
  · rw [one, mul_zero]
  · rw [neg_zero, zero_add, zero_mul, zero_mul]

/-- The reference's rates are those cut by the mask. -/
theorem rateR_eq (x : BitVec 32) (s : EReal) (sc : Fin 100001 → EReal) (v : Fin 100001) :
    rateR x s sc v = rate x s sc v := by
  unfold rateR rate
  by_cases hx : x = 100000#32
  · subst hx
    rw [if_pos rfl]
    simp only [flow_masked, hot_masked]
    by_cases h : v.val = 100000
    · rw [if_pos h, if_pos h, if_pos h, one_mul]
    · rw [if_neg h, if_neg h, if_neg h, zero_mul, sub_zero]
  · rw [if_neg hx]
    simp only [flow_unmasked x hx]
    rw [Finset.sum_const_zero, mul_zero, sub_zero, mul_zero]

/-- On a masked row the reference's weights are those cut by the mask. -/
theorem weightR_masked (r : ℕ) (s st : EReal) (sc : Fin 100001 → EReal) (v : Fin 100001) :
    weightR r 100000#32 s st sc v = weight r 100000#32 s st sc v := by
  unfold weightR weight
  rw [rateR_eq, hot_masked]
  by_cases h : v.val = 100000
  · rw [if_pos h, if_pos h]
  · rw [if_neg h, if_neg h, zero_add]

/-- On another row the reference's weights are largest at the token. -/
theorem weightR_unmasked (r : ℕ) (x : BitVec 32) (hx : x ≠ 100000#32) (hr : x.toNat < 100001) (s st : EReal)
    (sc : Fin 100001 → EReal) : IsPick (weightR r x s st sc) x := by
  have hk : BitVec.ofNat 32 x.toNat = x := by simp
  have e (v : Fin 100001) : weightR r x s st sc v = Ideal.div (hot x v) (noise (cnt r v.val)) := by
    unfold weightR
    rw [rateR_eq, rate, if_neg hx, mul_zero, add_zero]
  have h := isPick_single (weightR r x s st sc) ⟨x.toNat, hr⟩ ?_ ?_
  · rwa [show BitVec.ofNat 32 ((⟨x.toNat, hr⟩ : Fin 100001).val) = x from hk] at h
  · obtain ⟨n, n0, hn⟩ := noise_pos (cnt r x.toNat)
    rw [e, hn, hot, if_pos hk.symm, Ideal.div, if_neg (by exact_mod_cast n0.ne'), one_mul, ← EReal.coe_inv]
    exact_mod_cast inv_pos.mpr n0
  · intro j hj
    obtain ⟨n, n0, hn⟩ := noise_pos (cnt r j.val)
    rw [e, hn, hot, if_neg (fun h => hj ?_), Ideal.div, if_neg (by exact_mod_cast n0.ne'), zero_mul]
    refine (ofNat_inj ⟨x.toNat, hr⟩ j ?_).symm
    rw [← h]; exact hk

end Cert.Step

end

end
-- ==== Proof.KerValue.lean ====
/- What a block of the kernel computes, at an index. -/
module

public import proofs.«01_k».proof.Proof.KerDraw
public import proofs.«01_k».proof.Proof.Step
public import Idealize.ShloMosaic.Lib.Pointwise

@[expose] public section

set_option maxRecDepth 16384

noncomputable section

namespace Cert.KernelIdeal.Run

open Cert.KernelIdeal Cert.KernelIdeal.Gen Idealize.ShloMosaic Idealize.ShloMosaic.TcCoe
open Cert.Words Cert.Noise Cert.Argmax Cert.Step

/-- A choice by the last entry of a row. -/
theorem last_select {α : Type} (v : Fin 100001) (x y : α) :
    (if BitVec.ofNat 32 v.val = 100000#32 then x else y) = if v.val = 100000 then x else y := by
  by_cases h : v.val = 100000
  · rw [if_pos h, if_pos ((last_iff v).mpr h).symm]
  · rw [if_neg h, if_neg fun e => h ((last_iff v).mp e.symm)]

/-- The rates of a block with a masked row. -/
theorem rates0_apply (x0 : IVec S8x1 32) (y : FVec Ideal S8x100001 .f32) (x2 : FVec Ideal S8x1 .f32) (r : Fin 8) (v : Fin 100001) :
    rates0 (F := Ideal) x0 y x2 (ix2 r v) = rate (x0 (ix2 r 0)) (x2 (ix2 r 0)) (fun v => Ideal.exp (y (ix2 r v))) v := by
  pointwise [rates0, k0_pay8, k0_pay1, k0_pay6, k0_pay7]
  simp only [select_eq, last_select]
  unfold rate
  rfl

/-- The rates of another block. -/
theorem pay3_apply (r : Fin 8) (v : Fin 100001) : k0_pay3 (F := Ideal) (ix2 r v) = (0 : EReal) := Ideal.ofBits_zero_f32

/-- The word of minus infinity. -/
theorem ofBits_bot : Ideal.ofBits .f32 0xFF800000#32 = (⊥ : EReal) := by
  show Ideal.ieee 8 23 (0xFF800000#32 : BitVec 32) = ⊥
  unfold Ideal.ieee
  rw [if_pos (by decide), if_pos (by decide), if_pos (by decide)]

/-- The weights of a row of a block, of its rates and its draws. -/
def mass (R D : Fin 100001 → EReal) (st : EReal) (v : Fin 100001) : EReal :=
  Ideal.div (if v.val = 100000 then 1 + st * R v else st * R v)
    (Ideal.ofBits .f32 0x358637BD#32 - Ideal.log (Ideal.ofBits .f32 0x358637BD#32 + Ideal.ofBits .f32 0x3F7FFFEF#32 * max (D v) 0))

/-- The tokens of a block with a masked row, over any draws. -/
theorem pay5_apply (R D : FVec Ideal S8x100001 .f32) (x0 x1 : IVec S8x1 32) (st : EReal) (r : Fin 8) :
    k0_pay5 (F := Ideal) (iota .tc S8x100001 32 [1] iota_S8x100001_d1_w32) k0_pay6 (k0_pay7 (k0_pay1 (F := Ideal) x0)) R D
      (Scalar.ofBits .f32 0x00000000#32) st x1 (ix2 r 0)
      = if x0 (ix2 r 0) = 100000#32 then
          Finset.univ.fold IntOp.minsi 2147483647#32 (fun k : Fin 100001 =>
            if mass (fun v => R (ix2 r v)) (fun v => D (ix2 r v)) st k
              = Finset.univ.fold max ⊥ (mass (fun v => R (ix2 r v)) (fun v => D (ix2 r v)) st)
            then BitVec.ofNat 32 k.val else 100001#32)
        else x1 (ix2 r 0) := by
  pointwise [k0_pay5, k0_pay1, k0_pay6, k0_pay7]
  simp only [select_eq, last_select, select_oeq, ofBits_bot]
  unfold mass
  rfl

/-- The tokens of a block with a masked row: on a masked row the first largest of the weights, on another the token. -/
theorem toks0_apply (i : grid0.Coords) (x0 x1 : IVec S8x1 32) (y : FVec Ideal S8x100001 .f32) (x2 : FVec Ideal S8x1 .f32)
    (x3 : FVec Ideal S1 .f32) (r : Fin 8) :
    (x0 (ix2 r 0) = 100000#32 → IsPick (weight ((i 0).val * 8 + r.val) (x0 (ix2 r 0)) (x2 (ix2 r 0)) (x3 (ix1 0))
      (fun v => Ideal.exp (y (ix2 r v)))) (toks0 (F := Ideal) i x0 x1 y x2 x3 (ix2 r 0)))
    ∧ (x0 (ix2 r 0) ≠ 100000#32 → toks0 (F := Ideal) i x0 x1 y x2 x3 (ix2 r 0) = x1 (ix2 r 0)) := by
  have e : toks0 (F := Ideal) i x0 x1 y x2 x3
      = k0_pay5 (F := Ideal) (iota .tc S8x100001 32 [1] iota_S8x100001_d1_w32) k0_pay6 (k0_pay7 (k0_pay1 (F := Ideal) x0))
        (rates0 (F := Ideal) x0 y x2) (draws0 (F := Ideal) i) (Scalar.ofBits .f32 0x00000000#32) (x3 (ix1 0)) x1 := by
    have f : (Shape.Idx.first (Nat.lt_of_sub_eq_succ numel1_S1) : S1.Idx) = ix1 0 := by
      funext b; fin_cases b; rfl
    unfold toks0
    rw [f]
  rw [e, pay5_apply]
  constructor
  · intro h
    rw [if_pos h]
    have m : mass (fun v => rates0 (F := Ideal) x0 y x2 (ix2 r v)) (fun v => draws0 (F := Ideal) i (ix2 r v)) (x3 (ix1 0))
        = weight ((i 0).val * 8 + r.val) (x0 (ix2 r 0)) (x2 (ix2 r 0)) (x3 (ix1 0)) (fun v => Ideal.exp (y (ix2 r v))) := by
      funext v
      unfold mass weight
      beta_reduce
      rw [rates0_apply, draws_apply]
      rfl
    rw [m]
    exact isPick_min _ _ fun k => rfl
  · intro h
    rw [if_neg h]

/-- A block has a masked row exactly when a token is the last entry, no token being larger. -/
theorem cond_spec (i : grid0.Coords) (x0 : IVec S8x1 32) (h : ∀ r : Fin 8, (x0 (ix2 r 0)).toInt ≤ 100000) :
    cond0_1 (F := Ideal) i x0 ↔ ∃ r : Fin 8, x0 (ix2 r 0) = 100000#32 := by
  have e : extractAt ![0, 0, 0] (k0_pay2 (F := Ideal) x0) inpos_S1x1x1_p0_0_0
      = Finset.univ.fold IntOp.maxsi 2147483648#32 (fun k : Fin 8 × Fin 1 => x0 (ix2 k.1 0)) := by
    pointwise [k0_pay2, k0_pay1]
  obtain ⟨-, h1, h2⟩ := SortNet.fold_maxsi_spec (fun k : Fin 8 × Fin 1 => x0 (ix2 k.1 0)) Finset.univ 2147483648#32
  have c : cond0_1 (F := Ideal) i x0 ↔ extractAt ![0, 0, 0] (k0_pay2 (F := Ideal) x0) inpos_S1x1x1_p0_0_0 = 100000#32 := by
    unfold cond0_1
    generalize extractAt ![0, 0, 0] (k0_pay2 (F := Ideal) x0) inpos_S1x1x1_p0_0_0 = a
    have q : Scalar.cmpi .eq a 100000#32 = BitVec.ofBool (decide (a = 100000#32)) := by
      show BitVec.ofBool (a == 100000#32) = _
      congr 1
    rw [q]
    by_cases g : a = 100000#32
    · rw [decide_eq_true g]; exact ⟨fun _ => g, fun _ => by decide⟩
    · rw [decide_eq_false g]; exact ⟨fun k => absurd k (by decide), fun k => absurd k g⟩
  rw [c, e]
  generalize Finset.univ.fold IntOp.maxsi 2147483648#32 (fun k : Fin 8 × Fin 1 => x0 (ix2 k.1 0)) = M at h1 h2
  have t0 : (100000#32).toInt = 100000 := by decide
  constructor
  · intro hM
    rcases h2 with h2 | ⟨k, -, h2⟩
    · exact absurd (hM.symm.trans h2) (by decide)
    · exact ⟨k.1, h2.symm.trans hM⟩
  · rintro ⟨r, hr⟩
    have g := h1 (r, 0) (Finset.mem_univ _)
    rw [show x0 (ix2 (r, (0 : Fin 1)).1 0) = 100000#32 from hr, t0] at g
    apply BitVec.eq_of_toInt_eq
    rw [t0]
    rcases h2 with h2 | ⟨k, -, h2⟩
    · have : (2147483648#32).toInt = -2147483648 := by decide
      rw [h2, this] at g
      omega
    · have := h k.1
      rw [h2] at g ⊢
      omega

end Cert.KernelIdeal.Run

end

end
-- ==== Proof.KerHost.lean ====
/- The arrays the kernel's blocks are cut from, at an index of the arguments. -/
module

public import proofs.«01_k».proof.Proof.KerValue
public import Idealize.ShloMosaic.Lib.StableHlo.ReadAt

@[expose] public section

set_option maxRecDepth 16384

noncomputable section

namespace Cert.KernelIdeal.Run

open Cert.KernelIdeal Cert.KernelIdeal.Gen Idealize.ShloMosaic Idealize.ShloMosaic.TcCoe
open Cert.Step

variable (m : (ℓ : Loc nD τ sig) → Buf (Elt Ideal) ℓ)

/-- The scores' logarithms. -/
abbrev inX (c : Dev nD) : FVec Ideal S16x16x100001 .f32 := m ((c : Thread nD τ).loc main_arg0)
/-- The tokens. -/
abbrev inT (c : Dev nD) : IVec S16x16 32 := m ((c : Thread nD τ).loc main_arg1)
/-- The times. -/
abbrev inS (c : Dev nD) : FVec Ideal S16 .f32 := m ((c : Thread nD τ).loc main_arg2)
/-- The step size. -/
abbrev inD (c : Dev nD) : FVec Ideal S1 .f32 := m ((c : Thread nD τ).loc main_arg3)

/-- Row `l` of batch `b` among all rows. -/
abbrev row (b l : Fin 16) : Fin 256 := ⟨b.val * 16 + l.val, by omega⟩

/-- The tokens by rows, the mask renamed. -/
abbrev arrT (c : Dev nD) : IVec S256x1 32 := V m c main_v3
/-- The noise levels by rows. -/
abbrev arrS (c : Dev nD) : FVec Ideal S256x1 .f32 := V m c main_v12
/-- The scores' logarithms by rows. -/
abbrev arrX (c : Dev nD) : FVec Ideal S256x100001 .f32 := V m c main_v13

/-- The batch of a row. -/
theorem row_div (b l : Fin 16) (h : (b.val * 16 + l.val) / 16 < 16) : (⟨(b.val * 16 + l.val) / 16, h⟩ : Fin 16) = b :=
  Fin.ext (by show (b.val * 16 + l.val) / 16 = b.val; omega)
/-- The place of a row in its batch. -/
theorem row_mod (b l : Fin 16) (h : (b.val * 16 + l.val) % 16 < 16) : (⟨(b.val * 16 + l.val) % 16, h⟩ : Fin 16) = l :=
  Fin.ext (by show (b.val * 16 + l.val) % 16 = l.val; omega)

/-- A row of the tokens. -/
theorem arrT_apply (c : Dev nD) (b l : Fin 16) : arrT m c (ix2 (row b l) 0) = tok (inT m c (ix2 b l)) := by
  unfold arrT V V0
  after_reads_at
  rw [row_div, row_mod]
  exact select_eq _ _ _ _

/-- A row of the noise levels. -/
theorem arrS_apply (c : Dev nD) (b l : Fin 16) : arrS m c (ix2 (row b l) 0) = level (inS m c (ix1 b)) := by
  unfold arrS V V0
  after_reads_at
  rw [row_div]
  rfl

/-- A row of the scores' logarithms. -/
theorem arrX_apply (c : Dev nD) (b l : Fin 16) (v : Fin 100001) : arrX m c (ix2 (row b l) v) = inX m c (ix3 b l v) := by
  unfold arrX V V0
  after_reads_at
  rw [row_div, row_mod]

end Cert.KernelIdeal.Run

end

end
-- ==== Proof.KerBlocks.lean ====
/- What each point of the kernel reads and leaves, at a row of the arrays. -/
module

public import proofs.«01_k».proof.Proof.KerHost
public import Idealize.ShloMosaic.Lib.Pipeline.ValueKit.Geometry

@[expose] public section

set_option maxRecDepth 16384

noncomputable section

namespace Cert.KernelIdeal.Run

open Cert.KernelIdeal Cert.KernelIdeal.Gen Idealize.ShloMosaic Idealize.ShloMosaic.TcCoe
open Cert.Step Cert.Argmax

variable (m : (ℓ : Loc nD τ sig) → Buf (Elt Ideal) ℓ)

/-- Row `r` of point `t`'s block among all rows. -/
abbrev at8 (t : Fin cfg0.N) (r : Fin 8) : Fin 256 :=
  ⟨(grid0.coords t 0).val * 8 + r.val, by have h := (grid0.coords t 0).isLt; change _ < 32 at h; omega⟩

/-- Which block each window is at. -/
theorem index0 : ∀ t : Fin cfg0.N, win0_0.index t = ![(grid0.coords t 0).val, 0] := (by decide +kernel : ∀ t : Fin grid0.N, _)
theorem index1 : ∀ t : Fin cfg0.N, win0_1.index t = ![(grid0.coords t 0).val, 0] := (by decide +kernel : ∀ t : Fin grid0.N, _)
theorem index2 : ∀ t : Fin cfg0.N, win0_2.index t = ![(grid0.coords t 0).val, 0] := (by decide +kernel : ∀ t : Fin grid0.N, _)
theorem index3 : ∀ t : Fin cfg0.N, win0_3.index t = ![0] := (by decide +kernel : ∀ t : Fin grid0.N, _)
theorem index4 : ∀ t : Fin cfg0.N, win0_4.index t = ![(grid0.coords t 0).val, 0] := (by decide +kernel : ∀ t : Fin grid0.N, _)
theorem index5 : ∀ t : Fin cfg0.N, win0_5.index t = ![(grid0.coords t 0).val, 0] := (by decide +kernel : ∀ t : Fin grid0.N, _)

/-- The first block of tokens. -/
theorem iblk0_apply (c : Dev nD) (t : Fin cfg0.N) (r : Fin 8) :
    (iblk m c 0 t : IVec S8x1 32) (ix2 r 0) = arrT m c (ix2 (at8 t r) 0) := by
  blk_simp [iblk]
  refine congrArg (arrT m c) ?_
  blk_ext [index0]

/-- The second block of tokens. -/
theorem iblk1_apply (c : Dev nD) (t : Fin cfg0.N) (r : Fin 8) :
    (iblk m c 1 t : IVec S8x1 32) (ix2 r 0) = arrT m c (ix2 (at8 t r) 0) := by
  blk_simp [iblk]
  refine congrArg (arrT m c) ?_
  blk_ext [index1]

/-- The block of noise levels. -/
theorem iblk2_apply (c : Dev nD) (t : Fin cfg0.N) (r : Fin 8) :
    (iblk m c 2 t : FVec Ideal S8x1 .f32) (ix2 r 0) = arrS m c (ix2 (at8 t r) 0) := by
  blk_simp [iblk]
  refine congrArg (arrS m c) ?_
  blk_ext [index2]

/-- The step size. -/
theorem iblk3_apply (c : Dev nD) (t : Fin cfg0.N) :
    (iblk m c 3 t : FVec Ideal S1 .f32) (ix1 0) = inD m c (ix1 0) := by
  blk_simp [iblk]
  refine (congrFun (V_main_arg3 m c) _).trans (congrArg (inD m c) ?_)
  blk_ext [index3]

/-- The rows of scores a point copies. -/
theorem rows0_apply (c : Dev nD) (t : Fin cfg0.N) (r : Fin 8) (v : Fin 100001) :
    (rows0 c (grid0.coords t) (V m c main_v13) : FVec Ideal S8x100001 .f32) (ix2 r v) = arrX m c (ix2 (at8 t r) v) := by
  unfold rows0
  refine congrArg (arrX m c) ?_
  funext a
  refine Fin.ext ?_
  refine (ValueKit.view_emb_slice_whole_unit_val _ _ _ _ _ _).trans ?_
  have e := congrFun (k0_off1_eq (grid0.coords t))
  fin_cases a
  · have e0 : k0_off1 (grid0.coords t) 0 = 8 * (grid0.coords t 0).val := e 0
    show k0_off1 (grid0.coords t) 0 + r.val = (grid0.coords t 0).val * 8 + r.val
    omega
  · have e1 : k0_off1 (grid0.coords t) 1 = 0 := e 1
    show k0_off1 (grid0.coords t) 1 + v.val = v.val
    omega

end Cert.KernelIdeal.Run

end

end
-- ==== Proof.KerArray.lean ====
/- What the kernel's two arrays hold after its run, row by row. -/
module

public import proofs.«01_k».proof.Proof.KerBlocks
public import proofs.«01_k».proof.Proof.KerRun

@[expose] public section

set_option maxRecDepth 16384

noncomputable section

namespace Cert.KernelIdeal.Run

open Cert.KernelIdeal Cert.KernelIdeal.Gen Idealize.ShloMosaic Idealize.ShloMosaic.TcCoe
open Cert.Step Cert.Argmax

variable (m : (ℓ : Loc nD τ sig) → Buf (Elt Ideal) ℓ)

/-- The scores of a row. -/
def rowSc (c : Dev nD) (R : Fin 256) (v : Fin 100001) : EReal := Ideal.exp (arrX m c (ix2 R v))

/-- The rates of a row. -/
def rowRate (c : Dev nD) (R : Fin 256) (v : Fin 100001) : EReal :=
  rate (arrT m c (ix2 R 0)) (arrS m c (ix2 R 0)) (rowSc m c R) v

/-- A token a row may end with: a masked row takes a pick among its weights, another keeps its own. -/
def RowTok (c : Dev nD) (R : Fin 256) (w : BitVec 32) : Prop :=
  (arrT m c (ix2 R 0) = 100000#32 →
      IsPick (weight R.val (arrT m c (ix2 R 0)) (arrS m c (ix2 R 0)) (inD m c (ix1 0)) (rowSc m c R)) w)
    ∧ (arrT m c (ix2 R 0) ≠ 100000#32 → w = arrT m c (ix2 R 0))

/-- The scores of a row of a block. -/
theorem block_sc (c : Dev nD) (t : Fin cfg0.N) (r : Fin 8) :
    (fun v => Ideal.exp ((rows0 c (grid0.coords t) (V m c main_v13) : FVec Ideal S8x100001 .f32) (ix2 r v))) = rowSc m c (at8 t r) :=
  funext fun v => congrArg Ideal.exp (rows0_apply m c t r v)

/-- The branch of a point, by the tokens of its rows. -/
theorem cond_rows (c : Dev nD) (h : ∀ R, (arrT m c (ix2 R 0)).toInt ≤ 100000) (t : Fin cfg0.N) :
    cond0_1 (F := Ideal) (grid0.coords t) (iblk m c 0 t) ↔ ∃ r, arrT m c (ix2 (at8 t r) 0) = 100000#32 := by
  refine (cond_spec _ _ fun r => ?_).trans (exists_congr fun r => ?_)
  · rw [iblk0_apply]; exact h _
  · rw [iblk0_apply]

/-- The rates a point leaves. -/
theorem out4_apply (c : Dev nD) (h : ∀ R, (arrT m c (ix2 R 0)).toInt ≤ 100000) (t : Fin cfg0.N) (r : Fin 8) (v : Fin 100001) :
    (out4 m c t : FVec Ideal S8x100001 .f32) (ix2 r v) = rowRate m c (at8 t r) v := by
  unfold out4
  by_cases g : cond0_1 (F := Ideal) (grid0.coords t) (iblk m c 0 t)
  · rw [if_pos g]
    refine (rates0_apply _ _ _ r v).trans ?_
    rw [iblk0_apply, iblk2_apply, block_sc]
    rfl
  · rw [if_neg g]
    refine (pay3_apply r v).trans ?_
    have k : arrT m c (ix2 (at8 t r) 0) ≠ 100000#32 := fun e => g ((cond_rows m c h t).mpr ⟨r, e⟩)
    unfold rowRate rate
    rw [if_neg k]

/-- The tokens of a block without a masked row. -/
theorem pay4_apply (x1 : IVec S8x1 32) (r : Fin 8) : (k0_pay4 (F := Ideal) x1 : IVec S8x1 32) (ix2 r 0) = x1 (ix2 r 0) := by
  pointwise [k0_pay4]

/-- The tokens a point leaves. -/
theorem out5_apply (c : Dev nD) (h : ∀ R, (arrT m c (ix2 R 0)).toInt ≤ 100000) (t : Fin cfg0.N) (r : Fin 8) :
    RowTok m c (at8 t r) ((out5 m c t : IVec S8x1 32) (ix2 r 0)) := by
  unfold out5
  by_cases g : cond0_1 (F := Ideal) (grid0.coords t) (iblk m c 0 t)
  · rw [if_pos g]
    have k := toks0_apply (grid0.coords t) (iblk m c 0 t) (iblk m c 1 t) (rows0 c (grid0.coords t) (V m c main_v13)) (iblk m c 2 t) (iblk m c 3 t) r
    rw [iblk0_apply, iblk1_apply, iblk2_apply, iblk3_apply, block_sc] at k
    exact k
  · rw [if_neg g]
    have k : arrT m c (ix2 (at8 t r) 0) ≠ 100000#32 := fun e => g ((cond_rows m c h t).mpr ⟨r, e⟩)
    exact ⟨fun e => absurd e k, fun _ => (pay4_apply _ r).trans (iblk1_apply m c t r)⟩

/-- The array of rates after the run. -/
theorem arr4_apply (c : Dev nD) (h : ∀ R, (arrT m c (ix2 R 0)).toInt ≤ 100000) (R : Fin 256) (v : Fin 100001) :
    ((dats m 0 c).arrAt 4 cfg0.N : FVec Ideal S256x100001 .f32) (ix2 R v) = rowRate m c R v := by
  have k : ((dats m 0 c).arrAt 4 cfg0.N : FVec Ideal S256x100001 .f32) = fun i => rowRate m c (i 0) (i 1) := by
    refine (dats m 0 c).arrAt_eq_of_covers 4 _ (by decide +kernel) fun t hf y => ?_
    blk_simp
    rw [after0_4]
    obtain ⟨r, w, rfl⟩ : ∃ (r : Fin 8) (w : Fin 100001), y = ix2 r w := ⟨y 0, y 1, by funext a; fin_cases a <;> rfl⟩
    refine (out4_apply m c h t r w).trans ?_
    congr 1
    all_goals exact Fin.ext (by blk_simp [index4]; try rfl)
  exact congrFun k _

/-- The array of tokens after the run. -/
theorem arr5_apply (c : Dev nD) (h : ∀ R, (arrT m c (ix2 R 0)).toInt ≤ 100000) (R : Fin 256) :
    RowTok m c R (((dats m 0 c).arrAt 5 cfg0.N : IVec S256x1 32) (ix2 R 0)) := by
  refine (dats m 0 c).arrAt_forall_of_covers 5 (fun i w => RowTok m c (i 0) w) (by decide +kernel) (fun t hf y => ?_) (ix2 R 0)
  blk_simp
  rw [after0_5]
  obtain ⟨r, rfl⟩ : ∃ (r : Fin 8), y = ix2 r 0 := ⟨y 0, by funext a; fin_cases a; rfl; exact Subsingleton.elim (α := Fin 1) _ _⟩
  have k := out5_apply m c h t r
  have e : at8 t r = (((cfg0.win 5).blk t).view.emb (ix2 r 0)) 0 := Fin.ext (by blk_simp [index5]; try rfl)
  rw [e] at k
  exact k

end Cert.KernelIdeal.Run

end

end
-- ==== Proof.KerOut.lean ====
/- The two results of the kernel, row by row. -/
module

public import proofs.«01_k».proof.Proof.KerArray

@[expose] public section

set_option maxRecDepth 16384

noncomputable section

namespace Cert.KernelIdeal.Run

open Cert.KernelIdeal Cert.KernelIdeal.Gen Idealize.ShloMosaic Idealize.ShloMosaic.TcCoe
open Cert.Step Cert.Argmax
open Idealize.SL.Sem

/-- The rates the last lines give back, of the array of rates. -/
theorem tail20 (W : Valuation τ sig (Elt Ideal)) (X : FVec Ideal S256x100001 .f32) (hX : W (Proc.devRef .tc main_v14_0) = X)
    (b l : Fin 16) (v : Fin 100001) :
    (StableHlo.after (List.flatten [hostOps1, hostOps1_1, hostOps1_2]) W (Proc.devRef .tc main_v20) : FVec Ideal S16x16x100001 .f32) (ix3 b l v)
      = X (ix2 (row b l) v) := by
  subst hX
  after_reads_at

/-- The tokens the last lines give back, of the array of tokens. -/
theorem tail19 (W : Valuation τ sig (Elt Ideal)) (X : IVec S256x1 32) (hX : W (Proc.devRef .tc main_v14_1) = X) (b l : Fin 16) :
    (StableHlo.after (List.flatten [hostOps1, hostOps1_1, hostOps1_2]) W (Proc.devRef .tc main_v19) : IVec S16x16 32) (ix2 b l)
      = untok (X (ix2 (row b l) 0)) := by
  subst hX
  after_reads_at
  exact select_eq _ _ _ _

variable (m : (ℓ : Loc nD τ sig) → Buf (Elt Ideal) ℓ)

/-- The array of rates is what the last lines find. -/
theorem left4 (c : Dev nD) :
    Pipeline.withArrays (cfgs 0).spec c (V0 m c) (fun w => (dats m 0 c).arrAt w (cfgs 0).N) (Proc.devRef .tc main_v14_0)
      = (dats m 0 c).arrAt 4 cfg0.N :=
  Pipeline.withArrays_arr_shared (cfgs 0).spec c (V0 m c) (fun w => (dats m 0 c).arrAt w (cfgs 0).N)
    ((dats m 0 c).arrAt_sharedIn (by decide) (V0 m c) (A_eq m c) _) 4

/-- The array of tokens is what the last lines find. -/
theorem left5 (c : Dev nD) :
    Pipeline.withArrays (cfgs 0).spec c (V0 m c) (fun w => (dats m 0 c).arrAt w (cfgs 0).N) (Proc.devRef .tc main_v14_1)
      = (dats m 0 c).arrAt 5 cfg0.N :=
  Pipeline.withArrays_arr_shared (cfgs 0).spec c (V0 m c) (fun w => (dats m 0 c).arrAt w (cfgs 0).N)
    ((dats m 0 c).arrAt_sharedIn (by decide) (V0 m c) (A_eq m c) _) 5

/-- The kernel's rates. -/
def outRates (c : Dev nD) : FVec Ideal S16x16x100001 .f32 :=
  Pipeline.afterTail₀ cfgs (dats m) 0 (V0 m) [hostOps1, hostOps1_1, hostOps1_2] c main_v20
/-- The kernel's tokens. -/
def outToks (c : Dev nD) : IVec S16x16 32 :=
  Pipeline.afterTail₀ cfgs (dats m) 0 (V0 m) [hostOps1, hostOps1_1, hostOps1_2] c main_v19

/-- The kernel's rates, row by row. -/
theorem outRates_apply (c : Dev nD) (h : ∀ R, (arrT m c (ix2 R 0)).toInt ≤ 100000) (b l : Fin 16) (v : Fin 100001) :
    outRates m c (ix3 b l v) = rowRate m c (row b l) v := by
  unfold outRates Pipeline.afterTail₀
  exact (tail20 _ _ (left4 m c) b l v).trans (arr4_apply m c h (row b l) v)

/-- The kernel's tokens, row by row. -/
theorem outToks_apply (c : Dev nD) (h : ∀ R, (arrT m c (ix2 R 0)).toInt ≤ 100000) (b l : Fin 16) :
    ∃ w, outToks m c (ix2 b l) = untok w ∧ RowTok m c (row b l) w := by
  unfold outToks Pipeline.afterTail₀
  exact ⟨_, tail19 _ _ (left5 m c) b l, arr5_apply m c h (row b l)⟩

/-- Every fair execution of the kernel ends with these results and the arguments as launched. -/
theorem results (ρ : Dev nD → PrngReg) :
    θ_run defs (onTc (τ := τ) (main (F := Ideal))) ⟨m, fun _ => 0, ρ⟩ (fun r => ∀ c : Dev nD,
      r.2.mem ((c.tc : Thread nD τ).loc main_v19) = outToks m c
      ∧ r.2.mem ((c.tc : Thread nD τ).loc main_v20) = outRates m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h.1 c).2 main_v19 (Pipeline.mem_restRefs_of main_v19 (by decide) (by decide)),
      (h.1 c).2 main_v20 (Pipeline.mem_restRefs_of main_v20 (by decide) (by decide)),
      (((h.1 c).2 main_arg0 (Pipeline.mem_restRefs_of main_arg0 (by decide) (by decide))).trans (W_main_arg0 m (dats m) c)),
      (((h.1 c).2 main_arg1 (Pipeline.mem_restRefs_of main_arg1 (by decide) (by decide))).trans (W_main_arg1 m (dats m) c)),
      (((h.1 c).2 main_arg2 (Pipeline.mem_restRefs_of main_arg2 (by decide) (by decide))).trans (W_main_arg2 m (dats m) c)),
      ((h.1 c).1 3).trans (((dats m 0 c).arrAt_in 3 rfl _).trans ((A_eq m c 3).trans (V_main_arg3 m c)))⟩) (run_main m ρ)

end Cert.KernelIdeal.Run

end

end
-- ==== Proof.RefDraw.lean ====
/- The random draws of the reference, at an index. -/
module

public import proofs.«01_k».proof.Proof.RefTerms
public import proofs.«01_k».proof.Proof.Words
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.ShloMosaic.StableHlo Cert.Words

variable {F : FTy → Type} [FloatOps F] (V0 : Valuation τ sig (Elt F))

/-- A word of the array. -/
abbrev at32 (x : IVec S16x16x100001 32) (j : S16x16x100001.Idx) : BitVec 32 := x j

/-- A word of a rank-0 array. -/
abbrev at0 (x : IVec S_ 32) (k : S_.Idx) : BitVec 32 := x k

/-- The first key word. -/
theorem key0 (k : S_.Idx) : at0 (res_main_call2_v5 V0) k = 0#32 := by
  pointwise [at0, res_main_call2_v5, res_main_v41, res_main_c_6]
  show IntOp.shrui .host 1#32 32#32 = 0#32
  exact if_neg (by decide)

/-- The second key word. -/
theorem key1 (k : S_.Idx) : at0 (res_main_call2_v7 V0) k = 1#32 := by
  pointwise [at0, res_main_call2_v7, res_main_v41, res_main_c_6]
  rfl

/-- The third key word, from the two. -/
theorem key2 (k : S_.Idx) : at0 (res_main_call2_call0_v1 V0) k = 466688987#32 := by
  have e : at0 (res_main_call2_call0_v1 V0) k = (at0 (res_main_call2_v5 V0) k ^^^ at0 (res_main_call2_v7 V0) k) ^^^ 466688986#32 := rfl
  rw [e, key0, key1]; rfl

/-- The position of an element in the array, as a wide word. -/
abbrev pos (j : S16x16x100001.Idx) : BitVec 64 := res_main_call2_v18 V0 j

/-- The two words of the counter of an element, each with its key. -/
def start (j : S16x16x100001.Idx) : BitVec 32 × BitVec 32 :=
  (BitVec.setWidth 32 (IntOp.shrui .host (pos V0 j) 32#64) + 0#32, at32 (res_main_call2_call0_v5 V0) j)

/-- The keys spread over the array. -/
theorem bkey0 (j : S16x16x100001.Idx) : at32 (broadcastInDim S16x16x100001 ![] bcast_S_S16x16x100001 (res_main_call2_v5 V0)) j = 0#32 := key0 V0 _
theorem bkey1 (j : S16x16x100001.Idx) : at32 (broadcastInDim S16x16x100001 ![] bcast_S_S16x16x100001 (res_main_call2_v7 V0)) j = 1#32 := key1 V0 _
theorem bkey2 (j : S16x16x100001.Idx) : at32 (broadcastInDim S16x16x100001 ![] bcast_S_S16x16x100001 (res_main_call2_call0_v1 V0)) j = 466688987#32 := key2 V0 _

/-- Group 1 of rounds and its key. -/
theorem group_1 (j : S16x16x100001.Idx) :
    (at32 (res_main_call2_call0_v27 V0) j + at32 (broadcastInDim S16x16x100001 ![] bcast_S_S16x16x100001 (res_main_call2_v7 V0)) j, at32 (res_main_call2_call0_v39 V0) j)
      = inj 1 466688987 1 (mixA (start V0 j)) := by
  have h1 : (at32 (res_main_call2_call0_v6 V0) j, at32 (res_main_call2_call0_v12 V0) j) = rnd 13 19 (start V0 j) := by
    rw [start, ← bkey0 V0 j]; rfl
  have h2 : (at32 (res_main_call2_call0_v13 V0) j, at32 (res_main_call2_call0_v19 V0) j) = rnd 15 17 ((at32 (res_main_call2_call0_v6 V0) j, at32 (res_main_call2_call0_v12 V0) j)) := rfl
  have h3 : (at32 (res_main_call2_call0_v20 V0) j, at32 (res_main_call2_call0_v26 V0) j) = rnd 26 6 ((at32 (res_main_call2_call0_v13 V0) j, at32 (res_main_call2_call0_v19 V0) j)) := rfl
  have h4 : (at32 (res_main_call2_call0_v27 V0) j + at32 (broadcastInDim S16x16x100001 ![] bcast_S_S16x16x100001 (res_main_call2_v7 V0)) j, at32 (res_main_call2_call0_v39 V0) j)
      = inj (at32 (broadcastInDim S16x16x100001 ![] bcast_S_S16x16x100001 (res_main_call2_v7 V0)) j) (at32 (broadcastInDim S16x16x100001 ![] bcast_S_S16x16x100001 (res_main_call2_call0_v1 V0)) j) 1 (rnd 6 26 (at32 (res_main_call2_call0_v20 V0) j, at32 (res_main_call2_call0_v26 V0) j)) := rfl
  rw [h4, h3, h2, h1, bkey1, bkey2, mixA]
  rfl

/-- Group 2 of rounds and its key. -/
theorem group_2 (j : S16x16x100001.Idx) :
    (at32 (res_main_call2_call0_v61 V0) j + at32 (broadcastInDim S16x16x100001 ![] bcast_S_S16x16x100001 (res_main_call2_call0_v1 V0)) j, at32 (res_main_call2_call0_v73 V0) j)
      = inj 466688987 0 2 (mixB ((at32 (res_main_call2_call0_v27 V0) j + at32 (broadcastInDim S16x16x100001 ![] bcast_S_S16x16x100001 (res_main_call2_v7 V0)) j, at32 (res_main_call2_call0_v39 V0) j))) := by
  have h1 : (at32 (res_main_call2_call0_v40 V0) j, at32 (res_main_call2_call0_v46 V0) j) = rnd 17 15 ((at32 (res_main_call2_call0_v27 V0) j + at32 (broadcastInDim S16x16x100001 ![] bcast_S_S16x16x100001 (res_main_call2_v7 V0)) j, at32 (res_main_call2_call0_v39 V0) j)) := rfl
  have h2 : (at32 (res_main_call2_call0_v47 V0) j, at32 (res_main_call2_call0_v53 V0) j) = rnd 29 3 ((at32 (res_main_call2_call0_v40 V0) j, at32 (res_main_call2_call0_v46 V0) j)) := rfl
  have h3 : (at32 (res_main_call2_call0_v54 V0) j, at32 (res_main_call2_call0_v60 V0) j) = rnd 16 16 ((at32 (res_main_call2_call0_v47 V0) j, at32 (res_main_call2_call0_v53 V0) j)) := rfl
  have h4 : (at32 (res_main_call2_call0_v61 V0) j + at32 (broadcastInDim S16x16x100001 ![] bcast_S_S16x16x100001 (res_main_call2_call0_v1 V0)) j, at32 (res_main_call2_call0_v73 V0) j)
      = inj (at32 (broadcastInDim S16x16x100001 ![] bcast_S_S16x16x100001 (res_main_call2_call0_v1 V0)) j) (at32 (broadcastInDim S16x16x100001 ![] bcast_S_S16x16x100001 (res_main_call2_v5 V0)) j) 2 (rnd 24 8 (at32 (res_main_call2_call0_v54 V0) j, at32 (res_main_call2_call0_v60 V0) j)) := rfl
  rw [h4, h3, h2, h1, bkey2, bkey0, mixB]
  rfl

/-- Group 3 of rounds and its key. -/
theorem group_3 (j : S16x16x100001.Idx) :
    (at32 (res_main_call2_call0_v95 V0) j + at32 (broadcastInDim S16x16x100001 ![] bcast_S_S16x16x100001 (res_main_call2_v5 V0)) j, at32 (res_main_call2_call0_v107 V0) j)
      = inj 0 1 3 (mixA ((at32 (res_main_call2_call0_v61 V0) j + at32 (broadcastInDim S16x16x100001 ![] bcast_S_S16x16x100001 (res_main_call2_call0_v1 V0)) j, at32 (res_main_call2_call0_v73 V0) j))) := by
  have h1 : (at32 (res_main_call2_call0_v74 V0) j, at32 (res_main_call2_call0_v80 V0) j) = rnd 13 19 ((at32 (res_main_call2_call0_v61 V0) j + at32 (broadcastInDim S16x16x100001 ![] bcast_S_S16x16x100001 (res_main_call2_call0_v1 V0)) j, at32 (res_main_call2_call0_v73 V0) j)) := rfl
  have h2 : (at32 (res_main_call2_call0_v81 V0) j, at32 (res_main_call2_call0_v87 V0) j) = rnd 15 17 ((at32 (res_main_call2_call0_v74 V0) j, at32 (res_main_call2_call0_v80 V0) j)) := rfl
  have h3 : (at32 (res_main_call2_call0_v88 V0) j, at32 (res_main_call2_call0_v94 V0) j) = rnd 26 6 ((at32 (res_main_call2_call0_v81 V0) j, at32 (res_main_call2_call0_v87 V0) j)) := rfl
  have h4 : (at32 (res_main_call2_call0_v95 V0) j + at32 (broadcastInDim S16x16x100001 ![] bcast_S_S16x16x100001 (res_main_call2_v5 V0)) j, at32 (res_main_call2_call0_v107 V0) j)
      = inj (at32 (broadcastInDim S16x16x100001 ![] bcast_S_S16x16x100001 (res_main_call2_v5 V0)) j) (at32 (broadcastInDim S16x16x100001 ![] bcast_S_S16x16x100001 (res_main_call2_v7 V0)) j) 3 (rnd 6 26 (at32 (res_main_call2_call0_v88 V0) j, at32 (res_main_call2_call0_v94 V0) j)) := rfl
  rw [h4, h3, h2, h1, bkey0, bkey1, mixA]
  rfl

/-- Group 4 of rounds and its key. -/
theorem group_4 (j : S16x16x100001.Idx) :
    (at32 (res_main_call2_call0_v129 V0) j + at32 (broadcastInDim S16x16x100001 ![] bcast_S_S16x16x100001 (res_main_call2_v7 V0)) j, at32 (res_main_call2_call0_v141 V0) j)
      = inj 1 466688987 4 (mixB ((at32 (res_main_call2_call0_v95 V0) j + at32 (broadcastInDim S16x16x100001 ![] bcast_S_S16x16x100001 (res_main_call2_v5 V0)) j, at32 (res_main_call2_call0_v107 V0) j))) := by
  have h1 : (at32 (res_main_call2_call0_v108 V0) j, at32 (res_main_call2_call0_v114 V0) j) = rnd 17 15 ((at32 (res_main_call2_call0_v95 V0) j + at32 (broadcastInDim S16x16x100001 ![] bcast_S_S16x16x100001 (res_main_call2_v5 V0)) j, at32 (res_main_call2_call0_v107 V0) j)) := rfl
  have h2 : (at32 (res_main_call2_call0_v115 V0) j, at32 (res_main_call2_call0_v121 V0) j) = rnd 29 3 ((at32 (res_main_call2_call0_v108 V0) j, at32 (res_main_call2_call0_v114 V0) j)) := rfl
  have h3 : (at32 (res_main_call2_call0_v122 V0) j, at32 (res_main_call2_call0_v128 V0) j) = rnd 16 16 ((at32 (res_main_call2_call0_v115 V0) j, at32 (res_main_call2_call0_v121 V0) j)) := rfl
  have h4 : (at32 (res_main_call2_call0_v129 V0) j + at32 (broadcastInDim S16x16x100001 ![] bcast_S_S16x16x100001 (res_main_call2_v7 V0)) j, at32 (res_main_call2_call0_v141 V0) j)
      = inj (at32 (broadcastInDim S16x16x100001 ![] bcast_S_S16x16x100001 (res_main_call2_v7 V0)) j) (at32 (broadcastInDim S16x16x100001 ![] bcast_S_S16x16x100001 (res_main_call2_call0_v1 V0)) j) 4 (rnd 24 8 (at32 (res_main_call2_call0_v122 V0) j, at32 (res_main_call2_call0_v128 V0) j)) := rfl
  rw [h4, h3, h2, h1, bkey1, bkey2, mixB]
  rfl

/-- The random words, before the last key. -/
theorem group_5 (j : S16x16x100001.Idx) :
    (at32 (res_main_call2_call0_v163 V0) j, at32 (xori (res_main_call2_call0_v163 V0) (ori (Host.shli (res_main_call2_call0_v162 V0) (broadcastInDim S16x16x100001 ![] bcast_S_S16x16x100001 (constantI S_ 32 6#32)))
        (Host.shrui (res_main_call2_call0_v162 V0) (broadcastInDim S16x16x100001 ![] bcast_S_S16x16x100001 (constantI S_ 32 26#32))))) j)
      = mixA ((at32 (res_main_call2_call0_v129 V0) j + at32 (broadcastInDim S16x16x100001 ![] bcast_S_S16x16x100001 (res_main_call2_v7 V0)) j, at32 (res_main_call2_call0_v141 V0) j)) := by
  have h1 : (at32 (res_main_call2_call0_v142 V0) j, at32 (res_main_call2_call0_v148 V0) j) = rnd 13 19 (at32 (res_main_call2_call0_v129 V0) j + at32 (broadcastInDim S16x16x100001 ![] bcast_S_S16x16x100001 (res_main_call2_v7 V0)) j, at32 (res_main_call2_call0_v141 V0) j) := rfl
  have h2 : (at32 (res_main_call2_call0_v149 V0) j, at32 (res_main_call2_call0_v155 V0) j) = rnd 15 17 (at32 (res_main_call2_call0_v142 V0) j, at32 (res_main_call2_call0_v148 V0) j) := rfl
  have h3 : (at32 (res_main_call2_call0_v156 V0) j, at32 (res_main_call2_call0_v162 V0) j) = rnd 26 6 (at32 (res_main_call2_call0_v149 V0) j, at32 (res_main_call2_call0_v155 V0) j) := rfl
  have h4 : (at32 (res_main_call2_call0_v163 V0) j, at32 (xori (res_main_call2_call0_v163 V0) (ori (Host.shli (res_main_call2_call0_v162 V0) (broadcastInDim S16x16x100001 ![] bcast_S_S16x16x100001 (constantI S_ 32 6#32)))
        (Host.shrui (res_main_call2_call0_v162 V0) (broadcastInDim S16x16x100001 ![] bcast_S_S16x16x100001 (constantI S_ 32 26#32))))) j) = rnd 6 26 (at32 (res_main_call2_call0_v156 V0) j, at32 (res_main_call2_call0_v162 V0) j) := rfl
  rw [h4, h3, h2, h1, mixA]

/-- The counter of an element. -/
theorem start_eq (j : S16x16x100001.Idx) :
    start V0 j = (0, cnt ((j 0).val * 16 + (j 1).val) (j 2).val + 1) := by
  have h0 : (j 0).val < 16 := (j 0).isLt
  have h1 : (j 1).val < 16 := (j 1).isLt
  have h2 : (j 2).val < 100001 := (j 2).isLt
  have e : pos V0 j = 1600016#64 * BitVec.ofNat 64 (j 0).val + 100001#64 * BitVec.ofNat 64 (j 1).val
      + 1#64 * BitVec.ofNat 64 (j 2).val := rfl
  have e' : pos V0 j = BitVec.ofNat 64 (((j 0).val * 16 + (j 1).val) * 100001 + (j 2).val) := by
    rw [e, show ((j 0).val * 16 + (j 1).val) * 100001 + (j 2).val = 1600016 * (j 0).val + 100001 * (j 1).val + 1 * (j 2).val by omega]
    simp only [BitVec.ofNat_add, BitVec.ofNat_mul]
  have hn : ((j 0).val * 16 + (j 1).val) * 100001 + (j 2).val < 25600256 := by omega
  have e5 : at32 (res_main_call2_call0_v5 V0) j = BitVec.setWidth 32 (pos V0 j)
      + at32 (broadcastInDim S16x16x100001 ![] bcast_S_S16x16x100001 (res_main_call2_v7 V0)) j := rfl
  have es : IntOp.shrui .host (pos V0 j) 32#64 = pos V0 j >>> 32#64 := if_pos (by decide)
  rw [start, e5, bkey1, es, e', cnt]
  generalize ((j 0).val * 16 + (j 1).val) * 100001 + (j 2).val = n at hn
  refine Prod.ext ?_ ?_
  · apply BitVec.eq_of_toNat_eq
    simp only [BitVec.toNat_add, BitVec.toNat_setWidth, BitVec.toNat_ushiftRight, BitVec.ushiftRight_eq', BitVec.toNat_ofNat]
    rw [Nat.mod_eq_of_lt (a := n) (by omega), Nat.shiftRight_eq_div_pow, Nat.div_eq_of_lt (by norm_num; omega)]
    rfl
  · rw [BitVec.setWidth_ofNat_of_le (by decide)]
    rfl

/-- The random words of the array. -/
def words : IVec S16x16x100001 32 :=
  xori (addi (res_main_call2_call0_v163 V0) (broadcastInDim S16x16x100001 ![] bcast_S_S16x16x100001 (res_main_call2_call0_v1 V0))) (addi (addi (xori (res_main_call2_call0_v163 V0) (ori (Host.shli (res_main_call2_call0_v162 V0) (broadcastInDim S16x16x100001 ![] bcast_S_S16x16x100001 (constantI S_ 32 6#32))) (Host.shrui (res_main_call2_call0_v162 V0) (broadcastInDim S16x16x100001 ![] bcast_S_S16x16x100001 (constantI S_ 32 26#32))))) (broadcastInDim S16x16x100001 ![] bcast_S_S16x16x100001 (res_main_call2_v5 V0))) (broadcastInDim S16x16x100001 ![] bcast_S_S16x16x100001 (constantI S_ 32 5#32)))

/-- A random word of the array. -/
theorem words_apply (j : S16x16x100001.Idx) :
    at32 (words V0) j = word (cnt ((j 0).val * 16 + (j 1).val) (j 2).val) := by
  have e : at32 (words V0) j = (at32 (res_main_call2_call0_v163 V0) j + at32 (broadcastInDim S16x16x100001 ![] bcast_S_S16x16x100001 (res_main_call2_call0_v1 V0)) j)
      ^^^ (at32 (xori (res_main_call2_call0_v163 V0) (ori (Host.shli (res_main_call2_call0_v162 V0) (broadcastInDim S16x16x100001 ![] bcast_S_S16x16x100001 (constantI S_ 32 6#32)))
        (Host.shrui (res_main_call2_call0_v162 V0) (broadcastInDim S16x16x100001 ![] bcast_S_S16x16x100001 (constantI S_ 32 26#32))))) j + at32 (broadcastInDim S16x16x100001 ![] bcast_S_S16x16x100001 (res_main_call2_v5 V0)) j + 5#32) := rfl
  have g := group_5 V0 j
  rw [group_4, group_3, group_2, group_1, start_eq] at g
  obtain ⟨ga, gb⟩ := Prod.ext_iff.mp g
  dsimp only at ga gb
  rw [e, bkey2, bkey0, ga, gb]
  rfl

end Cert.ReferenceIdeal.Value

end

end
-- ==== Proof.RefValue.lean ====
/- The two results of the reference, at an index. -/
module

public import proofs.«01_k».proof.Proof.RefDraw
public import proofs.«01_k».proof.Proof.Step
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.ShloMosaic.StableHlo
open Cert.Words Cert.Noise Cert.Argmax Cert.Step

variable (V0 : Valuation τ sig (Elt Ideal))

/-- The scores' logarithms. -/
abbrev inX : FVec Ideal S16x16x100001 .f32 := V0 (Proc.devRef .tc main_arg0)
/-- The tokens. -/
abbrev inT : IVec S16x16 32 := V0 (Proc.devRef .tc main_arg1)
/-- The times. -/
abbrev inS : FVec Ideal S16 .f32 := V0 (Proc.devRef .tc main_arg2)
/-- The step size. -/
abbrev inD : FVec Ideal S1 .f32 := V0 (Proc.devRef .tc main_arg3)

/-- The tokens, the mask renamed. -/
theorem v3_apply (b l : Fin 16) : (res_main_v3 V0 : IVec S16x16 32) (ix2 b l) = tok (inT V0 (ix2 b l)) := by
  pointwise [res_main_v3, inT]
  exact select_eq _ _ _ _

/-- The one-hot rows. -/
theorem v11_apply (b l : Fin 16) (v : Fin 100001) :
    (res_main_v11 V0 : FVec Ideal S16x16x100001 .f32) (ix3 b l v) = hot (tok (inT V0 (ix2 b l))) v := by
  pointwise [res_main_v11]
  rw [v3_apply]
  exact uitofp_eq _ _

/-- The rates before the token's own entry is set. -/
theorem v22_apply (b l : Fin 16) (v : Fin 100001) :
    (res_main_v22 V0 : FVec Ideal S16x16x100001 .f32) (ix3 b l v)
      = flow (tok (inT V0 (ix2 b l))) (fun v => Ideal.exp (inX V0 (ix3 b l v))) v := by
  pointwise [res_main_v22]
  rw [v11_apply, v3_apply, uitofp_eq]
  rfl

/-- The rates. -/
def rates : FVec Ideal S16x16x100001 .f32 :=
  mulf (broadcastInDim S16x16x100001 ![0, 1, 2] bcast_S16x1x1_S16x16x100001_0_1_2 (broadcastInDim S16x1x1 ![0] bcast_S16_S16x1x1_0 (Host.divf (broadcastInDim S16 ![] bcast_S_S16 (constant S_ .f32 0x3F7FBE77#32)) (subf (broadcastInDim S16 ![] bcast_S_S16 (constant S_ .f32 0x3F800000#32)) (mulf (broadcastInDim S16 ![] bcast_S_S16 (constant S_ .f32 0x3F7FBE77#32)) (V0 (Proc.devRef .tc main_arg2))))))) (subf (res_main_v22 V0) (mulf (res_main_v11 V0) (broadcastInDim S16x16x100001 ![0, 1, 2] bcast_S16x16x1_S16x16x100001_0_1_2 (broadcastInDim S16x16x1 ![0, 1] bcast_S16x16_S16x16x1_0_1 (Host.reduceAdd (res_main_v22 V0) (constant S_ .f32 0x00000000#32) reducesTo_S16x16x100001_S16x16_d2 h_S_)))))

/-- The rates of a row. -/
theorem rates_apply (b l : Fin 16) (v : Fin 100001) :
    rates V0 (ix3 b l v)
      = rateR (tok (inT V0 (ix2 b l))) (level (inS V0 (ix1 b))) (fun v => Ideal.exp (inX V0 (ix3 b l v))) v := by
  pointwise [rates]
  simp only [v22_apply, v11_apply]
  rfl

/-- The draws of an array of words. -/
def drawsOf (W : IVec S16x16x100001 32) : FVec Ideal S16x16x100001 .f32 :=
  subf (bitcastToFloat (F := Ideal) .f32 (ori (Host.shrui W (broadcastInDim S16x16x100001 ![] bcast_S_S16x16x100001 (constantI S_ 32 9#32))) (broadcastInDim S16x16x100001 ![] bcast_S_S16x16x100001 (constantI S_ 32 1065353216#32)))) (broadcastInDim S16x16x100001 ![] bcast_S_S16x16x100001 (constant S_ .f32 0x3F800000#32))

/-- The weights, of the one-hot rows, the rates, the step size, a zero and the draws. -/
def weightsOf (H R D : FVec Ideal S16x16x100001 .f32) (st : FVec Ideal S1 .f32) (Z : FVec Ideal S1x1x1 .f32) :
    FVec Ideal S16x16x100001 .f32 :=
  Host.divf (addf H (mulf (broadcastInDim S16x16x100001 ![0, 1, 2] bcast_S1x1x1_S16x16x100001_0_1_2 (broadcastInDim S1x1x1 ![2] bcast_S1_S1x1x1_2 st)) R)) (subf (broadcastInDim S16x16x100001 ![] bcast_S_S16x16x100001 (constant S_ .f32 0x358637BD#32)) (Host.log (addf (broadcastInDim S16x16x100001 ![] bcast_S_S16x16x100001 (constant S_ .f32 0x358637BD#32)) (mulf (broadcastInDim S16x16x100001 ![] bcast_S_S16x16x100001 (constant S_ .f32 0x3F7FFFEF#32)) (maximumf (broadcastInDim S16x16x100001 ![0, 1, 2] bcast_S1x1x1_S16x16x100001_0_1_2 Z) (addf (mulf D (broadcastInDim S16x16x100001 ![0, 1, 2] bcast_S1x1x1_S16x16x100001_0_1_2 (subf (broadcastInDim S1x1x1 ![] bcast_S_S1x1x1 (id (constant S_ .f32 0x3F800000#32))) Z))) (broadcastInDim S16x16x100001 ![0, 1, 2] bcast_S1x1x1_S16x16x100001_0_1_2 Z)))))))

/-- The weights of the reference. -/
theorem v50_eq : res_main_v50 V0
    = weightsOf (res_main_v11 V0) (rates V0) (drawsOf (words V0)) (inD V0) (res_main_call2_v2 V0) := by
  unfold weightsOf drawsOf words rates res_main_v50
  rfl

/-- A draw. -/
theorem drawsOf_apply (W : IVec S16x16x100001 32) (b l : Fin 16) (v : Fin 100001) :
    drawsOf W (ix3 b l v)
      = Ideal.ofBits .f32 ((at32 W (ix3 b l v) >>> 9#32) ||| 1065353216#32) - Ideal.ofBits .f32 0x3F800000#32 := by
  have s (x : BitVec 32) : IntOp.shrui .host x 9#32 = x >>> 9#32 := if_pos (by decide)
  rw [← s]
  rfl

/-- A weight. -/
theorem weightsOf_apply (H R D : FVec Ideal S16x16x100001 .f32) (st : FVec Ideal S1 .f32) (Z : FVec Ideal S1x1x1 .f32)
    (b l : Fin 16) (v : Fin 100001) :
    weightsOf H R D st Z (ix3 b l v)
      = Ideal.div (H (ix3 b l v) + st (ix1 0) * R (ix3 b l v))
          (Ideal.ofBits .f32 0x358637BD#32 - Ideal.log (Ideal.ofBits .f32 0x358637BD#32 + Ideal.ofBits .f32 0x3F7FFFEF#32
            * max (Z (ix3 0 0 0)) (D (ix3 b l v) * (1 - Z (ix3 0 0 0)) + Z (ix3 0 0 0)))) := by
  have o : @Eq EReal (id (constant (F := Ideal) S_ .f32 0x3F800000#32) ix0) 1 := ofBits_one.trans EReal.coe_one
  pointwise [weightsOf]
  rw [o]

/-- The weights of a row. -/
theorem weights_apply (b l : Fin 16) (v : Fin 100001) :
    (res_main_v50 V0 : FVec Ideal S16x16x100001 .f32) (ix3 b l v)
      = weightR (b.val * 16 + l.val) (tok (inT V0 (ix2 b l))) (level (inS V0 (ix1 b))) (inD V0 (ix1 0))
          (fun v => Ideal.exp (inX V0 (ix3 b l v))) v := by
  have z : @Eq EReal (res_main_call2_v2 V0 (ix3 0 0 0)) 0 := Ideal.ofBits_zero_f32
  rw [v50_eq, weightsOf_apply, v11_apply, rates_apply, drawsOf_apply, words_apply, z, sub_zero, mul_one, add_zero, max_comm]
  rfl

/-- The pairs of a row: each entry with its position. -/
theorem fiber_mem (x : FVec Ideal S16x16x100001 .f32) (b l : Fin 16) (p : EReal × BitVec 32) :
    p ∈ Host.argReduceFiber x (iotaInDim S16x16x100001 32 2) reducesTo_S16x16x100001_S16x16_d2 (ix2 b l)
      ↔ ∃ k : Fin 100001, p = (x (ix3 b l k), BitVec.ofNat 32 k.val) := by
  rw [Host.argReduceFiber, List.mem_map]
  constructor
  · rintro ⟨n, hn, rfl⟩
    have hn := of_decide_eq_true (List.mem_filter.mp hn).2
    obtain ⟨k, hk⟩ := (Shape.ReducesTo.fiber_r3_a2 (n0 := 16) (n1 := 16) (n2 := 100001) reducesTo_S16x16x100001_S16x16_d2 (ix2 b l) _).mp hn
    refine ⟨k, ?_⟩
    rw [← hk]
    rfl
  · rintro ⟨k, rfl⟩
    refine ⟨S16x16x100001.rowMajor (ix3 b l k), List.mem_filter.mpr ⟨List.mem_finRange _, ?_⟩, ?_⟩
    · rw [Equiv.symm_apply_apply]
      exact decide_eq_true ((Shape.ReducesTo.fiber_r3_a2 (n0 := 16) (n1 := 16) (n2 := 100001) reducesTo_S16x16x100001_S16x16_d2 (ix2 b l) _).mpr ⟨k, rfl⟩)
    · rw [Equiv.symm_apply_apply]
      rfl

/-- The search of the reference, spelled out. -/
theorem argmaxSnd_def : argmaxSnd (F := Ideal) = fun (x : FVec Ideal S16x16x100001 .f32) (y : IVec S16x16x100001 32) (u : FVec Ideal S_ .f32) (v : IVec S_ 32) (j : S16x16.Idx) =>
    (Host.argReduce (reducer_argmax_f32_i32 (F := Ideal)) x y u v reducesTo_S16x16x100001_S16x16_d2 h_S_ j).2 := rfl

/-- The search of the reference, as a search over the pairs of a row. -/
theorem argmaxSnd_eq (x : FVec Ideal S16x16x100001 .f32) (y : IVec S16x16x100001 32) (u : FVec Ideal S_ .f32) (w : IVec S_ 32) :
    argmaxSnd (F := Ideal) x y u w = fun j =>
      ((Host.argReduceFiber x y reducesTo_S16x16x100001_S16x16_d2 j).foldl (reducer_argmax_f32_i32 (F := Ideal))
          (u (Shape.Idx.first h_S_), w (Shape.Idx.first h_S_))).2 := by
  rw [argmaxSnd_def]
  funext j
  exact congrArg Prod.snd ((congrFun (Ideal.argReduce_eq_reduce2 (reducer_argmax_f32_i32 (F := Ideal)) x y u w reducesTo_S16x16x100001_S16x16_d2 h_S_) j).trans (Host.reduce2_eq_foldl_fiber _ _ _ _ _ _ _ _))

/-- The search of the reference names the first largest entry of a row. -/
theorem argmaxSnd_pick (x : FVec Ideal S16x16x100001 .f32) (y : IVec S16x16x100001 32) (u : FVec Ideal S_ .f32) (w : IVec S_ 32)
    (hy : y = iotaInDim S16x16x100001 32 2) (hu : u = constant S_ .f32 0xFF800000#32) (hw : w = constantI S_ 32 0#32)
    (q : Fin 100001 → EReal) (b l : Fin 16) (hq : ∀ k, x (ix3 b l k) = q k) (r : IVec S16x16 32) (hr : r = argmaxSnd (F := Ideal) x y u w) :
    IsPick q (r (ix2 b l)) := by
  have hb : Ideal.ofBits .f32 0xFF800000#32 = (⊥ : EReal) := by
    show Ideal.ieee 8 23 (0xFF800000#32 : BitVec 32) = ⊥
    unfold Ideal.ieee
    rw [if_pos (by decide), if_pos (by decide), if_pos (by decide)]
  have hu' : u (Shape.Idx.first h_S_) = (⊥ : EReal) := by rw [hu, ← hb]; rfl
  have hw' : w (Shape.Idx.first h_S_) = 0#32 := by rw [hw]; rfl
  have hl := fiber_mem x b l
  rw [← hy] at hl
  rw [hr, argmaxSnd_eq]
  beta_reduce
  rw [hu', hw']
  generalize Host.argReduceFiber x y reducesTo_S16x16x100001_S16x16_d2 (ix2 b l) = L at hl ⊢
  obtain rfl : q = fun k => x (ix3 b l k) := (funext hq).symm
  exact isPick_foldl _ L hl

/-- The token drawn of a row names the first largest of its weights. -/
theorem v51_pick (b l : Fin 16) :
    IsPick (weightR (b.val * 16 + l.val) (tok (inT V0 (ix2 b l))) (level (inS V0 (ix1 b))) (inD V0 (ix1 0))
      (fun v => Ideal.exp (inX V0 (ix3 b l v)))) ((res_main_v51 V0 : IVec S16x16 32) (ix2 b l)) :=
  argmaxSnd_pick (res_main_v50 V0) (res_main_call3_v0 V0) (res_main_call3_cst V0) (res_main_call3_c V0) (by rw [res_main_call3_v0])
    (by rw [res_main_call3_cst]) (by rw [res_main_call3_c]) _ b l (weights_apply V0 b l) _ (by rw [res_main_v51])

/-- The tokens of the result. -/
def toks : IVec S16x16 32 :=
  select (cmpi .eq (res_main_v51 V0) (broadcastInDim S16x16 ![] bcast_S_S16x16 (constantI S_ 32 100000#32))) (broadcastInDim S16x16 ![] bcast_S_S16x16 (id (constantI S_ 32 4294967295#32))) (res_main_v51 V0)

/-- A token of the result. -/
theorem toks_apply (b l : Fin 16) : toks V0 (ix2 b l) = untok ((res_main_v51 V0 : IVec S16x16 32) (ix2 b l)) := by
  unfold toks
  generalize (res_main_v51 V0 : IVec S16x16 32) = w
  exact select_eq _ _ _ _

end Cert.ReferenceIdeal.Value

end

end
-- ==== Proof.Equation.lean ====
/- The kernel's two results are the reference's. -/
module

public import proofs.«01_k».proof.Proof.KerOut
public import proofs.«01_k».proof.Proof.RefValue
public import proofs.«01_k».proof.Proof.Gen.Pre_ids_in_range

@[expose] public section

set_option maxRecDepth 16384

noncomputable section

namespace Cert.Equation

open Idealize.ShloMosaic Idealize.ShloMosaic.TcCoe
open Cert.Step Cert.Argmax
open Cert.KernelIdeal.Run (row arrT arrS arrX arrT_apply arrS_apply arrX_apply rowRate rowSc RowTok outRates outToks outRates_apply outToks_apply)

/-- The two bounds of a token. -/
theorem bounds (x : BitVec 32)
    (h : IntOp.andi (IntOp.cmpi .sge x 4294967295#32) (IntOp.cmpi .sle x 100000#32) = 1#1) :
    -1 ≤ x.toInt ∧ x.toInt ≤ 100000 := by
  have h1 : IntOp.cmpi .sge x 4294967295#32 = BitVec.ofBool ((4294967295#32).sle x) := rfl
  have h2 : IntOp.cmpi .sle x 100000#32 = BitVec.ofBool (x.sle 100000#32) := rfl
  rw [h1, h2] at h
  have e : (4294967295#32).sle x = true ∧ x.sle 100000#32 = true := by
    generalize (4294967295#32).sle x = p at h
    generalize x.sle 100000#32 = q at h
    cases p <;> cases q <;> first | exact ⟨rfl, rfl⟩ | exact absurd h (by decide)
  exact ⟨BitVec.sle_iff_toInt_le.mp e.1, BitVec.sle_iff_toInt_le.mp e.2⟩

/-- Renaming the mask leaves a token in the vocabulary. -/
theorem tok_bounds (x : BitVec 32) (h : -1 ≤ x.toInt ∧ x.toInt ≤ 100000) :
    (tok x).toInt ≤ 100000 ∧ (tok x).toNat < 100001 := by
  unfold tok
  by_cases g : x = 4294967295#32
  · rw [if_pos g]; exact ⟨by decide, by decide⟩
  · rw [if_neg g]
    refine ⟨h.2, ?_⟩
    have k : x.toNat ≠ 4294967295 := fun e => g (BitVec.eq_of_toNat_eq e)
    have hx := x.isLt
    obtain ⟨h1, h2⟩ := h
    rw [BitVec.toInt_eq_toNat_cond] at h1 h2
    split at h1 <;> omega

/-- A row among all rows is a row of a batch. -/
theorem row_onto (R : Fin 256) : ∃ b l : Fin 16, R = row b l :=
  ⟨⟨R.val / 16, by omega⟩, ⟨R.val % 16, by omega⟩, Fin.ext (by show R.val = R.val / 16 * 16 + R.val % 16; omega)⟩

/-- A row's token, from a kernel's row and a reference's. -/
theorem row_eq (r : ℕ) (x : BitVec 32) (s st : EReal) (sc : Fin 100001 → EReal) (hx : x.toNat < 100001) (w w' : BitVec 32)
    (hk : (x = 100000#32 → IsPick (weight r x s st sc) w) ∧ (x ≠ 100000#32 → w = x)) (hr : IsPick (weightR r x s st sc) w') :
    w = w' := by
  by_cases h : x = 100000#32
  · subst h
    rw [show weightR r 100000#32 s st sc = weight r 100000#32 s st sc from funext fun v => weightR_masked r s st sc v] at hr
    exact (hk.1 rfl).unique hr
  · exact (hk.2 h).trans ((weightR_unmasked r x h hx s st sc).unique hr)

section
open Cert.KernelIdeal (nD τ sig)

variable (m : (ℓ : Loc nD τ sig) → Buf (Elt Ideal) ℓ) (c : Dev nD)
variable (V0 : Valuation Cert.ReferenceIdeal.τ Cert.ReferenceIdeal.sig (Elt Ideal))
variable (hX : Cert.ReferenceIdeal.Value.inX V0 = Cert.KernelIdeal.Run.inX m c)
variable (hT : Cert.ReferenceIdeal.Value.inT V0 = Cert.KernelIdeal.Run.inT m c)
variable (hS : Cert.ReferenceIdeal.Value.inS V0 = Cert.KernelIdeal.Run.inS m c)
variable (hD : Cert.ReferenceIdeal.Value.inD V0 = Cert.KernelIdeal.Run.inD m c)
variable (hr : ∀ b l : Fin 16, -1 ≤ (Cert.KernelIdeal.Run.inT m c (ix2 b l)).toInt ∧ (Cert.KernelIdeal.Run.inT m c (ix2 b l)).toInt ≤ 100000)

include hr in
/-- The kernel's renamed tokens are at most the last entry. -/
theorem arrT_le (R : Fin 256) : (arrT m c (ix2 R 0)).toInt ≤ 100000 := by
  obtain ⟨b, l, rfl⟩ := row_onto R
  rw [arrT_apply]
  exact (tok_bounds _ (hr b l)).1

/-- The scores of a row. -/
theorem rowSc_eq (b l : Fin 16) : rowSc m c (row b l) = fun v => Ideal.exp (Cert.KernelIdeal.Run.inX m c (ix3 b l v)) :=
  funext fun v => congrArg Ideal.exp (arrX_apply m c b l v)

include hX hT hS hr in
/-- The rates agree. -/
theorem rates_eq : Cert.ReferenceIdeal.Value.rates V0 = outRates m c := by
  funext i
  obtain ⟨b, l, v, rfl⟩ : ∃ (b l : Fin 16) (v : Fin 100001), i = ix3 b l v := ⟨i 0, i 1, i 2, by funext a; fin_cases a <;> rfl⟩
  rw [outRates_apply m c (arrT_le m c hr), Cert.ReferenceIdeal.Value.rates_apply, hX, hT, hS, rateR_eq]
  unfold rowRate
  rw [arrT_apply, arrS_apply, rowSc_eq]

include hX hT hS hD hr in
/-- The tokens agree. -/
theorem toks_eq : Cert.ReferenceIdeal.Value.toks V0 = outToks m c := by
  funext i
  obtain ⟨b, l, rfl⟩ : ∃ (b l : Fin 16), i = ix2 b l := ⟨i 0, i 1, by funext a; fin_cases a <;> rfl⟩
  obtain ⟨w, e, k⟩ := outToks_apply m c (arrT_le m c hr) b l
  rw [e, Cert.ReferenceIdeal.Value.toks_apply]
  unfold RowTok at k
  rw [arrT_apply, arrS_apply, rowSc_eq] at k
  have p := Cert.ReferenceIdeal.Value.v51_pick V0 b l
  rw [hX, hT, hS, hD] at p
  exact congrArg untok (row_eq _ _ _ _ _ (tok_bounds _ (hr b l)).2 _ _ k p).symm

end

end Cert.Equation

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_ids_in_range
public import proofs.«01_k».proof.Proof.KerRun
public import proofs.«01_k».proof.Proof.DevRun
public import proofs.«01_k».proof.Proof.RefRun
public import proofs.«01_k».proof.Proof.Equation
public import Idealize.ShloMosaic.Adequacy
public import Idealize.ShloMosaic.Init

@[expose] public section

noncomputable section

namespace Cert.Proof

open Idealize.ShloMosaic Idealize.SL.Sem

/-- The reference runs to the end with its arguments unchanged; it declares no semaphore. -/
theorem frame_ri : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- Under the precondition every token is an entry of the vocabulary, or the mask's -1. -/
theorem token_bounds (m : (ℓ : Loc Cert.KernelIdeal.nD Cert.KernelIdeal.τ Cert.KernelIdeal.sig) → Buf (Elt Ideal) ℓ)
    (h : Cert.Pre_KernelIdeal_ids_in_range (hPre_ids_in_range := Cert.Pre_ids_in_range.Gen.facts) m) (c : Dev Cert.KernelIdeal.nD) (b l : Fin 16) :
    -1 ≤ (Cert.KernelIdeal.Run.inT m c (ix2 b l)).toInt ∧ (Cert.KernelIdeal.Run.inT m c (ix2 b l)).toInt ≤ 100000 :=
  Cert.Equation.bounds _ (congrFun (h c) (ix2 b l))

/-- From arguments that agree, the kernel and the reference end with equal results. -/
theorem equal : Cert.algebraic_KernelIdeal_ReferenceIdeal_pre_ids_in_range
    (hKernelIdeal := Cert.KernelIdeal.Gen.facts) (hReferenceIdeal := Cert.ReferenceIdeal.Gen.facts)
    (hPre_ids_in_range := Cert.Pre_ids_in_range.Gen.facts) := fun m g m' g' hpre hargs => by
  refine ⟨fun c => Cert.KernelIdeal.Run.outToks m c, fun c => Cert.KernelIdeal.Run.outRates m c,
    Cert.KernelIdeal.Run.results m g, ?_⟩
  refine (θ_run Cert.ReferenceIdeal.defs _ _).mono (fun r h c => ?_) (Cert.ReferenceIdeal.Value.run (F := Ideal) m' g')
  exact ⟨(h c).1.trans (Cert.Equation.toks_eq m c (StableHlo.launchContents m' c) (hargs c).1 (hargs c).2.1 (hargs c).2.2.1 (hargs c).2.2.2
      (token_bounds m hpre c)),
    (h c).2.1.trans (Cert.Equation.rates_eq m c (StableHlo.launchContents m' c) (hargs c).1 (hargs c).2.1 (hargs c).2.2.1
      (token_bounds m hpre c)), (h c).2.2⟩

/-- The frames of the three programs, the idealization, and the equation. -/
theorem claim : Cert.Claim :=
  ⟨Cert.Kernel.Gen.facts, Cert.KernelIdeal.Gen.facts, Cert.ReferenceIdeal.Gen.facts, Cert.Pre_ids_in_range.Gen.facts,
    fun m ρ _ => Cert.Kernel.Run.frame m ρ,
    fun m ρ _ => Cert.KernelIdeal.Run.frame m ρ,
    fun m ρ _ => Cert.KernelIdeal.Run.frame m ρ,
    frame_ri,
    fun m ρ _ => frame_ri m ρ trivial,
    trivial,
    equal⟩

end Cert.Proof

end
